-- ==== Defs.lean ====
def Pre_Rows (m : (ℓ : Loc Cert.Rows.nD Cert.Rows.τ Cert.Rows.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4)
      ∧ r.2.mem ((c.tc : Thread Cert.Rows.nD Cert.Rows.τ).loc Cert.Rows.main_arg5) = m ((c.tc : Thread Cert.Rows.nD Cert.Rows.τ).loc Cert.Rows.main_arg5)
      ∧ r.2.mem ((c.tc : Thread Cert.Rows.nD Cert.Rows.τ).loc Cert.Rows.main_arg6) = m ((c.tc : Thread Cert.Rows.nD Cert.Rows.τ).loc Cert.Rows.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9)
      ∧ r.2.mem ((c.tc : Thread Cert.MergeSample.nD Cert.MergeSample.τ).loc Cert.MergeSample.main_arg10) = m ((c.tc : Thread Cert.MergeSample.nD Cert.MergeSample.τ).loc Cert.MergeSample.main_arg10)
      ∧ r.2.mem ((c.tc : Thread Cert.MergeSample.nD Cert.MergeSample.τ).loc Cert.MergeSample.main_arg11) = m ((c.tc : Thread Cert.MergeSample.nD Cert.MergeSample.τ).loc Cert.MergeSample.main_arg11)
      ∧ r.2.mem ((c.tc : Thread Cert.MergeSample.nD Cert.MergeSample.τ).loc Cert.MergeSample.main_arg12) = m ((c.tc : Thread Cert.MergeSample.nD Cert.MergeSample.τ).loc Cert.MergeSample.main_arg12)
      ∧ r.2.mem ((c.tc : Thread Cert.MergeSample.nD Cert.MergeSample.τ).loc Cert.MergeSample.main_arg13) = m ((c.tc : Thread Cert.MergeSample.nD Cert.MergeSample.τ).loc Cert.MergeSample.main_arg13)
      ∧ r.2.mem ((c.tc : Thread Cert.MergeSample.nD Cert.MergeSample.τ).loc Cert.MergeSample.main_arg14) = m ((c.tc : Thread Cert.MergeSample.nD Cert.MergeSample.τ).loc Cert.MergeSample.main_arg14))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
      ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11)
      ∧ r.2.mem ((c.tc : Thread Cert.MergeSampleIdeal.nD Cert.MergeSampleIdeal.τ).loc Cert.MergeSampleIdeal.main_arg12) = m ((c.tc : Thread Cert.MergeSampleIdeal.nD Cert.MergeSampleIdeal.τ).loc Cert.MergeSampleIdeal.main_arg12)
      ∧ r.2.mem ((c.tc : Thread Cert.MergeSampleIdeal.nD Cert.MergeSampleIdeal.τ).loc Cert.MergeSampleIdeal.main_arg13) = m ((c.tc : Thread Cert.MergeSampleIdeal.nD Cert.MergeSampleIdeal.τ).loc Cert.MergeSampleIdeal.main_arg13)
      ∧ r.2.mem ((c.tc : Thread Cert.MergeSampleIdeal.nD Cert.MergeSampleIdeal.τ).loc Cert.MergeSampleIdeal.main_arg14) = m ((c.tc : Thread Cert.MergeSampleIdeal.nD Cert.MergeSampleIdeal.τ).loc Cert.MergeSampleIdeal.main_arg14))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8)
      ∧ r.2.mem ((c.tc : Thread Cert.MergeSampleRefIdeal.nD Cert.MergeSampleRefIdeal.τ).loc Cert.MergeSampleRefIdeal.main_arg9) = m ((c.tc : Thread Cert.MergeSampleRefIdeal.nD Cert.MergeSampleRefIdeal.τ).loc Cert.MergeSampleRefIdeal.main_arg9)
      ∧ r.2.mem ((c.tc : Thread Cert.MergeSampleRefIdeal.nD Cert.MergeSampleRefIdeal.τ).loc Cert.MergeSampleRefIdeal.main_arg10) = m ((c.tc : Thread Cert.MergeSampleRefIdeal.nD Cert.MergeSampleRefIdeal.τ).loc Cert.MergeSampleRefIdeal.main_arg10)
      ∧ r.2.mem ((c.tc : Thread Cert.MergeSampleRefIdeal.nD Cert.MergeSampleRefIdeal.τ).loc Cert.MergeSampleRefIdeal.main_arg11) = m ((c.tc : Thread Cert.MergeSampleRefIdeal.nD Cert.MergeSampleRefIdeal.τ).loc Cert.MergeSampleRefIdeal.main_arg11)
      ∧ r.2.mem ((c.tc : Thread Cert.MergeSampleRefIdeal.nD Cert.MergeSampleRefIdeal.τ).loc Cert.MergeSampleRefIdeal.main_arg12) = m ((c.tc : Thread Cert.MergeSampleRefIdeal.nD Cert.MergeSampleRefIdeal.τ).loc Cert.MergeSampleRefIdeal.main_arg12)
      ∧ r.2.mem ((c.tc : Thread Cert.MergeSampleRefIdeal.nD Cert.MergeSampleRefIdeal.τ).loc Cert.MergeSampleRefIdeal.main_arg13) = m ((c.tc : Thread Cert.MergeSampleRefIdeal.nD Cert.MergeSampleRefIdeal.τ).loc Cert.MergeSampleRefIdeal.main_arg13)
      ∧ r.2.mem ((c.tc : Thread Cert.MergeSampleRefIdeal.nD Cert.MergeSampleRefIdeal.τ).loc Cert.MergeSampleRefIdeal.main_arg14) = m ((c.tc : Thread Cert.MergeSampleRefIdeal.nD Cert.MergeSampleRefIdeal.τ).loc Cert.MergeSampleRefIdeal.main_arg14))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9)
      ∧ r.2.mem ((c.tc : Thread Cert.PromptRefIdeal.nD Cert.PromptRefIdeal.τ).loc Cert.PromptRefIdeal.main_arg10) = m ((c.tc : Thread Cert.PromptRefIdeal.nD Cert.PromptRefIdeal.τ).loc Cert.PromptRefIdeal.main_arg10))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v20_0)) (v1 : (c : Dev Cert.MixIdeal.nD) → Buf (Elt Ideal) ((c.tc : Thread Cert.MixIdeal.nD Cert.MixIdeal.τ).loc Cert.MixIdeal.main_v20_1)) (v2 : (c : Dev Cert.MixIdeal.nD) → Buf (Elt Ideal) ((c.tc : Thread Cert.MixIdeal.nD Cert.MixIdeal.τ).loc Cert.MixIdeal.main_v20_2)) (v3 : (c : Dev Cert.MixIdeal.nD) → Buf (Elt Ideal) ((c.tc : Thread Cert.MixIdeal.nD Cert.MixIdeal.τ).loc Cert.MixIdeal.main_v20_3)) (v4 : (c : Dev Cert.MixIdeal.nD) → Buf (Elt Ideal) ((c.tc : Thread Cert.MixIdeal.nD Cert.MixIdeal.τ).loc Cert.MixIdeal.main_v20_4)) (v5 : (c : Dev Cert.MixIdeal.nD) → Buf (Elt Ideal) ((c.tc : Thread Cert.MixIdeal.nD Cert.MixIdeal.τ).loc Cert.MixIdeal.main_v20_5)) (v6 : (c : Dev Cert.MixIdeal.nD) → Buf (Elt Ideal) ((c.tc : Thread Cert.MixIdeal.nD Cert.MixIdeal.τ).loc Cert.MixIdeal.main_v20_6)) (v7 : (c : Dev Cert.MixIdeal.nD) → Buf (Elt Ideal) ((c.tc : Thread Cert.MixIdeal.nD Cert.MixIdeal.τ).loc Cert.MixIdeal.main_v20_7)) (v8 : (c : Dev Cert.MixIdeal.nD) → Buf (Elt Ideal) ((c.tc : Thread Cert.MixIdeal.nD Cert.MixIdeal.τ).loc Cert.MixIdeal.main_v20_8)) (v9 : (c : Dev Cert.MixIdeal.nD) → Buf (Elt Ideal) ((c.tc : Thread Cert.MixIdeal.nD Cert.MixIdeal.τ).loc Cert.MixIdeal.main_v20_11)) (v10 : (c : Dev Cert.MixIdeal.nD) → Buf (Elt Ideal) ((c.tc : Thread Cert.MixIdeal.nD Cert.MixIdeal.τ).loc Cert.MixIdeal.main_v20_9)) (v11 : (c : Dev Cert.MixIdeal.nD) → Buf (Elt Ideal) ((c.tc : Thread Cert.MixIdeal.nD Cert.MixIdeal.τ).loc Cert.MixIdeal.main_v20_10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v20_0) = v0 c
          ∧ r.2.mem ((c.tc : Thread Cert.MixIdeal.nD Cert.MixIdeal.τ).loc Cert.MixIdeal.main_v20_1) = v1 c
          ∧ r.2.mem ((c.tc : Thread Cert.MixIdeal.nD Cert.MixIdeal.τ).loc Cert.MixIdeal.main_v20_2) = v2 c
          ∧ r.2.mem ((c.tc : Thread Cert.MixIdeal.nD Cert.MixIdeal.τ).loc Cert.MixIdeal.main_v20_3) = v3 c
          ∧ r.2.mem ((c.tc : Thread Cert.MixIdeal.nD Cert.MixIdeal.τ).loc Cert.MixIdeal.main_v20_4) = v4 c
          ∧ r.2.mem ((c.tc : Thread Cert.MixIdeal.nD Cert.MixIdeal.τ).loc Cert.MixIdeal.main_v20_5) = v5 c
          ∧ r.2.mem ((c.tc : Thread Cert.MixIdeal.nD Cert.MixIdeal.τ).loc Cert.MixIdeal.main_v20_6) = v6 c
          ∧ r.2.mem ((c.tc : Thread Cert.MixIdeal.nD Cert.MixIdeal.τ).loc Cert.MixIdeal.main_v20_7) = v7 c
          ∧ r.2.mem ((c.tc : Thread Cert.MixIdeal.nD Cert.MixIdeal.τ).loc Cert.MixIdeal.main_v20_8) = v8 c
          ∧ r.2.mem ((c.tc : Thread Cert.MixIdeal.nD Cert.MixIdeal.τ).loc Cert.MixIdeal.main_v20_11) = v9 c
          ∧ r.2.mem ((c.tc : Thread Cert.MixIdeal.nD Cert.MixIdeal.τ).loc Cert.MixIdeal.main_v20_9) = v10 c
          ∧ r.2.mem ((c.tc : Thread Cert.MixIdeal.nD Cert.MixIdeal.τ).loc Cert.MixIdeal.main_v20_10) = v11 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_v3) = v1 c
          ∧ r.2.mem ((c.tc : Thread Cert.MixRefIdeal.nD Cert.MixRefIdeal.τ).loc Cert.MixRefIdeal.main_v5) = v2 c
          ∧ r.2.mem ((c.tc : Thread Cert.MixRefIdeal.nD Cert.MixRefIdeal.τ).loc Cert.MixRefIdeal.main_v65) = v3 c
          ∧ r.2.mem ((c.tc : Thread Cert.MixRefIdeal.nD Cert.MixRefIdeal.τ).loc Cert.MixRefIdeal.main_v66) = v4 c
          ∧ r.2.mem ((c.tc : Thread Cert.MixRefIdeal.nD Cert.MixRefIdeal.τ).loc Cert.MixRefIdeal.main_v67) = v5 c
          ∧ r.2.mem ((c.tc : Thread Cert.MixRefIdeal.nD Cert.MixRefIdeal.τ).loc Cert.MixRefIdeal.main_v8) = v6 c
          ∧ r.2.mem ((c.tc : Thread Cert.MixRefIdeal.nD Cert.MixRefIdeal.τ).loc Cert.MixRefIdeal.main_v9) = v7 c
          ∧ r.2.mem ((c.tc : Thread Cert.MixRefIdeal.nD Cert.MixRefIdeal.τ).loc Cert.MixRefIdeal.main_v71) = v8 c
          ∧ r.2.mem ((c.tc : Thread Cert.MixRefIdeal.nD Cert.MixRefIdeal.τ).loc Cert.MixRefIdeal.main_v72) = v9 c
          ∧ r.2.mem ((c.tc : Thread Cert.MixRefIdeal.nD Cert.MixRefIdeal.τ).loc Cert.MixRefIdeal.main_v74) = v10 c
          ∧ r.2.mem ((c.tc : Thread Cert.MixRefIdeal.nD Cert.MixRefIdeal.τ).loc Cert.MixRefIdeal.main_v75) = v11 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)) →
    ∃ (v0 : (c : Dev Cert.SampleIdeal.nD) → Buf (Elt Ideal) ((c.tc : Thread Cert.SampleIdeal.nD Cert.SampleIdeal.τ).loc Cert.SampleIdeal.main_v16)) (v1 : (c : Dev Cert.SampleIdeal.nD) → Buf (Elt Ideal) ((c.tc : Thread Cert.SampleIdeal.nD Cert.SampleIdeal.τ).loc Cert.SampleIdeal.main_v28_0)) (v2 : (c : Dev Cert.SampleIdeal.nD) → Buf (Elt Ideal) ((c.tc : Thread Cert.SampleIdeal.nD Cert.SampleIdeal.τ).loc Cert.SampleIdeal.main_v28_1)) (v3 : (c : Dev Cert.SampleIdeal.nD) → Buf (Elt Ideal) ((c.tc : Thread Cert.SampleIdeal.nD Cert.SampleIdeal.τ).loc Cert.SampleIdeal.main_v28_2)) (v4 : (c : Dev Cert.SampleIdeal.nD) → Buf (Elt Ideal) ((c.tc : Thread Cert.SampleIdeal.nD Cert.SampleIdeal.τ).loc Cert.SampleIdeal.main_v28_3)) (v5 : (c : Dev Cert.SampleIdeal.nD) → Buf (Elt Ideal) ((c.tc : Thread Cert.SampleIdeal.nD Cert.SampleIdeal.τ).loc Cert.SampleIdeal.main_v28_4)) (v6 : (c : Dev Cert.SampleIdeal.nD) → Buf (Elt Ideal) ((c.tc : Thread Cert.SampleIdeal.nD Cert.SampleIdeal.τ).loc Cert.SampleIdeal.main_v28_5)) (v7 : (c : Dev Cert.SampleIdeal.nD) → Buf (Elt Ideal) ((c.tc : Thread Cert.SampleIdeal.nD Cert.SampleIdeal.τ).loc Cert.SampleIdeal.main_v28_6)) (v8 : (c : Dev Cert.SampleIdeal.nD) → Buf (Elt Ideal) ((c.tc : Thread Cert.SampleIdeal.nD Cert.SampleIdeal.τ).loc Cert.SampleIdeal.main_v28_7)) (v9 : (c : Dev Cert.SampleIdeal.nD) → Buf (Elt Ideal) ((c.tc : Thread Cert.SampleIdeal.nD Cert.SampleIdeal.τ).loc Cert.SampleIdeal.main_v28_8)) (v10 : (c : Dev Cert.SampleIdeal.nD) → Buf (Elt Ideal) ((c.tc : Thread Cert.SampleIdeal.nD Cert.SampleIdeal.τ).loc Cert.SampleIdeal.main_v28_9)) (v11 : (c : Dev Cert.SampleIdeal.nD) → Buf (Elt Ideal) ((c.tc : Thread Cert.SampleIdeal.nD Cert.SampleIdeal.τ).loc Cert.SampleIdeal.main_v28_10)) (v12 : (c : Dev Cert.SampleIdeal.nD) → Buf (Elt Ideal) ((c.tc : Thread Cert.SampleIdeal.nD Cert.SampleIdeal.τ).loc Cert.SampleIdeal.main_v28_11)) (v13 : (c : Dev Cert.SampleIdeal.nD) → Buf (Elt Ideal) ((c.tc : Thread Cert.SampleIdeal.nD Cert.SampleIdeal.τ).loc Cert.SampleIdeal.main_v28_12)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v16) = v0 c
          ∧ r.2.mem ((c.tc : Thread Cert.SampleIdeal.nD Cert.SampleIdeal.τ).loc Cert.SampleIdeal.main_v28_0) = v1 c
          ∧ r.2.mem ((c.tc : Thread Cert.SampleIdeal.nD Cert.SampleIdeal.τ).loc Cert.SampleIdeal.main_v28_1) = v2 c
          ∧ r.2.mem ((c.tc : Thread Cert.SampleIdeal.nD Cert.SampleIdeal.τ).loc Cert.SampleIdeal.main_v28_2) = v3 c
          ∧ r.2.mem ((c.tc : Thread Cert.SampleIdeal.nD Cert.SampleIdeal.τ).loc Cert.SampleIdeal.main_v28_3) = v4 c
          ∧ r.2.mem ((c.tc : Thread Cert.SampleIdeal.nD Cert.SampleIdeal.τ).loc Cert.SampleIdeal.main_v28_4) = v5 c
          ∧ r.2.mem ((c.tc : Thread Cert.SampleIdeal.nD Cert.SampleIdeal.τ).loc Cert.SampleIdeal.main_v28_5) = v6 c
          ∧ r.2.mem ((c.tc : Thread Cert.SampleIdeal.nD Cert.SampleIdeal.τ).loc Cert.SampleIdeal.main_v28_6) = v7 c
          ∧ r.2.mem ((c.tc : Thread Cert.SampleIdeal.nD Cert.SampleIdeal.τ).loc Cert.SampleIdeal.main_v28_7) = v8 c
          ∧ r.2.mem ((c.tc : Thread Cert.SampleIdeal.nD Cert.SampleIdeal.τ).loc Cert.SampleIdeal.main_v28_8) = v9 c
          ∧ r.2.mem ((c.tc : Thread Cert.SampleIdeal.nD Cert.SampleIdeal.τ).loc Cert.SampleIdeal.main_v28_9) = v10 c
          ∧ r.2.mem ((c.tc : Thread Cert.SampleIdeal.nD Cert.SampleIdeal.τ).loc Cert.SampleIdeal.main_v28_10) = v11 c
          ∧ r.2.mem ((c.tc : Thread Cert.SampleIdeal.nD Cert.SampleIdeal.τ).loc Cert.SampleIdeal.main_v28_11) = v12 c
          ∧ r.2.mem ((c.tc : Thread Cert.SampleIdeal.nD Cert.SampleIdeal.τ).loc Cert.SampleIdeal.main_v28_12) = v13 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v33) = v0 c
          ∧ r.2.mem ((c.tc : Thread Cert.SampleRefIdeal.nD Cert.SampleRefIdeal.τ).loc Cert.SampleRefIdeal.main_v36) = v1 c
          ∧ r.2.mem ((c.tc : Thread Cert.SampleRefIdeal.nD Cert.SampleRefIdeal.τ).loc Cert.SampleRefIdeal.main_v37) = v2 c
          ∧ r.2.mem ((c.tc : Thread Cert.SampleRefIdeal.nD Cert.SampleRefIdeal.τ).loc Cert.SampleRefIdeal.main_v39) = v3 c
          ∧ r.2.mem ((c.tc : Thread Cert.SampleRefIdeal.nD Cert.SampleRefIdeal.τ).loc Cert.SampleRefIdeal.main_v99) = v4 c
          ∧ r.2.mem ((c.tc : Thread Cert.SampleRefIdeal.nD Cert.SampleRefIdeal.τ).loc Cert.SampleRefIdeal.main_v100) = v5 c
          ∧ r.2.mem ((c.tc : Thread Cert.SampleRefIdeal.nD Cert.SampleRefIdeal.τ).loc Cert.SampleRefIdeal.main_v101) = v6 c
          ∧ r.2.mem ((c.tc : Thread Cert.SampleRefIdeal.nD Cert.SampleRefIdeal.τ).loc Cert.SampleRefIdeal.main_v42) = v7 c
          ∧ r.2.mem ((c.tc : Thread Cert.SampleRefIdeal.nD Cert.SampleRefIdeal.τ).loc Cert.SampleRefIdeal.main_v43) = v8 c
          ∧ r.2.mem ((c.tc : Thread Cert.SampleRefIdeal.nD Cert.SampleRefIdeal.τ).loc Cert.SampleRefIdeal.main_v104) = v9 c
          ∧ r.2.mem ((c.tc : Thread Cert.SampleRefIdeal.nD Cert.SampleRefIdeal.τ).loc Cert.SampleRefIdeal.main_v105) = v10 c
          ∧ r.2.mem ((c.tc : Thread Cert.SampleRefIdeal.nD Cert.SampleRefIdeal.τ).loc Cert.SampleRefIdeal.main_v106) = v11 c
          ∧ r.2.mem ((c.tc : Thread Cert.SampleRefIdeal.nD Cert.SampleRefIdeal.τ).loc Cert.SampleRefIdeal.main_v107) = v12 c
          ∧ r.2.mem ((c.tc : Thread Cert.SampleRefIdeal.nD Cert.SampleRefIdeal.τ).loc Cert.SampleRefIdeal.main_v82) = v13 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v80) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)
      ∧ m' ((c.tc : Thread Cert.MergeSampleRefIdeal.nD Cert.MergeSampleRefIdeal.τ).loc Cert.MergeSampleRefIdeal.main_arg8) = m ((c.tc : Thread Cert.MergeSampleIdeal.nD Cert.MergeSampleIdeal.τ).loc Cert.MergeSampleIdeal.main_arg8)
      ∧ m' ((c.tc : Thread Cert.MergeSampleRefIdeal.nD Cert.MergeSampleRefIdeal.τ).loc Cert.MergeSampleRefIdeal.main_arg9) = m ((c.tc : Thread Cert.MergeSampleIdeal.nD Cert.MergeSampleIdeal.τ).loc Cert.MergeSampleIdeal.main_arg9)
      ∧ m' ((c.tc : Thread Cert.MergeSampleRefIdeal.nD Cert.MergeSampleRefIdeal.τ).loc Cert.MergeSampleRefIdeal.main_arg10) = m ((c.tc : Thread Cert.MergeSampleIdeal.nD Cert.MergeSampleIdeal.τ).loc Cert.MergeSampleIdeal.main_arg10)
      ∧ m' ((c.tc : Thread Cert.MergeSampleRefIdeal.nD Cert.MergeSampleRefIdeal.τ).loc Cert.MergeSampleRefIdeal.main_arg11) = m ((c.tc : Thread Cert.MergeSampleIdeal.nD Cert.MergeSampleIdeal.τ).loc Cert.MergeSampleIdeal.main_arg11)
      ∧ m' ((c.tc : Thread Cert.MergeSampleRefIdeal.nD Cert.MergeSampleRefIdeal.τ).loc Cert.MergeSampleRefIdeal.main_arg12) = m ((c.tc : Thread Cert.MergeSampleIdeal.nD Cert.MergeSampleIdeal.τ).loc Cert.MergeSampleIdeal.main_arg12)
      ∧ m' ((c.tc : Thread Cert.MergeSampleRefIdeal.nD Cert.MergeSampleRefIdeal.τ).loc Cert.MergeSampleRefIdeal.main_arg13) = m ((c.tc : Thread Cert.MergeSampleIdeal.nD Cert.MergeSampleIdeal.τ).loc Cert.MergeSampleIdeal.main_arg13)
      ∧ m' ((c.tc : Thread Cert.MergeSampleRefIdeal.nD Cert.MergeSampleRefIdeal.τ).loc Cert.MergeSampleRefIdeal.main_arg14) = m ((c.tc : Thread Cert.MergeSampleIdeal.nD Cert.MergeSampleIdeal.τ).loc Cert.MergeSampleIdeal.main_arg14)) →
    ∃ (v0 : (c : Dev Cert.MergeSampleIdeal.nD) → Buf (Elt Ideal) ((c.tc : Thread Cert.MergeSampleIdeal.nD Cert.MergeSampleIdeal.τ).loc Cert.MergeSampleIdeal.main_v10)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v10) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
          ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
          ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11)
          ∧ r.2.mem ((c.tc : Thread Cert.MergeSampleIdeal.nD Cert.MergeSampleIdeal.τ).loc Cert.MergeSampleIdeal.main_arg12) = m ((c.tc : Thread Cert.MergeSampleIdeal.nD Cert.MergeSampleIdeal.τ).loc Cert.MergeSampleIdeal.main_arg12)
          ∧ r.2.mem ((c.tc : Thread Cert.MergeSampleIdeal.nD Cert.MergeSampleIdeal.τ).loc Cert.MergeSampleIdeal.main_arg13) = m ((c.tc : Thread Cert.MergeSampleIdeal.nD Cert.MergeSampleIdeal.τ).loc Cert.MergeSampleIdeal.main_arg13)
          ∧ r.2.mem ((c.tc : Thread Cert.MergeSampleIdeal.nD Cert.MergeSampleIdeal.τ).loc Cert.MergeSampleIdeal.main_arg14) = m ((c.tc : Thread Cert.MergeSampleIdeal.nD Cert.MergeSampleIdeal.τ).loc Cert.MergeSampleIdeal.main_arg14))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v80) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7)
          ∧ r.2.mem ((c.tc : Thread Cert.MergeSampleRefIdeal.nD Cert.MergeSampleRefIdeal.τ).loc Cert.MergeSampleRefIdeal.main_arg8) = m' ((c.tc : Thread Cert.MergeSampleRefIdeal.nD Cert.MergeSampleRefIdeal.τ).loc Cert.MergeSampleRefIdeal.main_arg8)
          ∧ r.2.mem ((c.tc : Thread Cert.MergeSampleRefIdeal.nD Cert.MergeSampleRefIdeal.τ).loc Cert.MergeSampleRefIdeal.main_arg9) = m' ((c.tc : Thread Cert.MergeSampleRefIdeal.nD Cert.MergeSampleRefIdeal.τ).loc Cert.MergeSampleRefIdeal.main_arg9)
          ∧ r.2.mem ((c.tc : Thread Cert.MergeSampleRefIdeal.nD Cert.MergeSampleRefIdeal.τ).loc Cert.MergeSampleRefIdeal.main_arg10) = m' ((c.tc : Thread Cert.MergeSampleRefIdeal.nD Cert.MergeSampleRefIdeal.τ).loc Cert.MergeSampleRefIdeal.main_arg10)
          ∧ r.2.mem ((c.tc : Thread Cert.MergeSampleRefIdeal.nD Cert.MergeSampleRefIdeal.τ).loc Cert.MergeSampleRefIdeal.main_arg11) = m' ((c.tc : Thread Cert.MergeSampleRefIdeal.nD Cert.MergeSampleRefIdeal.τ).loc Cert.MergeSampleRefIdeal.main_arg11)
          ∧ r.2.mem ((c.tc : Thread Cert.MergeSampleRefIdeal.nD Cert.MergeSampleRefIdeal.τ).loc Cert.MergeSampleRefIdeal.main_arg12) = m' ((c.tc : Thread Cert.MergeSampleRefIdeal.nD Cert.MergeSampleRefIdeal.τ).loc Cert.MergeSampleRefIdeal.main_arg12)
          ∧ r.2.mem ((c.tc : Thread Cert.MergeSampleRefIdeal.nD Cert.MergeSampleRefIdeal.τ).loc Cert.MergeSampleRefIdeal.main_arg13) = m' ((c.tc : Thread Cert.MergeSampleRefIdeal.nD Cert.MergeSampleRefIdeal.τ).loc Cert.MergeSampleRefIdeal.main_arg13)
          ∧ r.2.mem ((c.tc : Thread Cert.MergeSampleRefIdeal.nD Cert.MergeSampleRefIdeal.τ).loc Cert.MergeSampleRefIdeal.main_arg14) = m' ((c.tc : Thread Cert.MergeSampleRefIdeal.nD Cert.MergeSampleRefIdeal.τ).loc Cert.MergeSampleRefIdeal.main_arg14))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)
      ∧ m' ((c.tc : Thread Cert.PromptRefIdeal.nD Cert.PromptRefIdeal.τ).loc Cert.PromptRefIdeal.main_arg10) = m ((c.tc : Thread Cert.PromptIdeal.nD Cert.PromptIdeal.τ).loc Cert.PromptIdeal.main_arg10)) →
    ∃ (v0 : (c : Dev Cert.PromptIdeal.nD) → Buf (Elt Ideal) ((c.tc : Thread Cert.PromptIdeal.nD Cert.PromptIdeal.τ).loc Cert.PromptIdeal.main_v16)) (v1 : (c : Dev Cert.PromptIdeal.nD) → Buf (Elt Ideal) ((c.tc : Thread Cert.PromptIdeal.nD Cert.PromptIdeal.τ).loc Cert.PromptIdeal.main_v26_0)) (v2 : (c : Dev Cert.PromptIdeal.nD) → Buf (Elt Ideal) ((c.tc : Thread Cert.PromptIdeal.nD Cert.PromptIdeal.τ).loc Cert.PromptIdeal.main_v26_1)) (v3 : (c : Dev Cert.PromptIdeal.nD) → Buf (Elt Ideal) ((c.tc : Thread Cert.PromptIdeal.nD Cert.PromptIdeal.τ).loc Cert.PromptIdeal.main_v26_2)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v16) = v0 c
          ∧ r.2.mem ((c.tc : Thread Cert.PromptIdeal.nD Cert.PromptIdeal.τ).loc Cert.PromptIdeal.main_v26_0) = v1 c
          ∧ r.2.mem ((c.tc : Thread Cert.PromptIdeal.nD Cert.PromptIdeal.τ).loc Cert.PromptIdeal.main_v26_1) = v2 c
          ∧ r.2.mem ((c.tc : Thread Cert.PromptIdeal.nD Cert.PromptIdeal.τ).loc Cert.PromptIdeal.main_v26_2) = v3 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v33) = v0 c
          ∧ r.2.mem ((c.tc : Thread Cert.PromptRefIdeal.nD Cert.PromptRefIdeal.τ).loc Cert.PromptRefIdeal.main_v35) = v1 c
          ∧ r.2.mem ((c.tc : Thread Cert.PromptRefIdeal.nD Cert.PromptRefIdeal.τ).loc Cert.PromptRefIdeal.main_v36) = v2 c
          ∧ r.2.mem ((c.tc : Thread Cert.PromptRefIdeal.nD Cert.PromptRefIdeal.τ).loc Cert.PromptRefIdeal.main_v37) = v3 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9)
          ∧ r.2.mem ((c.tc : Thread Cert.PromptRefIdeal.nD Cert.PromptRefIdeal.τ).loc Cert.PromptRefIdeal.main_arg10) = m' ((c.tc : Thread Cert.PromptRefIdeal.nD Cert.PromptRefIdeal.τ).loc Cert.PromptRefIdeal.main_arg10))

def Claim : Prop :=
  ∃ (hRows : Cert.Rows.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hSample : Cert.Sample.Facts) (hSampleIdeal : Cert.SampleIdeal.Facts) (hSampleRefIdeal : Cert.SampleRefIdeal.Facts) (hMerge : Cert.Merge.Facts) (hMergeIdeal : Cert.MergeIdeal.Facts) (hMergeRefIdeal : Cert.MergeRefIdeal.Facts) (hMergeSample : Cert.MergeSample.Facts) (hMergeSampleIdeal : Cert.MergeSampleIdeal.Facts) (hMergeSampleRefIdeal : Cert.MergeSampleRefIdeal.Facts) (hPrompt : Cert.Prompt.Facts) (hPromptIdeal : Cert.PromptIdeal.Facts) (hPromptRefIdeal : Cert.PromptRefIdeal.Facts),
    quiescent_Rows (hRows := hRows)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Sample (hSample := hSample)
    ∧ quiescent_SampleIdeal (hSampleIdeal := hSampleIdeal)
    ∧ quiescent_SampleRefIdeal (hSampleRefIdeal := hSampleRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_Prompt (hPrompt := hPrompt)
    ∧ quiescent_PromptIdeal (hPromptIdeal := hPromptIdeal)
    ∧ quiescent_PromptRefIdeal (hPromptRefIdeal := hPromptRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Sample_SampleIdeal
    ∧ algebraic_SampleIdeal_SampleRefIdeal (hSampleIdeal := hSampleIdeal) (hSampleRefIdeal := hSampleRefIdeal)
    ∧ preserves_Merge_MergeIdeal
    ∧ algebraic_MergeIdeal_MergeRefIdeal (hMergeIdeal := hMergeIdeal) (hMergeRefIdeal := hMergeRefIdeal)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_Prompt_PromptIdeal
    ∧ algebraic_PromptIdeal_PromptRefIdeal (hPromptIdeal := hPromptIdeal) (hPromptRefIdeal := hPromptRefIdeal)
-- ==== Rows.lean ====
abbrev S32x16x1024 : Shape := ⟨3, ![32, 16, 1024]⟩
abbrev S32x16x512 : Shape := ⟨3, ![32, 16, 512]⟩
abbrev S32x16x128 : Shape := ⟨3, ![32, 16, 128]⟩
abbrev S32x1152x256 : Shape := ⟨3, ![32, 1152, 256]⟩
abbrev S32x1152x64 : Shape := ⟨3, ![32, 1152, 64]⟩
abbrev S2x16x16x128 : Shape := ⟨4, ![2, 16, 16, 128]⟩
abbrev S1x16x1024 : Shape := ⟨3, ![1, 16, 1024]⟩
abbrev S1x16x512 : Shape := ⟨3, ![1, 16, 512]⟩
abbrev S1x16x128 : Shape := ⟨3, ![1, 16, 128]⟩
abbrev S1x1152x256 : Shape := ⟨3, ![1, 1152, 256]⟩
abbrev S1x1152x64 : Shape := ⟨3, ![1, 1152, 64]⟩
abbrev S9x16x128 : Shape := ⟨3, ![9, 16, 128]⟩
abbrev S4x64x64 : Shape := ⟨3, ![4, 64, 64]⟩
abbrev S128x64 : Shape := ⟨2, ![128, 64]⟩
abbrev S8x16x128 : Shape := ⟨3, ![8, 16, 128]⟩
abbrev S16x1 : Shape := ⟨2, ![16, 1]⟩
abbrev S1x16x64 : Shape := ⟨3, ![1, 16, 64]⟩
abbrev S16x64 : Shape := ⟨2, ![16, 64]⟩
abbrev S1x16x1 : Shape := ⟨3, ![1, 16, 1]⟩
abbrev S16x128 : Shape := ⟨2, ![16, 128]⟩
abbrev S1x128x64 : Shape := ⟨3, ![1, 128, 64]⟩
abbrev S128x128 : Shape := ⟨2, ![128, 128]⟩
abbrev S16 : Shape := ⟨1, ![16]⟩
abbrev S1 : Shape := ⟨1, ![1]⟩
abbrev S1x1x1 : Shape := ⟨3, ![1, 1, 1]⟩
abbrev S16x1152 : Shape := ⟨2, ![16, 1152]⟩
abbrev S4x16x896 : Shape := ⟨3, ![4, 16, 896]⟩
abbrev S1x64x64 : Shape := ⟨3, ![1, 64, 64]⟩
abbrev S64x64 : Shape := ⟨2, ![64, 64]⟩
abbrev S1152x64 : Shape := ⟨2, ![1152, 64]⟩
abbrev S64x1152 : Shape := ⟨2, ![64, 1152]⟩
abbrev S4x16x1152 : Shape := ⟨3, ![4, 16, 1152]⟩
abbrev S1x16x1152 : Shape := ⟨3, ![1, 16, 1152]⟩
abbrev S1x4x16x128 : Shape := ⟨4, ![1, 4, 16, 128]⟩
abbrev S4x16x128 : Shape := ⟨3, ![4, 16, 128]⟩
abbrev S4x16 : Shape := ⟨2, ![4, 16]⟩
abbrev S4x16x1 : Shape := ⟨3, ![4, 16, 1]⟩
abbrev S4x16x64 : Shape := ⟨3, ![4, 16, 64]⟩

abbrev nBuf : Space → Nat
  | .hbm => 8
  | .vmem => 19
  | .smem => 0
  | _ => 0

abbrev bufTy : (tb : Table) → Fin (tcTables nBuf tb) → BufTy
  | .hbm, ⟨0, _⟩ => ⟨S32x16x1024, .bf16⟩
  | .hbm, ⟨1, _⟩ => ⟨S32x16x512, .bf16⟩
  | .hbm, ⟨2, _⟩ => ⟨S32x16x128, .f32⟩
  | .hbm, ⟨3, _⟩ => ⟨S32x1152x256, .bf16⟩
  | .hbm, ⟨4, _⟩ => ⟨S32x1152x256, .bf16⟩
  | .hbm, ⟨5, _⟩ => ⟨S32x1152x64, .bf16⟩
  | .hbm, ⟨6, _⟩ => ⟨S2x16x16x128, .f32⟩
  | .hbm, ⟨7, _⟩ => ⟨S32x16x1024, .bf16⟩
  | .local _ .vmem, ⟨0, _⟩ => ⟨S1x16x1024, .bf16⟩
  | .local _ .vmem, ⟨1, _⟩ => ⟨S1x16x1024, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x128, .f32⟩
  | .local _ .vmem, ⟨5, _⟩ => ⟨S1x16x128, .f32⟩
  | .local _ .vmem, ⟨6, _⟩ => ⟨S1x1152x256, .bf16⟩
  | .local _ .vmem, ⟨7, _⟩ => ⟨S1x1152x256, .bf16⟩
  | .local _ .vmem, ⟨8, _⟩ => ⟨S1x1152x256, .bf16⟩
  | .local _ .vmem, ⟨9, _⟩ => ⟨S1x1152x256, .bf16⟩
  | .local _ .vmem, ⟨10, _⟩ => ⟨S1x1152x64, .bf16⟩
  | .local _ .vmem, ⟨11, _⟩ => ⟨S1x1152x64, .bf16⟩
  | .local _ .vmem, ⟨12, _⟩ => ⟨S2x16x16x128, .f32⟩
  | .local _ .vmem, ⟨13, _⟩ => ⟨S1x16x1024, .bf16⟩
  | .local _ .vmem, ⟨14, _⟩ => ⟨S1x16x1024, .bf16⟩
  | .local _ .vmem, ⟨15, _⟩ => ⟨S9x16x128, .i32⟩
  | .local _ .vmem, ⟨16, _⟩ => ⟨S4x64x64, .bf16⟩
  | .local _ .vmem, ⟨17, _⟩ => ⟨S128x64, .bf16⟩
  | .local _ .vmem, ⟨18, _⟩ => ⟨S8x16x128, .f32⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c9_i32 : BitVec 32 := 9#32
  let v177 : BitVec 32 := Scalar.addi c0_i32 c9_i32
  let c1_i32 : BitVec 32 := 1#32
  ⟨c0_i32, v177, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v480 : BitVec 32 := Scalar.muli arg13 c128_i32
  v480
def k0_off1 (k0_t1 : Fin k0_t1_loop.trips) : Fin 3 → Nat :=
  let c0_343 : Index := 0#32
  let c0_i32 : BitVec 32 := 0#32
  let c1_i32 : BitVec 32 := 1#32
  let arg13 : BitVec 32 := Scf.iv c0_i32 c1_i32 k0_t1
  let c128_i32 : BitVec 32 := 128#32
  let v480 : BitVec 32 := Scalar.muli arg13 c128_i32
  let v481 : BitVec 32 := v480
  let v483 : Index := Scalar.indexCast v481
  let c0_344 : Index := 0#32
  ![0, v483.toNat, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v561 : Index := Scalar.indexCast arg13
  let c0_382 : Index := 0#32
  let c0_383 : Index := 0#32
  ![v561.toNat, 0, 0]
@[reducible] def k0_t2_loop : Scf.Loop 32 :=
  let c0_i32_156 : BitVec 32 := 0#32
  let c32_i32 : BitVec 32 := 32#32
  let v180 : BitVec 32 := Scalar.addi c0_i32_156 c32_i32
  let c1_i32_157 : BitVec 32 := 1#32
  ⟨c0_i32_156, v180, c1_i32_157⟩
@[reducible] def k0_t3_loop : Scf.Loop 32 :=
  let c0_i32_343 : BitVec 32 := 0#32
  let c9_i32_344 : BitVec 32 := 9#32
  let v487 : BitVec 32 := Scalar.addi c0_i32_343 c9_i32_344
  let c1_i32_345 : BitVec 32 := 1#32
  ⟨c0_i32_343, v487, c1_i32_345⟩
def k0_off3 (k0_t3 : Fin k0_t3_loop.trips) : Fin 3 → Nat :=
  let c0_i32_343 : BitVec 32 := 0#32
  let c1_i32_345 : BitVec 32 := 1#32
  let arg16 : BitVec 32 := Scf.iv c0_i32_343 c1_i32_345 k0_t3
  let v495 : Index := Scalar.indexCast arg16
  let c0_349 : Index := 0#32
  let c0_350 : Index := 0#32
  ![v495.toNat, 0, 0]
@[reducible] def k0_t4_loop : Scf.Loop 32 :=
  let c0_i32_343 : BitVec 32 := 0#32
  let c9_i32_344 : BitVec 32 := 9#32
  let v485 : BitVec 32 := Scalar.addi c0_i32_343 c9_i32_344
  let c1_i32_345 : BitVec 32 := 1#32
  ⟨c0_i32_343, v485, c1_i32_345⟩
def k0_off4 (k0_t4 : Fin k0_t4_loop.trips) : Fin 3 → Nat :=
  let c0_i32_343 : BitVec 32 := 0#32
  let c1_i32_345 : BitVec 32 := 1#32
  let arg13 : BitVec 32 := Scf.iv c0_i32_343 c1_i32_345 k0_t4
  let v501 : Index := Scalar.indexCast arg13
  let c0_356 : Index := 0#32
  let c0_357 : Index := 0#32
  ![v501.toNat, 0, 0]
@[reducible] def k0_t5_loop : Scf.Loop 32 :=
  let c0_i32_352 : BitVec 32 := 0#32
  let c9_i32_353 : BitVec 32 := 9#32
  let v499 : BitVec 32 := Scalar.addi c0_i32_352 c9_i32_353
  let c1_i32_354 : BitVec 32 := 1#32
  ⟨c0_i32_352, v499, c1_i32_354⟩
def k0_off5 (k0_t5 : Fin k0_t5_loop.trips) : Fin 3 → Nat :=
  let c0_i32_352 : BitVec 32 := 0#32
  let c1_i32_354 : BitVec 32 := 1#32
  let arg13 : BitVec 32 := Scf.iv c0_i32_352 c1_i32_354 k0_t5
  let v501 : Index := Scalar.indexCast arg13
  let c0_356 : Index := 0#32
  let c0_357 : Index := 0#32
  ![v501.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1152x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1152x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1152x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x16x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S65536x2816 : Shape := ⟨2, ![65536, 2816]⟩
abbrev S65536 : Shape := ⟨1, ![65536]⟩
abbrev S65536x1 : Shape := ⟨2, ![65536, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S65536x1024, .f32⟩
  | .hbm, ⟨8, _⟩ => ⟨S65536x1024, .f32⟩
  | .hbm, ⟨9, _⟩ => ⟨S65536x2816, .f32⟩
  | .hbm, ⟨10, _⟩ => ⟨S65536x2816, .f32⟩
  | .hbm, ⟨11, _⟩ => ⟨S65536x2816, .f32⟩
  | .hbm, ⟨12, _⟩ => ⟨S_, .f32⟩
  | .hbm, ⟨13, _⟩ => ⟨S65536x2816, .f32⟩
  | .hbm, ⟨14, _⟩ => ⟨S65536x2816, .f32⟩
  | .hbm, ⟨15, _⟩ => ⟨S_, .f32⟩
  | .hbm, ⟨16, _⟩ => ⟨S65536x2816, .f32⟩
  | .hbm, ⟨17, _⟩ => ⟨S65536x2816, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Mix.lean ====
abbrev S65536x1024 : Shape := ⟨2, ![65536, 1024]⟩
abbrev S1024x6216 : Shape := ⟨2, ![1024, 6216]⟩
abbrev S1024 : Shape := ⟨1, ![1024]⟩
abbrev S4x128x128 : Shape := ⟨3, ![4, 128, 128]⟩
abbrev S4x128 : Shape := ⟨2, ![4, 128]⟩
abbrev S1024x512 : Shape := ⟨2, ![1024, 512]⟩
abbrev S1024x64 : Shape := ⟨2, ![1024, 64]⟩
abbrev S_ : Shape := ⟨0, ![]⟩
abbrev S1024x128 : Shape := ⟨2, ![1024, 128]⟩
abbrev S1024x8 : Shape := ⟨2, ![1024, 8]⟩
abbrev S1024x768 : Shape := ⟨2, ![1024, 768]⟩
abbrev S1024x1536 : Shape := ⟨2, ![1024, 1536]⟩
abbrev S1024x2048 : Shape := ⟨2, ![1024, 2048]⟩
abbrev S1024x1024 : Shape := ⟨2, ![1024, 1024]⟩
abbrev S1x4x1x128x1x128 : Shape := ⟨6, ![1, 4, 1, 128, 1, 128]⟩
abbrev S128x4 : Shape := ⟨2, ![128, 4]⟩
abbrev S1x128x1x4 : Shape := ⟨4, ![1, 128, 1, 4]⟩
abbrev S1x1024 : Shape := ⟨2, ![1, 1024]⟩
abbrev S65536x256 : Shape := ⟨2, ![65536, 256]⟩
abbrev S65536x64 : Shape := ⟨2, ![65536, 64]⟩
abbrev S1024x65536 : Shape := ⟨2, ![1024, 65536]⟩
abbrev S512x65536 : Shape := ⟨2, ![512, 65536]⟩
abbrev S8x65536 : Shape := ⟨2, ![8, 65536]⟩
abbrev S256x256x256 : Shape := ⟨3, ![256, 256, 256]⟩
abbrev S512x1024 : Shape := ⟨2, ![512, 1024]⟩
abbrev S512x256 : Shape := ⟨2, ![512, 256]⟩
abbrev S512x64 : Shape := ⟨2, ![512, 64]⟩
abbrev S512x512 : Shape := ⟨2, ![512, 512]⟩
abbrev S8x512 : Shape := ⟨2, ![8, 512]⟩
abbrev S2x256x256 : Shape := ⟨3, ![2, 256, 256]⟩
abbrev S512x2048 : Shape := ⟨2, ![512, 2048]⟩
abbrev S512x1536 : Shape := ⟨2, ![512, 1536]⟩
abbrev S512x768 : Shape := ⟨2, ![512, 768]⟩
abbrev S512x128 : Shape := ⟨2, ![512, 128]⟩
abbrev S128x512 : Shape := ⟨2, ![128, 512]⟩
abbrev S256x512 : Shape := ⟨2, ![256, 512]⟩
abbrev S256x256 : Shape := ⟨2, ![256, 256]⟩
abbrev S1x256x256 : Shape := ⟨3, ![1, 256, 256]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 42
  | .vmem => 35
  | .smem => 0
  | _ => 0

abbrev bufTy : (tb : Table) → Fin (tcTables nBuf tb) → BufTy
  | .hbm, ⟨0, _⟩ => ⟨S65536x1024, .f32⟩
  | .hbm, ⟨1, _⟩ => ⟨S1024x6216, .f32⟩
  | .hbm, ⟨2, _⟩ => ⟨S1024, .f32⟩
  | .hbm, ⟨3, _⟩ => ⟨S1024, .f32⟩
  | .hbm, ⟨4, _⟩ => ⟨S4x128x128, .f32⟩
  | .hbm, ⟨5, _⟩ => ⟨S4x128, .f32⟩
  | .hbm, ⟨6, _⟩ => ⟨S1024x6216, .bf16⟩
  | .hbm, ⟨7, _⟩ => ⟨S1024x512, .bf16⟩
  | .hbm, ⟨8, _⟩ => ⟨S1024x64, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S1024x8, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S1024x768, .bf16⟩
  | .hbm, ⟨17, _⟩ => ⟨S1024x1536, .bf16⟩
  | .hbm, ⟨18, _⟩ => ⟨S1024x2048, .bf16⟩
  | .hbm, ⟨19, _⟩ => ⟨S1024x1024, .bf16⟩
  | .hbm, ⟨20, _⟩ => ⟨S1024x1024, .bf16⟩
  | .hbm, ⟨21, _⟩ => ⟨S1x4x1x128x1x128, .f32⟩
  | .hbm, ⟨22, _⟩ => ⟨S1x4x1x128x1x128, .f32⟩
  | .hbm, ⟨23, _⟩ => ⟨S4x128x128, .f32⟩
  | .hbm, ⟨24, _⟩ => ⟨S128x4, .f32⟩
  | .hbm, ⟨25, _⟩ => ⟨S1x128x1x4, .f32⟩
  | .hbm, ⟨26, _⟩ => ⟨S1x128x1x4, .f32⟩
  | .hbm, ⟨27, _⟩ => ⟨S128x4, .f32⟩
  | .hbm, ⟨28, _⟩ => ⟨S1x1024, .f32⟩
  | .hbm, ⟨29, _⟩ => ⟨S1x1024, .f32⟩
  | .hbm, ⟨30, _⟩ => ⟨S65536x256, .f32⟩
  | .hbm, ⟨31, _⟩ => ⟨S65536x256, .f32⟩
  | .hbm, ⟨32, _⟩ => ⟨S65536x64, .f32⟩
  | .hbm, ⟨33, _⟩ => ⟨S65536x256, .bf16⟩
  | .hbm, ⟨34, _⟩ => ⟨S65536x64, .bf16⟩
  | .hbm, ⟨35, _⟩ => ⟨S65536x1024, .bf16⟩
  | .hbm, ⟨36, _⟩ => ⟨S65536x1024, .f32⟩
  | .hbm, ⟨37, _⟩ => ⟨S65536x1024, .f32⟩
  | .hbm, ⟨38, _⟩ => ⟨S1024x65536, .bf16⟩
  | .hbm, ⟨39, _⟩ => ⟨S512x65536, .bf16⟩
  | .hbm, ⟨40, _⟩ => ⟨S8x65536, .f32⟩
  | .hbm, ⟨41, _⟩ => ⟨S256x256x256, .bf16⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x768, .bf16⟩
  | .local _ .vmem, ⟨4, _⟩ => ⟨S1024x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S4x128x128, .f32⟩
  | .local _ .vmem, ⟨10, _⟩ => ⟨S128x4, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x64, .f32⟩
  | .local _ .vmem, ⟨16, _⟩ => ⟨S512x64, .f32⟩
  | .local _ .vmem, ⟨17, _⟩ => ⟨S512x256, .bf16⟩
  | .local _ .vmem, ⟨18, _⟩ => ⟨S512x256, .bf16⟩
  | .local _ .vmem, ⟨19, _⟩ => ⟨S512x64, .bf16⟩
  | .local _ .vmem, ⟨20, _⟩ => ⟨S512x64, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1024x512, .bf16⟩
  | .local _ .vmem, ⟨28, _⟩ => ⟨S1024x512, .bf16⟩
  | .local _ .vmem, ⟨29, _⟩ => ⟨S512x512, .bf16⟩
  | .local _ .vmem, ⟨30, _⟩ => ⟨S512x512, .bf16⟩
  | .local _ .vmem, ⟨31, _⟩ => ⟨S8x512, .f32⟩
  | .local _ .vmem, ⟨32, _⟩ => ⟨S8x512, .f32⟩
  | .local _ .vmem, ⟨33, _⟩ => ⟨S2x256x256, .bf16⟩
  | .local _ .vmem, ⟨34, _⟩ => ⟨S2x256x256, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_v20_7 : Ref sig .tc := ⟨.hbm, 37, rfl⟩
abbrev main_v20_8 : Ref sig .tc := ⟨.hbm, 38, rfl⟩
abbrev main_v20_9 : Ref sig .tc := ⟨.hbm, 39, rfl⟩
abbrev main_v20_10 : Ref sig .tc := ⟨.hbm, 40, rfl⟩
abbrev main_v20_11 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixRefIdeal.lean ====
abbrev S65536x1024 : Shape := ⟨2, ![65536, 1024]⟩
abbrev S1024x6216 : Shape := ⟨2, ![1024, 6216]⟩
abbrev S1024 : Shape := ⟨1, ![1024]⟩
abbrev S4x128x128 : Shape := ⟨3, ![4, 128, 128]⟩
abbrev S4x128 : Shape := ⟨2, ![4, 128]⟩
abbrev S65536x6216 : Shape := ⟨2, ![65536, 6216]⟩
abbrev S65536x256 : Shape := ⟨2, ![65536, 256]⟩
abbrev S65536x512 : Shape := ⟨2, ![65536, 512]⟩
abbrev S65536x64 : Shape := ⟨2, ![65536, 64]⟩
abbrev S65536x8 : Shape := ⟨2, ![65536, 8]⟩
abbrev S65536x2048 : Shape := ⟨2, ![65536, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S128x128 : Shape := ⟨2, ![128, 128]⟩
abbrev S1x128x128 : Shape := ⟨3, ![1, 128, 128]⟩
abbrev S512x128x4x256 : Shape := ⟨4, ![512, 128, 4, 256]⟩
abbrev S4x512x256x128 : Shape := ⟨4, ![4, 512, 256, 128]⟩
abbrev S128x4 : Shape := ⟨2, ![128, 4]⟩
abbrev S1x128x4x1 : Shape := ⟨4, ![1, 128, 4, 1]⟩
abbrev S256x256x256 : Shape := ⟨3, ![256, 256, 256]⟩
abbrev S1024x65536 : Shape := ⟨2, ![1024, 65536]⟩
abbrev S512x65536 : Shape := ⟨2, ![512, 65536]⟩
abbrev S8x65536 : Shape := ⟨2, ![8, 65536]⟩

abbrev nBuf : Space → Nat
  | .hbm => 101
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x6216, .f32⟩
  | .hbm, ⟨2, _⟩ => ⟨S1024, .f32⟩
  | .hbm, ⟨3, _⟩ => ⟨S1024, .f32⟩
  | .hbm, ⟨4, _⟩ => ⟨S4x128x128, .f32⟩
  | .hbm, ⟨5, _⟩ => ⟨S4x128, .f32⟩
  | .hbm, ⟨6, _⟩ => ⟨S65536x6216, .f32⟩
  | .hbm, ⟨7, _⟩ => ⟨S65536x1024, .f32⟩
  | .hbm, ⟨8, _⟩ => ⟨S65536x256, .f32⟩
  | .hbm, ⟨9, _⟩ => ⟨S65536x256, .f32⟩
  | .hbm, ⟨10, _⟩ => ⟨S65536x512, .f32⟩
  | .hbm, ⟨11, _⟩ => ⟨S65536x64, .f32⟩
  | .hbm, ⟨12, _⟩ => ⟨S65536x8, .f32⟩
  | .hbm, ⟨13, _⟩ => ⟨S65536x2048, .f32⟩
  | .hbm, ⟨14, _⟩ => ⟨S65536x1024, .f32⟩
  | .hbm, ⟨15, _⟩ => ⟨S65536x1024, .f32⟩
  | .hbm, ⟨16, _⟩ => ⟨S65536x2048, .f32⟩
  | .hbm, ⟨17, _⟩ => ⟨S65536x2048, .f32⟩
  | .hbm, ⟨18, _⟩ => ⟨S_, .f32⟩
  | .hbm, ⟨19, _⟩ => ⟨S65536x2048, .f32⟩
  | .hbm, ⟨20, _⟩ => ⟨S65536x2048, .f32⟩
  | .hbm, ⟨21, _⟩ => ⟨S65536x2048, .f32⟩
  | .hbm, ⟨22, _⟩ => ⟨S_, .f32⟩
  | .hbm, ⟨23, _⟩ => ⟨S65536x2048, .f32⟩
  | .hbm, ⟨24, _⟩ => ⟨S65536x2048, .f32⟩
  | .hbm, ⟨25, _⟩ => ⟨S65536x2048, .f32⟩
  | .hbm, ⟨26, _⟩ => ⟨S_, .f32⟩
  | .hbm, ⟨27, _⟩ => ⟨S65536x2048, .f32⟩
  | .hbm, ⟨28, _⟩ => ⟨S65536x2048, .f32⟩
  | .hbm, ⟨29, _⟩ => ⟨S_, .f32⟩
  | .hbm, ⟨30, _⟩ => ⟨S65536x2048, .f32⟩
  | .hbm, ⟨31, _⟩ => ⟨S65536x2048, .f32⟩
  | .hbm, ⟨32, _⟩ => ⟨S65536x2048, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536x1, .f32⟩
  | .hbm, ⟨56, _⟩ => ⟨S65536x1024, .f32⟩
  | .hbm, ⟨57, _⟩ => ⟨S65536x1024, .f32⟩
  | .hbm, ⟨58, _⟩ => ⟨S1x1024, .f32⟩
  | .hbm, ⟨59, _⟩ => ⟨S65536x1024, .f32⟩
  | .hbm, ⟨60, _⟩ => ⟨S65536x1024, .f32⟩
  | .hbm, ⟨61, _⟩ => ⟨S1x1024, .f32⟩
  | .hbm, ⟨62, _⟩ => ⟨S65536x1024, .f32⟩
  | .hbm, ⟨63, _⟩ => ⟨S65536x1024, .f32⟩
  | .hbm, ⟨64, _⟩ => ⟨S_, .f32⟩
  | .hbm, ⟨65, _⟩ => ⟨S128x128, .f32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .f32⟩
  | .hbm, ⟨73, _⟩ => ⟨S128x128, .f32⟩
  | .hbm, ⟨74, _⟩ => ⟨S128x128, .f32⟩
  | .hbm, ⟨75, _⟩ => ⟨S1x128x128, .f32⟩
  | .hbm, ⟨76, _⟩ => ⟨S4x128x128, .f32⟩
  | .hbm, ⟨77, _⟩ => ⟨S4x128x128, .f32⟩
  | .hbm, ⟨78, _⟩ => ⟨S512x128x4x256, .f32⟩
  | .hbm, ⟨79, _⟩ => ⟨S4x512x256x128, .f32⟩
  | .hbm, ⟨80, _⟩ => ⟨S512x128x4x256, .f32⟩
  | .hbm, ⟨81, _⟩ => ⟨S128x4, .f32⟩
  | .hbm, ⟨82, _⟩ => ⟨S1x128x4x1, .f32⟩
  | .hbm, ⟨83, _⟩ => ⟨S512x128x4x256, .f32⟩
  | .hbm, ⟨84, _⟩ => ⟨S512x128x4x256, .f32⟩
  | .hbm, ⟨85, _⟩ => ⟨S65536x1024, .f32⟩
  | .hbm, ⟨86, _⟩ => ⟨S65536x1024, .f32⟩
  | .hbm, ⟨87, _⟩ => ⟨S256x256x256, .f32⟩
  | .hbm, ⟨88, _⟩ => ⟨S256x256x256, .f32⟩
  | .hbm, ⟨89, _⟩ => ⟨S65536x256, .bf16⟩
  | .hbm, ⟨90, _⟩ => ⟨S65536x64, .bf16⟩
  | .hbm, ⟨91, _⟩ => ⟨S65536x1024, .bf16⟩
  | .hbm, ⟨92, _⟩ => ⟨S_, .f32⟩
  | .hbm, ⟨93, _⟩ => ⟨S65536x1024, .f32⟩
  | .hbm, ⟨94, _⟩ => ⟨S65536x1024, .f32⟩
  | .hbm, ⟨95, _⟩ => ⟨S1024x65536, .f32⟩
  | .hbm, ⟨96, _⟩ => ⟨S1024x65536, .bf16⟩
  | .hbm, ⟨97, _⟩ => ⟨S256x256x256, .bf16⟩
  | .hbm, ⟨98, _⟩ => ⟨S512x65536, .f32⟩
  | .hbm, ⟨99, _⟩ => ⟨S512x65536, .bf16⟩
  | .hbm, ⟨100, _⟩ => ⟨S8x65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_cst : Ref sig .tc := ⟨.hbm, 72, rfl⟩
abbrev main_call0_v5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Sample.lean ====
abbrev S512x1024 : Shape := ⟨2, ![512, 1024]⟩
abbrev S1024x2816 : Shape := ⟨2, ![1024, 2816]⟩
abbrev S2816x1024 : Shape := ⟨2, ![2816, 1024]⟩
abbrev S1024 : Shape := ⟨1, ![1024]⟩
abbrev S1024x6216 : Shape := ⟨2, ![1024, 6216]⟩
abbrev S4x128x128 : Shape := ⟨3, ![4, 128, 128]⟩
abbrev S4x128 : Shape := ⟨2, ![4, 128]⟩
abbrev S1024x512 : Shape := ⟨2, ![1024, 512]⟩
abbrev S1024x64 : Shape := ⟨2, ![1024, 64]⟩
abbrev S_ : Shape := ⟨0, ![]⟩
abbrev S1024x128 : Shape := ⟨2, ![1024, 128]⟩
abbrev S1024x8 : Shape := ⟨2, ![1024, 8]⟩
abbrev S1024x768 : Shape := ⟨2, ![1024, 768]⟩
abbrev S1024x1536 : Shape := ⟨2, ![1024, 1536]⟩
abbrev S1024x2048 : Shape := ⟨2, ![1024, 2048]⟩
abbrev S1024x1024 : Shape := ⟨2, ![1024, 1024]⟩
abbrev S1x1024 : Shape := ⟨2, ![1, 1024]⟩
abbrev S128x1024 : Shape := ⟨2, ![128, 1024]⟩
abbrev S128x2816 : Shape := ⟨2, ![128, 2816]⟩
abbrev S1024x256 : Shape := ⟨2, ![1024, 256]⟩
abbrev S128x256 : Shape := ⟨2, ![128, 256]⟩
abbrev S128 : Shape := ⟨1, ![128]⟩
abbrev S128x1 : Shape := ⟨2, ![128, 1]⟩
abbrev S4x16x16 : Shape := ⟨3, ![4, 16, 16]⟩
abbrev S1x4x1x16x1x16 : Shape := ⟨6, ![1, 4, 1, 16, 1, 16]⟩
abbrev S1x4x8x16x8x16 : Shape := ⟨6, ![1, 4, 8, 16, 8, 16]⟩
abbrev S4x16 : Shape := ⟨2, ![4, 16]⟩
abbrev S16x4 : Shape := ⟨2, ![16, 4]⟩
abbrev S1x16x1x4 : Shape := ⟨4, ![1, 16, 1, 4]⟩
abbrev S8x16x1x4 : Shape := ⟨4, ![8, 16, 1, 4]⟩
abbrev S128x4 : Shape := ⟨2, ![128, 4]⟩
abbrev S512x256 : Shape := ⟨2, ![512, 256]⟩
abbrev S512x64 : Shape := ⟨2, ![512, 64]⟩
abbrev S512x512 : Shape := ⟨2, ![512, 512]⟩
abbrev S512x128 : Shape := ⟨2, ![512, 128]⟩
abbrev S128x64 : Shape := ⟨2, ![128, 64]⟩
abbrev S128x512 : Shape := ⟨2, ![128, 512]⟩
abbrev S128x128 : Shape := ⟨2, ![128, 128]⟩
abbrev S128x2048 : Shape := ⟨2, ![128, 2048]⟩
abbrev S128x1536 : Shape := ⟨2, ![128, 1536]⟩
abbrev S128x768 : Shape := ⟨2, ![128, 768]⟩
abbrev S1x128x128 : Shape := ⟨3, ![1, 128, 128]⟩

abbrev nBuf : Space → Nat
  | .hbm => 56
  | .vmem => 47
  | .smem => 0
  | _ => 0

abbrev bufTy : (tb : Table) → Fin (tcTables nBuf tb) → BufTy
  | .hbm, ⟨0, _⟩ => ⟨S512x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x6216, .f32⟩
  | .hbm, ⟨7, _⟩ => ⟨S1024, .f32⟩
  | .hbm, ⟨8, _⟩ => ⟨S1024, .f32⟩
  | .hbm, ⟨9, _⟩ => ⟨S4x128x128, .f32⟩
  | .hbm, ⟨10, _⟩ => ⟨S4x128, .f32⟩
  | .hbm, ⟨11, _⟩ => ⟨S1024x6216, .bf16⟩
  | .hbm, ⟨12, _⟩ => ⟨S1024x512, .bf16⟩
  | .hbm, ⟨13, _⟩ => ⟨S1024x64, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S1024x8, .bf16⟩
  | .hbm, ⟨18, _⟩ => ⟨S_, .i32⟩
  | .hbm, ⟨19, _⟩ => ⟨S_, .bf16⟩
  | .hbm, ⟨20, _⟩ => ⟨S1024x128, .bf16⟩
  | .hbm, ⟨21, _⟩ => ⟨S1024x768, .bf16⟩
  | .hbm, ⟨22, _⟩ => ⟨S1024x1536, .bf16⟩
  | .hbm, ⟨23, _⟩ => ⟨S1024x2048, .bf16⟩
  | .hbm, ⟨24, _⟩ => ⟨S1024x1024, .bf16⟩
  | .hbm, ⟨25, _⟩ => ⟨S1024x1024, .bf16⟩
  | .hbm, ⟨26, _⟩ => ⟨S1024x2816, .bf16⟩
  | .hbm, ⟨27, _⟩ => ⟨S1024x2816, .bf16⟩
  | .hbm, ⟨28, _⟩ => ⟨S2816x1024, .bf16⟩
  | .hbm, ⟨29, _⟩ => ⟨S1x1024, .f32⟩
  | .hbm, ⟨30, _⟩ => ⟨S1x1024, .f32⟩
  | .hbm, ⟨31, _⟩ => ⟨S512x1024, .f32⟩
  | .hbm, ⟨32, _⟩ => ⟨S4x16x16, .f32⟩
  | .hbm, ⟨33, _⟩ => ⟨S1x4x1x16x1x16, .f32⟩
  | .hbm, ⟨34, _⟩ => ⟨S1x4x8x16x8x16, .f32⟩
  | .hbm, ⟨35, _⟩ => ⟨S4x128x128, .f32⟩
  | .hbm, ⟨36, _⟩ => ⟨S4x16, .f32⟩
  | .hbm, ⟨37, _⟩ => ⟨S16x4, .f32⟩
  | .hbm, ⟨38, _⟩ => ⟨S1x16x1x4, .f32⟩
  | .hbm, ⟨39, _⟩ => ⟨S8x16x1x4, .f32⟩
  | .hbm, ⟨40, _⟩ => ⟨S128x4, .f32⟩
  | .hbm, ⟨41, _⟩ => ⟨S1x1024, .f32⟩
  | .hbm, ⟨42, _⟩ => ⟨S1x1024, .f32⟩
  | .hbm, ⟨43, _⟩ => ⟨S512x256, .f32⟩
  | .hbm, ⟨44, _⟩ => ⟨S512x256, .f32⟩
  | .hbm, ⟨45, _⟩ => ⟨S512x64, .f32⟩
  | .hbm, ⟨46, _⟩ => ⟨S512x256, .bf16⟩
  | .hbm, ⟨47, _⟩ => ⟨S512x64, .bf16⟩
  | .hbm, ⟨48, _⟩ => ⟨S512x1024, .bf16⟩
  | .hbm, ⟨49, _⟩ => ⟨S512x1024, .f32⟩
  | .hbm, ⟨50, _⟩ => ⟨S512x1024, .f32⟩
  | .hbm, ⟨51, _⟩ => ⟨S512x1024, .bf16⟩
  | .hbm, ⟨52, _⟩ => ⟨S512x256, .bf16⟩
  | .hbm, ⟨53, _⟩ => ⟨S512x512, .bf16⟩
  | .hbm, ⟨54, _⟩ => ⟨S512x128, .f32⟩
  | .hbm, ⟨55, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | .local _ .vmem, ⟨9, _⟩ => ⟨S128x2816, .bf16⟩
  | .local _ .vmem, ⟨10, _⟩ => ⟨S128x1024, .f32⟩
  | .local _ .vmem, ⟨11, _⟩ => ⟨S128x1024, .f32⟩
  | .local _ .vmem, ⟨12, _⟩ => ⟨S1024x1536, .bf16⟩
  | .local _ .vmem, ⟨13, _⟩ => ⟨S1024x768, .bf16⟩
  | .local _ .vmem, ⟨14, _⟩ => ⟨S1024x2048, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S4x128x128, .f32⟩
  | .local _ .vmem, ⟨20, _⟩ => ⟨S128x4, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x64, .f32⟩
  | .local _ .vmem, ⟨26, _⟩ => ⟨S128x64, .f32⟩
  | .local _ .vmem, ⟨27, _⟩ => ⟨S128x256, .bf16⟩
  | .local _ .vmem, ⟨28, _⟩ => ⟨S128x256, .bf16⟩
  | .local _ .vmem, ⟨29, _⟩ => ⟨S128x64, .bf16⟩
  | .local _ .vmem, ⟨30, _⟩ => ⟨S128x64, .bf16⟩
  | .local _ .vmem, ⟨31, _⟩ => ⟨S128x1024, .bf16⟩
  | .local _ .vmem, ⟨32, _⟩ => ⟨S128x1024, .bf16⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .bf16⟩
  | .local _ .vmem, ⟨38, _⟩ => ⟨S128x1024, .bf16⟩
  | .local _ .vmem, ⟨39, _⟩ => ⟨S128x256, .bf16⟩
  | .local _ .vmem, ⟨40, _⟩ => ⟨S128x256, .bf16⟩
  | .local _ .vmem, ⟨41, _⟩ => ⟨S128x512, .bf16⟩
  | .local _ .vmem, ⟨42, _⟩ => ⟨S128x512, .bf16⟩
  | .local _ .vmem, ⟨43, _⟩ => ⟨S128x128, .f32⟩
  | .local _ .vmem, ⟨44, _⟩ => ⟨S128x128, .f32⟩
  | .local _ .vmem, ⟨45, _⟩ => ⟨S128x1024, .f32⟩
  | .local _ .vmem, ⟨46, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev main_v28_4 : Ref sig .tc := ⟨.hbm, 47, rfl⟩
abbrev main_v28_5 : Ref sig .tc := ⟨.hbm, 48, rfl⟩
abbrev main_v28_6 : Ref sig .tc := ⟨.hbm, 49, rfl⟩
abbrev main_v28_7 : Ref sig .tc := ⟨.hbm, 50, rfl⟩
abbrev main_v28_8 : Ref sig .tc := ⟨.hbm, 51, rfl⟩
abbrev main_v28_9 : Ref sig .tc := ⟨.hbm, 52, rfl⟩
abbrev main_v28_10 : Ref sig .tc := ⟨.hbm, 53, rfl⟩
abbrev main_v28_11 : Ref sig .tc := ⟨.hbm, 54, rfl⟩
abbrev main_v28_12 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg16_1 : Ref sig .tc := ⟨.vmem, 34, rfl⟩
abbrev cc1_stg17_0 : Ref sig .tc := ⟨.vmem, 35, rfl⟩
abbrev cc1_stg17_1 : Ref sig .tc := ⟨.vmem, 36, rfl⟩
abbrev cc1_stg18_0 : Ref sig .tc := ⟨.vmem, 37, rfl⟩
abbrev cc1_stg18_1 : Ref sig .tc := ⟨.vmem, 38, rfl⟩
abbrev cc1_stg19_0 : Ref sig .tc := ⟨.vmem, 39, rfl⟩
abbrev cc1_stg19_1 : Ref sig .tc := ⟨.vmem, 40, rfl⟩
abbrev cc1_stg20_0 : Ref sig .tc := ⟨.vmem, 41, rfl⟩
abbrev cc1_stg20_1 : Ref sig .tc := ⟨.vmem, 42, rfl⟩
abbrev cc1_stg21_0 : Ref sig .tc := ⟨.vmem, 43, rfl⟩
abbrev cc1_stg21_1 : Ref sig .tc := ⟨.vmem, 44, rfl⟩
abbrev cc1_stg22_0 : Ref sig .tc := ⟨.vmem, 45, rfl⟩
abbrev cc1_stg22_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc1_sem15_0 : DmaSem sig := 30
abbrev cc1_sem15_1 : DmaSem sig := 31
abbrev cc1_sem16_0 : DmaSem sig := 32
abbrev cc1_sem16_1 : DmaSem sig := 33
abbrev cc1_sem17_0 : DmaSem sig := 34
abbrev cc1_sem17_1 : DmaSem sig := 35
abbrev cc1_sem18_0 : DmaSem sig := 36
abbrev cc1_sem18_1 : DmaSem sig := 37
abbrev cc1_sem19_0 : DmaSem sig := 38
abbrev cc1_sem19_1 : DmaSem sig := 39
abbrev cc1_sem20_0 : DmaSem sig := 40
abbrev cc1_sem20_1 : DmaSem sig := 41
abbrev cc1_sem21_0 : DmaSem sig := 42
abbrev cc1_sem21_1 : DmaSem sig := 43
abbrev cc1_sem22_0 : DmaSem sig := 44
abbrev cc1_sem22_1 : DmaSem sig := 45

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_22 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x4 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x64 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S128x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S128x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S128x1024 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S128x1024 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S128x256 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S128x512 .bf16 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S128x128 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S128x1024 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]
-- ==== SampleRefIdeal.lean ====
abbrev S512x1024 : Shape := ⟨2, ![512, 1024]⟩
abbrev S1024x2816 : Shape := ⟨2, ![1024, 2816]⟩
abbrev S2816x1024 : Shape := ⟨2, ![2816, 1024]⟩
abbrev S1024 : Shape := ⟨1, ![1024]⟩
abbrev S1024x6216 : Shape := ⟨2, ![1024, 6216]⟩
abbrev S4x128x128 : Shape := ⟨3, ![4, 128, 128]⟩
abbrev S4x128 : Shape := ⟨2, ![4, 128]⟩
abbrev S_ : Shape := ⟨0, ![]⟩
abbrev S512x2816 : Shape := ⟨2, ![512, 2816]⟩
abbrev S512 : Shape := ⟨1, ![512]⟩
abbrev S512x1 : Shape := ⟨2, ![512, 1]⟩
abbrev S1x1024 : Shape := ⟨2, ![1, 1024]⟩
abbrev S512x6216 : Shape := ⟨2, ![512, 6216]⟩
abbrev S512x256 : Shape := ⟨2, ![512, 256]⟩
abbrev S512x512 : Shape := ⟨2, ![512, 512]⟩
abbrev S512x64 : Shape := ⟨2, ![512, 64]⟩
abbrev S512x8 : Shape := ⟨2, ![512, 8]⟩
abbrev S512x2048 : Shape := ⟨2, ![512, 2048]⟩
abbrev S128x128 : Shape := ⟨2, ![128, 128]⟩
abbrev S1x128x128 : Shape := ⟨3, ![1, 128, 128]⟩
abbrev S4x16x16 : Shape := ⟨3, ![4, 16, 16]⟩
abbrev S32x16x4x256 : Shape := ⟨4, ![32, 16, 4, 256]⟩
abbrev S4x32x256x16 : Shape := ⟨4, ![4, 32, 256, 16]⟩
abbrev S4x16 : Shape := ⟨2, ![4, 16]⟩
abbrev S16x4 : Shape := ⟨2, ![16, 4]⟩
abbrev S1x16x4x1 : Shape := ⟨4, ![1, 16, 4, 1]⟩
abbrev S512x128 : Shape := ⟨2, ![512, 128]⟩

abbrev nBuf : Space → Nat
  | .hbm => 155
  | .vmem => 0
  | .smem => 0
  | _ => 0

abbrev hbmTy0_0 (i : Nat) : BufTy := match i % 128 with
  | 0 => ⟨S512x1024, .f32⟩
  | 1 => ⟨S1024x2816, .f32⟩
  | 2 => ⟨S1024x2816, .f32⟩
  | 3 => ⟨S2816x1024, .f32⟩
  | 4 => ⟨S1024, .f32⟩
  | 5 => ⟨S1024, .f32⟩
  | 6 => ⟨S1024x6216, .f32⟩
  | 7 => ⟨S1024, .f32⟩
  | 8 => ⟨S1024, .f32⟩
  | 9 => ⟨S4x128x128, .f32⟩
  | 10 => ⟨S4x128, .f32⟩
  | 11 => ⟨S_, .f32⟩
  | 12 => ⟨S512x1024, .f32⟩
  | 13 => ⟨S512x1024, .f32⟩
  | 14 => ⟨S512x2816, .f32⟩
  | 15 => ⟨S512x2816, .f32⟩
  | 16 => ⟨S512x2816, .f32⟩
  | 17 => ⟨S_, .f32⟩
  | 18 => ⟨S512x2816, .f32⟩
  | 19 => ⟨S512x2816, .f32⟩
  | 20 => ⟨S_, .f32⟩
  | 21 => ⟨S512x2816, .f32⟩
  | 22 => ⟨S512x2816, .f32⟩
  | 23 => ⟨S512x2816, .f32⟩
  | 24 => ⟨S512x2816, .f32⟩
  | 25 => ⟨S512x2816, .f32⟩
  | 26 => ⟨S512x1024, .f32⟩
  | 27 => ⟨S_, .f32⟩
  | 28 => ⟨S512x1024, .f32⟩
  | 29 => ⟨S512x1024, .f32⟩
  | 30 => ⟨S512x1024, .f32⟩
  | 31 => ⟨S_, .f32⟩
  | 32 => ⟨S512, .f32⟩
  | 33 => ⟨S512x1, .f32⟩
  | 34 => ⟨S_, .f32⟩
  | 35 => ⟨S512x1, .f32⟩
  | 36 => ⟨S512x1, .f32⟩
  | 37 => ⟨S512x1024, .f32⟩
  | 38 => ⟨S512x1024, .f32⟩
  | 39 => ⟨S512x1024, .f32⟩
  | 40 => ⟨S_, .f32⟩
  | 41 => ⟨S512, .f32⟩
  | 42 => ⟨S512x1, .f32⟩
  | 43 => ⟨S_, .f32⟩
  | 44 => ⟨S512x1, .f32⟩
  | 45 => ⟨S512x1, .f32⟩
  | 46 => ⟨S512x1024, .f32⟩
  | 47 => ⟨S512x1024, .f32⟩
  | 48 => ⟨S_, .f32⟩
  | 49 => ⟨S512x1, .f32⟩
  | 50 => ⟨S512x1, .f32⟩
  | 51 => ⟨S512x1, .f32⟩
  | 52 => ⟨S512x1024, .f32⟩
  | 53 => ⟨S512x1024, .f32⟩
  | 54 => ⟨S1x1024, .f32⟩
  | 55 => ⟨S512x1024, .f32⟩
  | 56 => ⟨S512x1024, .f32⟩
  | 57 => ⟨S1x1024, .f32⟩
  | 58 => ⟨S512x1024, .f32⟩
  | 59 => ⟨S512x1024, .f32⟩
  | 60 => ⟨S512x6216, .f32⟩
  | 61 => ⟨S512x1024, .f32⟩
  | 62 => ⟨S512x256, .f32⟩
  | 63 => ⟨S512x256, .f32⟩
  | 64 => ⟨S512x512, .f32⟩
  | 65 => ⟨S512x64, .f32⟩
  | 66 => ⟨S512x8, .f32⟩
  | 67 => ⟨S512x2048, .f32⟩
  | 68 => ⟨S512x1024, .f32⟩
  | 69 => ⟨S512x1024, .f32⟩
  | 70 => ⟨S512x2048, .f32⟩
  | 71 => ⟨S512x2048, .f32⟩
  | 72 => ⟨S_, .f32⟩
  | 73 => ⟨S512x2048, .f32⟩
  | 74 => ⟨S512x2048, .f32⟩
  | 75 => ⟨S512x2048, .f32⟩
  | 76 => ⟨S_, .f32⟩
  | 77 => ⟨S512x2048, .f32⟩
  | 78 => ⟨S512x2048, .f32⟩
  | 79 => ⟨S512x2048, .f32⟩
  | 80 => ⟨S_, .f32⟩
  | 81 => ⟨S512x2048, .f32⟩
  | 82 => ⟨S512x2048, .f32⟩
  | 83 => ⟨S_, .f32⟩
  | 84 => ⟨S512x2048, .f32⟩
  | 85 => ⟨S512x2048, .f32⟩
  | 86 => ⟨S512x2048, .f32⟩
  | 87 => ⟨S512x1024, .f32⟩
  | 88 => ⟨S512x1024, .f32⟩
  | 89 => ⟨S_, .f32⟩
  | 90 => ⟨S512, .f32⟩
  | 91 => ⟨S512x1, .f32⟩
  | 92 => ⟨S_, .f32⟩
  | 93 => ⟨S512x1, .f32⟩
  | 94 => ⟨S512x1, .f32⟩
  | 95 => ⟨S512x1024, .f32⟩
  | 96 => ⟨S512x1024, .f32⟩
  | 97 => ⟨S512x1024, .f32⟩
  | 98 => ⟨S_, .f32⟩
  | 99 => ⟨S512, .f32⟩
  | 100 => ⟨S512x1, .f32⟩
  | 101 => ⟨S_, .f32⟩
  | 102 => ⟨S512x1, .f32⟩
  | 103 => ⟨S512x1, .f32⟩
  | 104 => ⟨S512x1024, .f32⟩
  | 105 => ⟨S512x1024, .f32⟩
  | 106 => ⟨S_, .f32⟩
  | 107 => ⟨S512x1, .f32⟩
  | 108 => ⟨S512x1, .f32⟩
  | 109 => ⟨S512x1, .f32⟩
  | 110 => ⟨S512x1024, .f32⟩
  | 111 => ⟨S512x1024, .f32⟩
  | 112 => ⟨S1x1024, .f32⟩
  | 113 => ⟨S512x1024, .f32⟩
  | 114 => ⟨S512x1024, .f32⟩
  | 115 => ⟨S1x1024, .f32⟩
  | 116 => ⟨S512x1024, .f32⟩
  | 117 => ⟨S512x1024, .f32⟩
  | 118 => ⟨S_, .f32⟩
  | 119 => ⟨S128x128, .f32⟩
  | 120 => ⟨S128x128, .i32⟩
  | 121 => ⟨S_, .i32⟩
  | 122 => ⟨S128x128, .i32⟩
  | 123 => ⟨S128x128, .i32⟩
  | 124 => ⟨S128x128, .i32⟩
  | 125 => ⟨S128x128, .i1⟩
  | 126 => ⟨S_, .f32⟩
  | 127 => ⟨S128x128, .f32⟩
  | _ => ⟨S512x1024, .f32⟩

abbrev hbmTy0_1 (i : Nat) : BufTy := match i % 128 with
  | 0 => ⟨S128x128, .f32⟩
  | 1 => ⟨S1x128x128, .f32⟩
  | 2 => ⟨S4x128x128, .f32⟩
  | 3 => ⟨S4x128x128, .f32⟩
  | 4 => ⟨S4x16x16, .f32⟩
  | 5 => ⟨S32x16x4x256, .f32⟩
  | 6 => ⟨S4x32x256x16, .f32⟩
  | 7 => ⟨S32x16x4x256, .f32⟩
  | 8 => ⟨S4x16, .f32⟩
  | 9 => ⟨S16x4, .f32⟩
  | 10 => ⟨S1x16x4x1, .f32⟩
  | 11 => ⟨S32x16x4x256, .f32⟩
  | 12 => ⟨S32x16x4x256, .f32⟩
  | 13 => ⟨S512x1024, .f32⟩
  | 14 => ⟨S512x1024, .f32⟩
  | 15 => ⟨S512x256, .bf16⟩
  | 16 => ⟨S512x64, .bf16⟩
  | 17 => ⟨S512x1024, .bf16⟩
  | 18 => ⟨S_, .f32⟩
  | 19 => ⟨S512x1024, .f32⟩
  | 20 => ⟨S512x1024, .f32⟩
  | 21 => ⟨S512x1024, .bf16⟩
  | 22 => ⟨S512x256, .bf16⟩
  | 23 => ⟨S512x512, .bf16⟩
  | 24 => ⟨S_, .i32⟩
  | 25 => ⟨S_, .f32⟩
  | 26 => ⟨S512x128, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_call1_v0 : Ref sig .tc := ⟨.hbm, 120, rfl⟩
abbrev main_call1_c : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_call1_cst : Ref sig .tc := ⟨.hbm, 126, rfl⟩
abbrev main_call1_v5 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_16 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c : Ref sig .tc := ⟨.hbm, 152, rfl⟩
abbrev main_call2_v0 : Ref sig .tc := ⟨.hbm, 153, rfl⟩
abbrev main_v107 : Ref sig .tc := ⟨.hbm, 154, rfl⟩

abbrev nD : Nat := 1
abbrev τ : Topo := Topo.v7x

variable {F : FTy → Type} [FloatOps F]
-- ==== Merge.lean ====
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 26
  | .vmem => 23
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S1x1024, .f32⟩
  | .hbm, ⟨24, _⟩ => ⟨S1x1024, .f32⟩
  | .hbm, ⟨25, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x2816, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 121
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S65536x1, .f32⟩
  | .hbm, ⟨64, _⟩ => ⟨S65536x1024, .f32⟩
  | .hbm, ⟨65, _⟩ => ⟨S65536x1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | .hbm, ⟨72, _⟩ => ⟨S_, .f32⟩
  | .hbm, ⟨73, _⟩ => ⟨S65536x1024, .f32⟩
  | .hbm, ⟨74, _⟩ => ⟨S65536x1024, .f32⟩
  | .hbm, ⟨75, _⟩ => ⟨S65536x2816, .f32⟩
  | .hbm, ⟨76, _⟩ => ⟨S65536x2816, .f32⟩
  | .hbm, ⟨77, _⟩ => ⟨S65536x2816, .f32⟩
  | .hbm, ⟨78, _⟩ => ⟨S_, .f32⟩
  | .hbm, ⟨79, _⟩ => ⟨S65536x2816, .f32⟩
  | .hbm, ⟨80, _⟩ => ⟨S65536x2816, .f32⟩
  | .hbm, ⟨81, _⟩ => ⟨S_, .f32⟩
  | .hbm, ⟨82, _⟩ => ⟨S65536x2816, .f32⟩
  | .hbm, ⟨83, _⟩ => ⟨S65536x2816, .f32⟩
  | .hbm, ⟨84, _⟩ => ⟨S65536x2816, .f32⟩
  | .hbm, ⟨85, _⟩ => ⟨S65536x2816, .f32⟩
  | .hbm, ⟨86, _⟩ => ⟨S65536x2816, .f32⟩
  | .hbm, ⟨87, _⟩ => ⟨S65536x1024, .f32⟩
  | .hbm, ⟨88, _⟩ => ⟨S_, .f32⟩
  | .hbm, ⟨89, _⟩ => ⟨S65536x1024, .f32⟩
  | .hbm, ⟨90, _⟩ => ⟨S65536x1024, .f32⟩
  | .hbm, ⟨91, _⟩ => ⟨S65536x1024, .f32⟩
  | .hbm, ⟨92, _⟩ => ⟨S_, .f32⟩
  | .hbm, ⟨93, _⟩ => ⟨S65536, .f32⟩
  | .hbm, ⟨94, _⟩ => ⟨S65536x1, .f32⟩
  | .hbm, ⟨95, _⟩ => ⟨S_, .f32⟩
  | .hbm, ⟨96, _⟩ => ⟨S65536x1, .f32⟩
  | .hbm, ⟨97, _⟩ => ⟨S65536x1, .f32⟩
  | .hbm, ⟨98, _⟩ => ⟨S65536x1024, .f32⟩
  | .hbm, ⟨99, _⟩ => ⟨S65536x1024, .f32⟩
  | .hbm, ⟨100, _⟩ => ⟨S65536x1024, .f32⟩
  | .hbm, ⟨101, _⟩ => ⟨S_, .f32⟩
  | .hbm, ⟨102, _⟩ => ⟨S65536, .f32⟩
  | .hbm, ⟨103, _⟩ => ⟨S65536x1, .f32⟩
  | .hbm, ⟨104, _⟩ => ⟨S_, .f32⟩
  | .hbm, ⟨105, _⟩ => ⟨S65536x1, .f32⟩
  | .hbm, ⟨106, _⟩ => ⟨S65536x1, .f32⟩
  | .hbm, ⟨107, _⟩ => ⟨S65536x1024, .f32⟩
  | .hbm, ⟨108, _⟩ => ⟨S65536x1024, .f32⟩
  | .hbm, ⟨109, _⟩ => ⟨S_, .f32⟩
  | .hbm, ⟨110, _⟩ => ⟨S65536x1, .f32⟩
  | .hbm, ⟨111, _⟩ => ⟨S65536x1, .f32⟩
  | .hbm, ⟨112, _⟩ => ⟨S65536x1, .f32⟩
  | .hbm, ⟨113, _⟩ => ⟨S65536x1024, .f32⟩
  | .hbm, ⟨114, _⟩ => ⟨S65536x1024, .f32⟩
  | .hbm, ⟨115, _⟩ => ⟨S1x1024, .f32⟩
  | .hbm, ⟨116, _⟩ => ⟨S65536x1024, .f32⟩
  | .hbm, ⟨117, _⟩ => ⟨S65536x1024, .f32⟩
  | .hbm, ⟨118, _⟩ => ⟨S1x1024, .f32⟩
  | .hbm, ⟨119, _⟩ => ⟨S65536x1024, .f32⟩
  | .hbm, ⟨120, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩

abbrev nD : Nat := 1
abbrev τ : Topo := Topo.v7x

variable {F : FTy → Type} [FloatOps F]
-- ==== MergeSample.lean ====
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S128x1024 : Shape := ⟨2, ![128, 1024]⟩
abbrev S128x2816 : Shape := ⟨2, ![128, 2816]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩

abbrev nBuf : Space → Nat
  | .hbm => 26
  | .vmem => 23
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S1x1024, .f32⟩
  | .hbm, ⟨24, _⟩ => ⟨S1x1024, .f32⟩
  | .hbm, ⟨25, _⟩ => ⟨S512x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S1x1024, .f32⟩
  | .local _ .vmem, ⟨20, _⟩ => ⟨S128x1024, .f32⟩
  | .local _ .vmem, ⟨21, _⟩ => ⟨S128x1024, .f32⟩
  | .local _ .vmem, ⟨22, _⟩ => ⟨S128x2816, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeSampleRefIdeal.lean ====
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2816 : Shape := ⟨2, ![512, 2816]⟩

abbrev nBuf : Space → Nat
  | .hbm => 121
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512, .f32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S_, .f32⟩
  | .hbm, ⟨53, _⟩ => ⟨S512, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S512x1024, .f32⟩
  | .hbm, ⟨59, _⟩ => ⟨S512x1024, .f32⟩
  | .hbm, ⟨60, _⟩ => ⟨S_, .f32⟩
  | .hbm, ⟨61, _⟩ => ⟨S512x1, .f32⟩
  | .hbm, ⟨62, _⟩ => ⟨S512x1, .f32⟩
  | .hbm, ⟨63, _⟩ => ⟨S512x1, .f32⟩
  | .hbm, ⟨64, _⟩ => ⟨S512x1024, .f32⟩
  | .hbm, ⟨65, _⟩ => ⟨S512x1024, .f32⟩
  | .hbm, ⟨66, _⟩ => ⟨S1x1024, .f32⟩
  | .hbm, ⟨67, _⟩ => ⟨S512x1024, .f32⟩
  | .hbm, ⟨68, _⟩ => ⟨S512x1024, .f32⟩
  | .hbm, ⟨69, _⟩ => ⟨S1x1024, .f32⟩
  | .hbm, ⟨70, _⟩ => ⟨S512x1024, .f32⟩
  | .hbm, ⟨71, _⟩ => ⟨S512x1024, .f32⟩
  | .hbm, ⟨72, _⟩ => ⟨S_, .f32⟩
  | .hbm, ⟨73, _⟩ => ⟨S512x1024, .f32⟩
  | .hbm, ⟨74, _⟩ => ⟨S512x1024, .f32⟩
  | .hbm, ⟨75, _⟩ => ⟨S512x2816, .f32⟩
  | .hbm, ⟨76, _⟩ => ⟨S512x2816, .f32⟩
  | .hbm, ⟨77, _⟩ => ⟨S512x2816, .f32⟩
  | .hbm, ⟨78, _⟩ => ⟨S_, .f32⟩
  | .hbm, ⟨79, _⟩ => ⟨S512x2816, .f32⟩
  | .hbm, ⟨80, _⟩ => ⟨S512x2816, .f32⟩
  | .hbm, ⟨81, _⟩ => ⟨S_, .f32⟩
  | .hbm, ⟨82, _⟩ => ⟨S512x2816, .f32⟩
  | .hbm, ⟨83, _⟩ => ⟨S512x2816, .f32⟩
  | .hbm, ⟨84, _⟩ => ⟨S512x2816, .f32⟩
  | .hbm, ⟨85, _⟩ => ⟨S512x2816, .f32⟩
  | .hbm, ⟨86, _⟩ => ⟨S512x2816, .f32⟩
  | .hbm, ⟨87, _⟩ => ⟨S512x1024, .f32⟩
  | .hbm, ⟨88, _⟩ => ⟨S_, .f32⟩
  | .hbm, ⟨89, _⟩ => ⟨S512x1024, .f32⟩
  | .hbm, ⟨90, _⟩ => ⟨S512x1024, .f32⟩
  | .hbm, ⟨91, _⟩ => ⟨S512x1024, .f32⟩
  | .hbm, ⟨92, _⟩ => ⟨S_, .f32⟩
  | .hbm, ⟨93, _⟩ => ⟨S512, .f32⟩
  | .hbm, ⟨94, _⟩ => ⟨S512x1, .f32⟩
  | .hbm, ⟨95, _⟩ => ⟨S_, .f32⟩
  | .hbm, ⟨96, _⟩ => ⟨S512x1, .f32⟩
  | .hbm, ⟨97, _⟩ => ⟨S512x1, .f32⟩
  | .hbm, ⟨98, _⟩ => ⟨S512x1024, .f32⟩
  | .hbm, ⟨99, _⟩ => ⟨S512x1024, .f32⟩
  | .hbm, ⟨100, _⟩ => ⟨S512x1024, .f32⟩
  | .hbm, ⟨101, _⟩ => ⟨S_, .f32⟩
  | .hbm, ⟨102, _⟩ => ⟨S512, .f32⟩
  | .hbm, ⟨103, _⟩ => ⟨S512x1, .f32⟩
  | .hbm, ⟨104, _⟩ => ⟨S_, .f32⟩
  | .hbm, ⟨105, _⟩ => ⟨S512x1, .f32⟩
  | .hbm, ⟨106, _⟩ => ⟨S512x1, .f32⟩
  | .hbm, ⟨107, _⟩ => ⟨S512x1024, .f32⟩
  | .hbm, ⟨108, _⟩ => ⟨S512x1024, .f32⟩
  | .hbm, ⟨109, _⟩ => ⟨S_, .f32⟩
  | .hbm, ⟨110, _⟩ => ⟨S512x1, .f32⟩
  | .hbm, ⟨111, _⟩ => ⟨S512x1, .f32⟩
  | .hbm, ⟨112, _⟩ => ⟨S512x1, .f32⟩
  | .hbm, ⟨113, _⟩ => ⟨S512x1024, .f32⟩
  | .hbm, ⟨114, _⟩ => ⟨S512x1024, .f32⟩
  | .hbm, ⟨115, _⟩ => ⟨S1x1024, .f32⟩
  | .hbm, ⟨116, _⟩ => ⟨S512x1024, .f32⟩
  | .hbm, ⟨117, _⟩ => ⟨S512x1024, .f32⟩
  | .hbm, ⟨118, _⟩ => ⟨S1x1024, .f32⟩
  | .hbm, ⟨119, _⟩ => ⟨S512x1024, .f32⟩
  | .hbm, ⟨120, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩

abbrev nD : Nat := 1
abbrev τ : Topo := Topo.v7x

variable {F : FTy → Type} [FloatOps F]
-- ==== Prompt.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S1024x6216 : Shape := ⟨2, ![1024, 6216]⟩
abbrev S4x128x128 : Shape := ⟨3, ![4, 128, 128]⟩
abbrev S4x128 : Shape := ⟨2, ![4, 128]⟩
abbrev S1024x512 : Shape := ⟨2, ![1024, 512]⟩
abbrev S1024x64 : Shape := ⟨2, ![1024, 64]⟩
abbrev S_ : Shape := ⟨0, ![]⟩
abbrev S1024x128 : Shape := ⟨2, ![1024, 128]⟩
abbrev S1024x8 : Shape := ⟨2, ![1024, 8]⟩
abbrev S1024x768 : Shape := ⟨2, ![1024, 768]⟩
abbrev S1024x1536 : Shape := ⟨2, ![1024, 1536]⟩
abbrev S1024x2048 : Shape := ⟨2, ![1024, 2048]⟩
abbrev S1024x1024 : Shape := ⟨2, ![1024, 1024]⟩
abbrev S1x1024 : Shape := ⟨2, ![1, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1x4x1x128x1x128 : Shape := ⟨6, ![1, 4, 1, 128, 1, 128]⟩
abbrev S128x4 : Shape := ⟨2, ![128, 4]⟩
abbrev S1x128x1x4 : Shape := ⟨4, ![1, 128, 1, 4]⟩
abbrev S65536x256 : Shape := ⟨2, ![65536, 256]⟩
abbrev S65536x64 : Shape := ⟨2, ![65536, 64]⟩
abbrev S1024x65536 : Shape := ⟨2, ![1024, 65536]⟩
abbrev S512x65536 : Shape := ⟨2, ![512, 65536]⟩
abbrev S8x65536 : Shape := ⟨2, ![8, 65536]⟩
abbrev S256x256x256 : Shape := ⟨3, ![256, 256, 256]⟩
abbrev S512x64 : Shape := ⟨2, ![512, 64]⟩
abbrev S512x512 : Shape := ⟨2, ![512, 512]⟩
abbrev S8x512 : Shape := ⟨2, ![8, 512]⟩
abbrev S2x256x256 : Shape := ⟨3, ![2, 256, 256]⟩
abbrev S512x2048 : Shape := ⟨2, ![512, 2048]⟩
abbrev S512x1536 : Shape := ⟨2, ![512, 1536]⟩
abbrev S512x768 : Shape := ⟨2, ![512, 768]⟩
abbrev S512x128 : Shape := ⟨2, ![512, 128]⟩
abbrev S128x512 : Shape := ⟨2, ![128, 512]⟩
abbrev S256x512 : Shape := ⟨2, ![256, 512]⟩
abbrev S256x256 : Shape := ⟨2, ![256, 256]⟩
abbrev S1x256x256 : Shape := ⟨3, ![1, 256, 256]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 53
  | .vmem => 45
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x6216, .f32⟩
  | .hbm, ⟨7, _⟩ => ⟨S1024, .f32⟩
  | .hbm, ⟨8, _⟩ => ⟨S1024, .f32⟩
  | .hbm, ⟨9, _⟩ => ⟨S4x128x128, .f32⟩
  | .hbm, ⟨10, _⟩ => ⟨S4x128, .f32⟩
  | .hbm, ⟨11, _⟩ => ⟨S1024x6216, .bf16⟩
  | .hbm, ⟨12, _⟩ => ⟨S1024x512, .bf16⟩
  | .hbm, ⟨13, _⟩ => ⟨S1024x64, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S1024x8, .bf16⟩
  | .hbm, ⟨18, _⟩ => ⟨S_, .i32⟩
  | .hbm, ⟨19, _⟩ => ⟨S_, .bf16⟩
  | .hbm, ⟨20, _⟩ => ⟨S1024x128, .bf16⟩
  | .hbm, ⟨21, _⟩ => ⟨S1024x768, .bf16⟩
  | .hbm, ⟨22, _⟩ => ⟨S1024x1536, .bf16⟩
  | .hbm, ⟨23, _⟩ => ⟨S1024x2048, .bf16⟩
  | .hbm, ⟨24, _⟩ => ⟨S1024x1024, .bf16⟩
  | .hbm, ⟨25, _⟩ => ⟨S1024x1024, .bf16⟩
  | .hbm, ⟨26, _⟩ => ⟨S1024x2816, .bf16⟩
  | .hbm, ⟨27, _⟩ => ⟨S1024x2816, .bf16⟩
  | .hbm, ⟨28, _⟩ => ⟨S2816x1024, .bf16⟩
  | .hbm, ⟨29, _⟩ => ⟨S1x1024, .f32⟩
  | .hbm, ⟨30, _⟩ => ⟨S1x1024, .f32⟩
  | .hbm, ⟨31, _⟩ => ⟨S65536x1024, .f32⟩
  | .hbm, ⟨32, _⟩ => ⟨S1x4x1x128x1x128, .f32⟩
  | .hbm, ⟨33, _⟩ => ⟨S1x4x1x128x1x128, .f32⟩
  | .hbm, ⟨34, _⟩ => ⟨S4x128x128, .f32⟩
  | .hbm, ⟨35, _⟩ => ⟨S128x4, .f32⟩
  | .hbm, ⟨36, _⟩ => ⟨S1x128x1x4, .f32⟩
  | .hbm, ⟨37, _⟩ => ⟨S1x128x1x4, .f32⟩
  | .hbm, ⟨38, _⟩ => ⟨S128x4, .f32⟩
  | .hbm, ⟨39, _⟩ => ⟨S1x1024, .f32⟩
  | .hbm, ⟨40, _⟩ => ⟨S1x1024, .f32⟩
  | .hbm, ⟨41, _⟩ => ⟨S65536x256, .f32⟩
  | .hbm, ⟨42, _⟩ => ⟨S65536x256, .f32⟩
  | .hbm, ⟨43, _⟩ => ⟨S65536x64, .f32⟩
  | .hbm, ⟨44, _⟩ => ⟨S65536x256, .bf16⟩
  | .hbm, ⟨45, _⟩ => ⟨S65536x64, .bf16⟩
  | .hbm, ⟨46, _⟩ => ⟨S65536x1024, .bf16⟩
  | .hbm, ⟨47, _⟩ => ⟨S65536x1024, .f32⟩
  | .hbm, ⟨48, _⟩ => ⟨S65536x1024, .f32⟩
  | .hbm, ⟨49, _⟩ => ⟨S1024x65536, .bf16⟩
  | .hbm, ⟨50, _⟩ => ⟨S512x65536, .bf16⟩
  | .hbm, ⟨51, _⟩ => ⟨S8x65536, .f32⟩
  | .hbm, ⟨52, _⟩ => ⟨S256x256x256, .bf16⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | .local _ .vmem, ⟨10, _⟩ => ⟨S512x1024, .f32⟩
  | .local _ .vmem, ⟨11, _⟩ => ⟨S512x1024, .f32⟩
  | .local _ .vmem, ⟨12, _⟩ => ⟨S1024x1536, .bf16⟩
  | .local _ .vmem, ⟨13, _⟩ => ⟨S1024x768, .bf16⟩
  | .local _ .vmem, ⟨14, _⟩ => ⟨S1024x2048, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S4x128x128, .f32⟩
  | .local _ .vmem, ⟨20, _⟩ => ⟨S128x4, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x64, .f32⟩
  | .local _ .vmem, ⟨26, _⟩ => ⟨S512x64, .f32⟩
  | .local _ .vmem, ⟨27, _⟩ => ⟨S512x256, .bf16⟩
  | .local _ .vmem, ⟨28, _⟩ => ⟨S512x256, .bf16⟩
  | .local _ .vmem, ⟨29, _⟩ => ⟨S512x64, .bf16⟩
  | .local _ .vmem, ⟨30, _⟩ => ⟨S512x64, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S1024x512, .bf16⟩
  | .local _ .vmem, ⟨38, _⟩ => ⟨S1024x512, .bf16⟩
  | .local _ .vmem, ⟨39, _⟩ => ⟨S512x512, .bf16⟩
  | .local _ .vmem, ⟨40, _⟩ => ⟨S512x512, .bf16⟩
  | .local _ .vmem, ⟨41, _⟩ => ⟨S8x512, .f32⟩
  | .local _ .vmem, ⟨42, _⟩ => ⟨S8x512, .f32⟩
  | .local _ .vmem, ⟨43, _⟩ => ⟨S2x256x256, .bf16⟩
  | .local _ .vmem, ⟨44, _⟩ => ⟨S2x256x256, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev main_v26_5 : Ref sig .tc := ⟨.hbm, 46, rfl⟩
abbrev main_v26_6 : Ref sig .tc := ⟨.hbm, 47, rfl⟩
abbrev main_v26_7 : Ref sig .tc := ⟨.hbm, 48, rfl⟩
abbrev main_v26_8 : Ref sig .tc := ⟨.hbm, 49, rfl⟩
abbrev main_v26_9 : Ref sig .tc := ⟨.hbm, 50, rfl⟩
abbrev main_v26_10 : Ref sig .tc := ⟨.hbm, 51, rfl⟩
abbrev main_v26_11 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg16_1 : Ref sig .tc := ⟨.vmem, 34, rfl⟩
abbrev cc1_stg17_0 : Ref sig .tc := ⟨.vmem, 35, rfl⟩
abbrev cc1_stg17_1 : Ref sig .tc := ⟨.vmem, 36, rfl⟩
abbrev cc1_stg18_0 : Ref sig .tc := ⟨.vmem, 37, rfl⟩
abbrev cc1_stg18_1 : Ref sig .tc := ⟨.vmem, 38, rfl⟩
abbrev cc1_stg19_0 : Ref sig .tc := ⟨.vmem, 39, rfl⟩
abbrev cc1_stg19_1 : Ref sig .tc := ⟨.vmem, 40, rfl⟩
abbrev cc1_stg20_0 : Ref sig .tc := ⟨.vmem, 41, rfl⟩
abbrev cc1_stg20_1 : Ref sig .tc := ⟨.vmem, 42, rfl⟩
abbrev cc1_stg21_0 : Ref sig .tc := ⟨.vmem, 43, rfl⟩
abbrev cc1_stg21_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc1_sem15_0 : DmaSem sig := 30
abbrev cc1_sem15_1 : DmaSem sig := 31
abbrev cc1_sem16_0 : DmaSem sig := 32
abbrev cc1_sem16_1 : DmaSem sig := 33
abbrev cc1_sem17_0 : DmaSem sig := 34
abbrev cc1_sem17_1 : DmaSem sig := 35
abbrev cc1_sem18_0 : DmaSem sig := 36
abbrev cc1_sem18_1 : DmaSem sig := 37
abbrev cc1_sem19_0 : DmaSem sig := 38
abbrev cc1_sem19_1 : DmaSem sig := 39
abbrev cc1_sem20_0 : DmaSem sig := 40
abbrev cc1_sem20_1 : DmaSem sig := 41
abbrev cc1_sem21_0 : DmaSem sig := 42
abbrev cc1_sem21_1 : DmaSem sig := 43

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_20 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_21 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x4 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x64 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x1024 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1024x512 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S512x512 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S8x512 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S2x256x256 .bf16 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]
-- ==== PromptRefIdeal.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S1024x6216 : Shape := ⟨2, ![1024, 6216]⟩
abbrev S4x128x128 : Shape := ⟨3, ![4, 128, 128]⟩
abbrev S4x128 : Shape := ⟨2, ![4, 128]⟩
abbrev S_ : Shape := ⟨0, ![]⟩
abbrev S65536x2816 : Shape := ⟨2, ![65536, 2816]⟩
abbrev S65536 : Shape := ⟨1, ![65536]⟩
abbrev S65536x1 : Shape := ⟨2, ![65536, 1]⟩
abbrev S1x1024 : Shape := ⟨2, ![1, 1024]⟩
abbrev S65536x6216 : Shape := ⟨2, ![65536, 6216]⟩
abbrev S65536x256 : Shape := ⟨2, ![65536, 256]⟩
abbrev S65536x64 : Shape := ⟨2, ![65536, 64]⟩

abbrev nBuf : Space → Nat
  | .hbm => 64
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x6216, .f32⟩
  | .hbm, ⟨7, _⟩ => ⟨S1024, .f32⟩
  | .hbm, ⟨8, _⟩ => ⟨S1024, .f32⟩
  | .hbm, ⟨9, _⟩ => ⟨S4x128x128, .f32⟩
  | .hbm, ⟨10, _⟩ => ⟨S4x128, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S_, .f32⟩
  | .hbm, ⟨18, _⟩ => ⟨S65536x2816, .f32⟩
  | .hbm, ⟨19, _⟩ => ⟨S65536x2816, .f32⟩
  | .hbm, ⟨20, _⟩ => ⟨S_, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S65536x1, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | .hbm, ⟨60, _⟩ => ⟨S65536x6216, .f32⟩
  | .hbm, ⟨61, _⟩ => ⟨S65536x256, .f32⟩
  | .hbm, ⟨62, _⟩ => ⟨S65536x256, .f32⟩
  | .hbm, ⟨63, _⟩ => ⟨S65536x64, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Proof.RowsBody.lean ====
/- The body of the attention kernel, run: on whole staging buffers, the inputs' at their contents and the output's
and the scratch buffers' at anything, the body ends with the inputs' as they were and the others at some contents.
The one branch of the body — whether some row has a tie at its cut — is taken both ways. -/
module

public import proofs.«01_k».proof.Proof.Gen.Rows.Frame
public import proofs.«01_k».proof.Proof.Gen.Rows.Loops
public import proofs.«01_k».proof.Proof.Gen.Rows.Skeleton

@[expose] public section

set_option maxRecDepth 16384

noncomputable section

namespace Cert.Rows

open Cert.Rows.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body runs, whichever way its branch goes, and gives every buffer back. -/
theorem body_run (c : Dev nD) (i : grid0.Coords) (arg1 : Memref sig .tc .vmem S1x16x1024 .bf16) (harg1 : arg1.IsWhole) (arg2 : Memref sig .tc .vmem S1x16x512 .bf16) (harg2 : arg2.IsWhole) (arg3 : Memref sig .tc .vmem S1x16x128 .f32) (harg3 : arg3.IsWhole) (arg4 : Memref sig .tc .vmem S1x1152x256 .bf16) (harg4 : arg4.IsWhole) (arg5 : Memref sig .tc .vmem S1x1152x256 .bf16) (harg5 : arg5.IsWhole) (arg6 : Memref sig .tc .vmem S1x1152x64 .bf16) (harg6 : arg6.IsWhole) (arg7 : Memref sig .tc .vmem S2x16x16x128 .f32) (harg7 : arg7.IsWhole) (arg8 : Memref sig .tc .vmem S1x16x1024 .bf16) (harg8 : arg8.IsWhole) (arg9 : Memref sig .tc .vmem S9x16x128 .i32) (harg9 : arg9.IsWhole) (arg10 : Memref sig .tc .vmem S4x64x64 .bf16) (harg10 : arg10.IsWhole) (arg11 : Memref sig .tc .vmem S128x64 .bf16) (harg11 : arg11.IsWhole) (arg12 : Memref sig .tc .vmem S8x16x128 .f32) (harg12 : arg12.IsWhole)
    (x0 : Vec F S1x16x1024 .bf16) (x1 : Vec F S1x16x512 .bf16) (x2 : Vec F S1x16x128 .f32) (x3 : Vec F S1x1152x256 .bf16) (x4 : Vec F S1x1152x256 .bf16) (x5 : Vec F S1x1152x64 .bf16) (x6 : Vec F S2x16x16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_dsa_rows i arg1 harg1 arg2 harg2 arg3 harg3 arg4 harg4 arg5 harg5 arg6 harg6 arg7 harg7 arg8 harg8 arg9 harg9 arg10 harg10 arg11 harg11 arg12 harg12) K := by
    intro E K
    simp only [cc0_dsa_rows_eq_skeleton]; unfold cc0_dsa_rows_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    split
    all_goals
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      iexists _, _; isplitr; swap; · iexact H11
      ipureintro; rfl

end Cert.Rows

end
-- ==== Proof.RowsFrame.lean ====
/- The attention kernel's frame: it ends, it writes none of its arguments, and it leaves every semaphore counter at
zero. Nothing is said here of what it computes, so the output's contents after a grid point are left unnamed. -/
module

public import proofs.«01_k».proof.Proof.RowsBody

@[expose] public section

set_option maxRecDepth 16384

noncomputable section

namespace Cert.Rows

open Cert.Rows.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The one output window is the last; its contents are not named. -/
def unnamedOut : Fin 8 → Bool := fun w => w.val == 7

/-- What each window's buffer holds after the body at a point: an input still its block, the output nothing named. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

/-- The arrays are those the kernel is entered with. -/
theorem dat_A (c : Dev nD) (w : Fin cfg0.W) : (dat m 0 c).A w = V m c (Pipeline.arrRef spec0 w) := by
  dsimp only [dat]

/-- Input 0's buffer is left at its block, -/
theorem kept_0 (c : Dev nD) (t : Fin cfg0.N) : (dat m 0 c).after 0 t = iblk m c 0 t := by dsimp only [dat]
/-- and so holds it when a point begins. -/
theorem held_0 (c : Dev nD) (t : Fin cfg0.N) (d) : (dat m 0 c).before 0 t d = iblk m c 0 t :=
  before0_0_of m (dat m 0 c) (dat_A m c 0) (kept_0 m c) t d
/-- Input 1's buffer is left at its block, -/
theorem kept_1 (c : Dev nD) (t : Fin cfg0.N) : (dat m 0 c).after 1 t = iblk m c 1 t := by dsimp only [dat]
/-- and so holds it when a point begins. -/
theorem held_1 (c : Dev nD) (t : Fin cfg0.N) (d) : (dat m 0 c).before 1 t d = iblk m c 1 t :=
  before0_1_of m (dat m 0 c) (dat_A m c 1) (kept_1 m c) t d
/-- Input 2's buffer is left at its block, -/
theorem kept_2 (c : Dev nD) (t : Fin cfg0.N) : (dat m 0 c).after 2 t = iblk m c 2 t := by dsimp only [dat]
/-- and so holds it when a point begins. -/
theorem held_2 (c : Dev nD) (t : Fin cfg0.N) (d) : (dat m 0 c).before 2 t d = iblk m c 2 t :=
  before0_2_of m (dat m 0 c) (dat_A m c 2) (kept_2 m c) t d
/-- Input 3's buffer is left at its block, -/
theorem kept_3 (c : Dev nD) (t : Fin cfg0.N) : (dat m 0 c).after 3 t = iblk m c 3 t := by dsimp only [dat]
/-- and so holds it when a point begins. -/
theorem held_3 (c : Dev nD) (t : Fin cfg0.N) (d) : (dat m 0 c).before 3 t d = iblk m c 3 t :=
  before0_3_of m (dat m 0 c) (dat_A m c 3) (kept_3 m c) t d
/-- Input 4's buffer is left at its block, -/
theorem kept_4 (c : Dev nD) (t : Fin cfg0.N) : (dat m 0 c).after 4 t = iblk m c 4 t := by dsimp only [dat]
/-- and so holds it when a point begins. -/
theorem held_4 (c : Dev nD) (t : Fin cfg0.N) (d) : (dat m 0 c).before 4 t d = iblk m c 4 t :=
  before0_4_of m (dat m 0 c) (dat_A m c 4) (kept_4 m c) t d
/-- Input 5's buffer is left at its block, -/
theorem kept_5 (c : Dev nD) (t : Fin cfg0.N) : (dat m 0 c).after 5 t = iblk m c 5 t := by dsimp only [dat]
/-- and so holds it when a point begins. -/
theorem held_5 (c : Dev nD) (t : Fin cfg0.N) (d) : (dat m 0 c).before 5 t d = iblk m c 5 t :=
  before0_5_of m (dat m 0 c) (dat_A m c 5) (kept_5 m c) t d
/-- Input 6's buffer is left at its block, -/
theorem kept_6 (c : Dev nD) (t : Fin cfg0.N) : (dat m 0 c).after 6 t = iblk m c 6 t := by dsimp only [dat]
/-- and so holds it when a point begins. -/
theorem held_6 (c : Dev nD) (t : Fin cfg0.N) (d) : (dat m 0 c).before 6 t d = iblk m c 6 t :=
  before0_6_of m (dat m 0 c) (dat_A m c 6) (kept_6 m c) t d

/-- The four scratch buffers. -/
abbrev keysM : Memref sig .tc .vmem S9x16x128 .i32 := Memref.whole cc0_scratch0
abbrev sqM : Memref sig .tc .vmem S4x64x64 .bf16 := Memref.whole cc0_scratch1
abbrev iqM : Memref sig .tc .vmem S128x64 .bf16 := Memref.whole cc0_scratch2
abbrev wbM : Memref sig .tc .vmem S8x16x128 .f32 := Memref.whole cc0_scratch3

/-- Between points: the scratch buffers at some contents, and the generator register. -/
theorem between (c : Dev nD) :
    (Pipeline.ΦA spec0 c : sProp 𝕄)
      = iprop(iprop((∃ d, owns (c : Thread nD τ) keysM fullShare d) ∗ (∃ d, owns (c : Thread nD τ) sqM fullShare d)
          ∗ (∃ d, owns (c : Thread nD τ) iqM fullShare d) ∗ (∃ d, owns (c : Thread nD τ) wbM fullShare d))
        ∗ (∃ r, prngReg c r)) := by
  unfold Pipeline.ΦA; rw [scopedRest0_eq]; simp only [keysM, sqM, iqM, wbM, owns_whole]; rfl

/-- Window `w`'s buffer at point `t`. -/
abbrev stg_0 (t : Fin cfg0.N) : Memref sig .tc .vmem S1x16x1024 .bf16 := win0_0.stage (cfg0.slots t 0)
abbrev stg_1 (t : Fin cfg0.N) : Memref sig .tc .vmem S1x16x512 .bf16 := win0_1.stage (cfg0.slots t 1)
abbrev stg_2 (t : Fin cfg0.N) : Memref sig .tc .vmem S1x16x128 .f32 := win0_2.stage (cfg0.slots t 2)
abbrev stg_3 (t : Fin cfg0.N) : Memref sig .tc .vmem S1x1152x256 .bf16 := win0_3.stage (cfg0.slots t 3)
abbrev stg_4 (t : Fin cfg0.N) : Memref sig .tc .vmem S1x1152x256 .bf16 := win0_4.stage (cfg0.slots t 4)
abbrev stg_5 (t : Fin cfg0.N) : Memref sig .tc .vmem S1x1152x64 .bf16 := win0_5.stage (cfg0.slots t 5)
abbrev stg_6 (t : Fin cfg0.N) : Memref sig .tc .vmem S2x16x16x128 .f32 := win0_6.stage (cfg0.slots t 6)
abbrev stg_7 (t : Fin cfg0.N) : Memref sig .tc .vmem S1x16x1024 .bf16 := win0_7.stage (cfg0.slots t 7)

/-- What the body is called with at point `t`, -/
def entry (c : Dev nD) (t : Fin cfg0.N) : sProp 𝕄 :=
  iprop((dat m 0 c).Φ t.castSucc ∗ (dat m 0 c).owesAt () t.castSucc
    ∗ (∃ d, owns (c : Thread nD τ) (stg_0 t) fullShare ((dat m 0 c).before 0 t d))
    ∗ (∃ d, owns (c : Thread nD τ) (stg_1 t) fullShare ((dat m 0 c).before 1 t d))
    ∗ (∃ d, owns (c : Thread nD τ) (stg_2 t) fullShare ((dat m 0 c).before 2 t d))
    ∗ (∃ d, owns (c : Thread nD τ) (stg_3 t) fullShare ((dat m 0 c).before 3 t d))
    ∗ (∃ d, owns (c : Thread nD τ) (stg_4 t) fullShare ((dat m 0 c).before 4 t d))
    ∗ (∃ d, owns (c : Thread nD τ) (stg_5 t) fullShare ((dat m 0 c).before 5 t d))
    ∗ (∃ d, owns (c : Thread nD τ) (stg_6 t) fullShare ((dat m 0 c).before 6 t d))
    ∗ (∃ d, owns (c : Thread nD τ) (stg_7 t) fullShare d))

/-- and what it gives back. -/
def exit (c : Dev nD) (t : Fin cfg0.N) : sProp 𝕄 :=
  iprop((dat m 0 c).Φ t.succ ∗ (dat m 0 c).owesAt () t.succ
    ∗ owns (c : Thread nD τ) (stg_0 t) fullShare ((dat m 0 c).after 0 t)
    ∗ owns (c : Thread nD τ) (stg_1 t) fullShare ((dat m 0 c).after 1 t)
    ∗ owns (c : Thread nD τ) (stg_2 t) fullShare ((dat m 0 c).after 2 t)
    ∗ owns (c : Thread nD τ) (stg_3 t) fullShare ((dat m 0 c).after 3 t)
    ∗ owns (c : Thread nD τ) (stg_4 t) fullShare ((dat m 0 c).after 4 t)
    ∗ owns (c : Thread nD τ) (stg_5 t) fullShare ((dat m 0 c).after 5 t)
    ∗ owns (c : Thread nD τ) (stg_6 t) fullShare ((dat m 0 c).after 6 t)
    ∗ (∃ d, owns (c : Thread nD τ) (stg_7 t) fullShare d))

set_option maxHeartbeats 1600000 in
/-- The body at any point. -/
theorem body_at (c : Dev nD) (t : Fin cfg0.N) :
    entry m c t ⊢ wp frame (wpE (defs₀ (F := F)) Variants.none c none) Set.univ (bodyAt0 t) (fun _ => exit m c t) := by
  unfold entry exit bodyAt0
  simp only [held_0, held_1, held_2, held_3, held_4, held_5, held_6]
  rw [show (dat m 0 c).Φ t.succ = (dat m 0 c).Φ t.castSucc from rfl,
    show (dat m 0 c).owesAt () t.succ = (dat m 0 c).owesAt () t.castSucc from rfl,
    kept_0, kept_1, kept_2, kept_3, kept_4, kept_5, kept_6]
  rw [show (dat m 0 c).Φ t.castSucc = Pipeline.ΦA spec0 c from rfl, between]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  iintro ⟨H0, H1, H2, H3, H4, H5, H6, H7, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the pipeline calls at point `t` is the kernel at that point's buffers. -/
theorem called (t : Fin cfg0.N) :
    defs₀ (F := F) .tc cfg0.body (cfg0.bodyArgs t (cfg0.slots t)) = bodyAt0 t := by
  unfold defs₀; rw [Defs.onTc_tc]

/-- So every point runs. -/
theorem points_run (c : Dev nD) : BodyObligation (dat (F := F) m 0 c) (defs₀ (F := F)) Variants.none () Set.univ unnamedOut := fun t => by
  rw [bigSep_W0, bigSep_W0, called]
  exact triple_restated (body_at m c t) rfl .rfl fun _ => .rfl

set_option backward.isDefEq.respectTransparency.types false in
/-- The whole program runs: it ends with the inputs' arrays as they were and every semaphore counter at zero. -/
theorem runs : θ_run defs (onTc (τ := τ) (main (F := F))) (s₀ m ρ) (fun r => (Pipeline.RDat.FramePost (cfgs 0) (fun c => (dat m 0 c).toRForget unnamedOut) (V m)) r ∧ r.2.sem = fun _ => 0) :=
  Pipeline.θ_run_frame_forget (Q' := _) cfgs (dat m) (0 : Fin 1) launch0 defs₀ Variants.none unnamedOut m ρ main
    (hbody := fun c => (points_run m c).loose) (hshare := fun c => (dat m 0 c).share_full fun _ => rfl)
    (howed := fun _ _ => rfl) (V := V m) (hmain := hmain m Variants.none) (hA := dat_A m) (hΦ := fun _ _ => rfl)

/-- **The frame.** Every run of the attention kernel ends, with its seven arguments unchanged and every semaphore
counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans (dat_A m c 0),
      (Pipeline.RDat.FramePost.arr_in h.1 c 1 rfl).trans (dat_A m c 1),
      (Pipeline.RDat.FramePost.arr_in h.1 c 2 rfl).trans (dat_A m c 2),
      (Pipeline.RDat.FramePost.arr_in h.1 c 3 rfl).trans (dat_A m c 3),
      (Pipeline.RDat.FramePost.arr_in h.1 c 4 rfl).trans (dat_A m c 4),
      (Pipeline.RDat.FramePost.arr_in h.1 c 5 rfl).trans (dat_A m c 5),
      (Pipeline.RDat.FramePost.arr_in h.1 c 6 rfl).trans (dat_A m c 6)⟩, h.2⟩)
    (runs m ρ)

end Cert.Rows

end
-- ==== Proof.Layer.lean ====
/- The mathematics of the feed-forward half-step and of the layer normalization, over the extended reals, as plain functions of rows. -/
module

public import Idealize.ShloMosaic.Lib.Pointwise
public import Idealize.ShloMosaic.Lib.Pipeline.ValueKit

@[expose] public section

noncomputable section

open Idealize.ShloMosaic

namespace Cert.Layer

/-- The mean of a row of 1024 numbers: the sum over 1024. -/
def mean (z : Fin 1024 → EReal) : EReal := Ideal.div (∑ k, z k) (Ideal.ofBits FTy.f32 0x44800000#32)

/-- Layer normalization of a row: centre, divide by the root of variance plus ε, scale by `g`, shift by `b`. -/
def norm (z : Fin 1024 → EReal) (g b : EReal) (n : Fin 1024) : EReal :=
  (z n - mean z) * Ideal.rsqrt (mean (fun k => (z k - mean z) * (z k - mean z)) + Ideal.ofBits FTy.f32 0x3727C5AC#32) * g + b

/-- The logistic function. -/
def sigm (x : EReal) : EReal := Ideal.logistic x

/-- The Gaussian error unit in its tanh form: `x · ½ · (1 + tanh (√(2/π) · (x + c·x³)))`. -/
def gelu (x : EReal) : EReal :=
  x * (Ideal.ofBits FTy.f32 0x3F000000#32 * (1
    + Ideal.tanh (Ideal.ofBits FTy.f32 0x3F4C422A#32 * (x + Ideal.ofBits FTy.f32 0x3D372713#32 * (x * (x * x))))))

/-- The gated activation at hidden place `k`: `silu(x·wg) · (x·wu)`. -/
def act (x : Fin 1024 → EReal) (wg wu : Fin 1024 → EReal) : EReal :=
  (∑ i, x i * wg i) * sigm (∑ i, x i * wg i) * ∑ i, x i * wu i

/-- A half-step before its normalization: `α·x + ½·(act · wd)`. -/
def half (x : Fin 1024 → EReal) (a : Fin 2816 → EReal) (wd : Fin 2816 → Fin 1024 → EReal) (n : Fin 1024) : EReal :=
  Ideal.ofBits FTy.f32 0x3F9837F0#32 * x n + Ideal.ofBits FTy.f32 0x3F000000#32 * ∑ k, a k * wd k n

/-- The merge of the two branches: the gates' logistics times the branches' projections. -/
def merge (a gate ga gb : Fin 1024 → EReal) (wa wb : Fin 1024 → Fin 1024 → EReal) (k : Fin 1024) : EReal :=
  sigm (ga k) * (∑ i, a i * wa i k) + sigm (gb k) * ∑ i, gate i * wb i k

/-- The mixers' residual before its normalization: `α·h + merge · wo`. -/
def mixed (h mg : Fin 1024 → EReal) (wo : Fin 1024 → Fin 1024 → EReal) (n : Fin 1024) : EReal :=
  Ideal.ofBits FTy.f32 0x3F9837F0#32 * h n + ∑ k, mg k * wo k n

/-- The whole of the merge and the second half-step, on one row. -/
def mergeRow (a gate ga gb h : Fin 1024 → EReal) (wa wb wo : Fin 1024 → Fin 1024 → EReal) (g2 b2 : Fin 1024 → EReal)
    (wg wu : Fin 1024 → Fin 2816 → EReal) (wd : Fin 2816 → Fin 1024 → EReal) (g3 b3 : Fin 1024 → EReal) (n : Fin 1024) : EReal :=
  let h2 : Fin 1024 → EReal := fun k => norm (mixed h (merge a gate ga gb wa wb) wo) (g2 k) (b2 k) k
  norm (half h2 (fun k => act h2 (fun i => wg i k) (fun i => wu i k)) wd) (g3 n) (b3 n) n

/-- A load `B` of a rectangle of a matrix `X` at row offset `o`, column offset `p`, read at an index. -/
theorem ld_at {e : EltTy} {a b a' b' o p : ℕ} {X : (⟨2, ![a, b]⟩ : Shape).Idx → Elt Ideal e}
    {inb : ∀ d, (![o, p] : Fin 2 → ℕ) d + (![a', b'] : Fin 2 → ℕ) d ≤ (⟨2, ![a, b]⟩ : Shape).size d}
    {B : (⟨2, ![a', b']⟩ : Shape).Idx → Elt Ideal e}
    (hB : View.ld X (Rect.unit (s := ⟨2, ![a, b]⟩) ![o, p] ![a', b'] inb) = B) (i : Fin a') (q : Fin b') :
    B (ix2 i q) = X (ix2 ⟨o + i.val, Nat.lt_of_lt_of_le (Nat.add_lt_add_left i.isLt o) (inb 0)⟩
      ⟨p + q.val, Nat.lt_of_lt_of_le (Nat.add_lt_add_left q.isLt p) (inb 1)⟩) := by
  subst hB
  exact View.ld_unit_apply_of (S := ⟨2, ![a, b]⟩) X _ _ _ _ _ (fun d => by fin_cases d <;> rfl)

/-- Where a rectangle of a matrix places an index. -/
theorem emb_at {a b a' b' o p : ℕ}
    (inb : ∀ d, (![o, p] : Fin 2 → ℕ) d + (![a', b'] : Fin 2 → ℕ) d ≤ (⟨2, ![a, b]⟩ : Shape).size d) (i : Fin a') (q : Fin b')
    (hi : o + i.val < a) (hq : p + q.val < b) :
    (Rect.unit (s := ⟨2, ![a, b]⟩) ![o, p] ![a', b'] inb).emb (ix2 i q) = ix2 ⟨o + i.val, hi⟩ ⟨p + q.val, hq⟩ :=
  funext fun d => Fin.ext ((ValueKit.rect_emb_unit_val _ _ _ _ d).trans (by fin_cases d <;> rfl))

/-- A matrix covered by stores, each holding its part of `G`, is read back whole as `G`. -/
theorem readBack {sig : RefSig} {κ : Kind} {sp : Space} {e : EltTy} {a b : ℕ} (v : View sig κ sp (⟨2, ![a, b]⟩ : Shape) e)
    (G : (⟨2, ![a, b]⟩ : Shape).Idx → Elt Ideal e) (L : List (View.Piece (Elt Ideal) (⟨2, ![a, b]⟩ : Shape) e))
    (hL : ∀ p ∈ L, ∀ x : p.1.shape.Idx, p.2 x = G (p.1.emb x)) (hc : ∀ y : (⟨2, ![a, b]⟩ : Shape).Idx, ∃ p ∈ L, y ∈ p.1.set)
    (inb : ∀ d, (![0, 0] : Fin 2 → ℕ) d + (![a, b] : Fin 2 → ℕ) d ≤ (⟨2, ![a, b]⟩ : Shape).size d) :
    v.readCov L (Rect.unit (s := ⟨2, ![a, b]⟩) ![0, 0] ![a, b] inb).toLoadRect = G := by
  funext y
  have e : (Rect.unit (s := ⟨2, ![a, b]⟩) ![0, 0] ![a, b] inb).idx y = y := by
    funext d; apply Fin.ext; rw [Rect.idx_unit_val]; fin_cases d <;> simp
  show View.read (Elt Ideal) _ _ ((Rect.unit (s := ⟨2, ![a, b]⟩) ![0, 0] ![a, b] inb).idx y) = _
  rw [e]
  exact View.read_writes_apply_of_pieces _ _ G L hL y (hc y)

end Cert.Layer
-- ==== Proof.FfnValue.lean ====
/- The first half-step feed-forward call: what each grid point's block holds, and the result array after the run. -/
module

public import proofs.«01_k».proof.Defs
public import proofs.«01_k».proof.Proof.Gen.FfnIdeal.Value
public import proofs.«01_k».proof.Proof.Gen.FfnRefIdeal.Run
public import Idealize.ShloMosaic.Lib.Quiescent
public import proofs.«01_k».proof.Proof.Layer
public import Idealize.ShloMosaic.Lib.Pointwise
public import Idealize.ShloMosaic.Lib.Pipeline.ValueKit
public import Idealize.ShloMosaic.Lib.VecWindow

@[expose] public section
set_option maxRecDepth 16384
noncomputable section
open Idealize.ShloMosaic Idealize.ShloMosaic.TcCoe Idealize.SL.Sem

namespace Cert.FfnIdeal
open Cert.FfnIdeal.Gen

/-- The activations of a block of rows: `silu(x·wg) · (x·wu)`. -/
def actArr (x0 : Vec Ideal S512x1024 .f32) (x1 x2 : Vec Ideal S1024x2816 .bf16) : Vec Ideal S512x2816 .bf16 :=
  fun y => Layer.act (fun i => x0 (ix2 (y 0) i)) (fun i => x1 (ix2 i (y 1))) (fun i => x2 (ix2 i (y 1)))

/-- What the eleven column stores left in the activation scratch, read back whole. -/
theorem scratch_eq (c : Dev nD) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg8 : Memref sig .tc .vmem S512x2816 .bf16)
    (x0 : Vec Ideal S512x1024 .f32) (x1 : Vec Ideal S1024x2816 .bf16) (x2 : Vec Ideal S1024x2816 .bf16) (inb) :
   arg8.view.readCov (kernelRun0_A.sl.HS0_11 c arg1 harg1 arg2 harg2 arg3 harg3 x0 x1 x2) (Rect.unit (s := S512x2816) ![0,0] S512x2816.size inb).toLoadRect = actArr x0 x1 x2 := by
  funext y
  show View.read (Elt Ideal) _ _ ((Rect.unit (s := S512x2816) ![0,0] S512x2816.size inb).idx y) = _
  have e : (Rect.unit (s := S512x2816) ![0,0] S512x2816.size inb).idx y = y := by
    funext a; apply Fin.ext; rw [Rect.idx_unit_val]; fin_cases a <;> simp
  rw [e]
  refine View.read_writes_apply_of_pieces _ _ (actArr x0 x1 x2) _ ?_ y (View.cover_of_tiledL _ ![512,256] (by sl_kernel_rfl) y)
  intro p hp j
  simp only [kernelRun0_A.sl.HS0_11, List.mem_cons, List.mem_nil_iff, or_false] at hp
  rcases hp with rfl | rfl | rfl | rfl | rfl | rfl | rfl | rfl | rfl | rfl | rfl
  all_goals
    dsimp only
    sl_unfold_words
    simp only [View.readAt_eq_ld, Memref.IsWhole.read_unread]
    obtain ⟨r, q, rfl⟩ : ∃ (r : Fin 512) (q : Fin 256), j = ix2 r q := ⟨j 0, j 1, by funext d; fin_cases d <;> rfl⟩
    have hq : q.val < 256 := q.isLt
    rw [Layer.emb_at _ r q (by omega) (by omega)]
    generalize hA : View.ld x0 _ = A
    generalize hB : View.ld x1 _ = B
    generalize hC : View.ld x2 _ = C
    have eA := fun k : Fin 1024 => Layer.ld_at (a := 512) (b := 1024) hA r k
    have eB := fun k : Fin 1024 => Layer.ld_at (a := 1024) (b := 2816) hB k q
    have eC := fun k : Fin 1024 => Layer.ld_at (a := 1024) (b := 2816) hC k q
    simp only [Nat.zero_add, Fin.eta] at eA eB eC ⊢
    clear hA hB hC
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [eA, eB, eC]
    rfl

/-- The result block of a grid point, at an index. -/
theorem block_at (c : Dev nD) (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (r : Fin 512) (n : Fin 1024) :
    out0_A_6 c i arg1 harg1 arg2 harg2 arg3 harg3 arg4 harg4 arg5 harg5 arg6 harg6 arg7 harg7 arg8 harg8 x0 x1 x2 x3 x4 x5 (ix2 r n)
      = Layer.norm (Layer.half (fun k => x0 (ix2 r k)) (fun k => actArr x0 x1 x2 (ix2 r k)) (fun k j => x3 (ix2 k j)))
          (x4 (ix2 0 n)) (x5 (ix2 0 n)) n := by
  unfold out0_A_6 kernelRun0_A
  dsimp only
  unfold kernelRun0_A.sl.v145 kernelRun0_A.sl.r
  rw [scratch_eq]
  frame_out
  pointwise [k0_pay17]
  rfl

variable (m : (ℓ : Loc nD τ sig) → Buf (Elt Ideal) ℓ)

/-- The result array: row `r` of the input through the half-step and its normalization. -/
def G (c : Dev nD) : Buf (Elt Ideal) ((c : Thread nD τ).loc main_v5) := fun y : S65536x1024.Idx =>
  let x : Fin 1024 → EReal := fun k => m ((c : Thread nD τ).loc main_arg0) (ix2 (y 0) k)
  Layer.norm (Layer.half x
      (fun k => Layer.act x (fun i => m ((c : Thread nD τ).loc main_arg1) (ix2 i k)) (fun i => m ((c : Thread nD τ).loc main_arg2) (ix2 i k)))
      (fun k j => m ((c : Thread nD τ).loc main_arg3) (ix2 k j)))
    (m ((c : Thread nD τ).loc main_arg4) (ix1 (y 1))) (m ((c : Thread nD τ).loc main_arg5) (ix1 (y 1))) (y 1)

theorem idx : ∀ t : Fin cfg0.N, win0_0.index t = ![(grid0.coords t 0).val, 0] ∧ win0_6.index t = ![(grid0.coords t 0).val, 0]
    ∧ win0_1.index t = ![0, 0] ∧ win0_2.index t = ![0, 0] ∧ win0_3.index t = ![0, 0] ∧ win0_4.index t = ![0, 0] ∧ win0_5.index t = ![0, 0] := by
  decide +kernel

theorem i1 (c : Dev nD) (t : Fin cfg0.N) (k : Fin 1024) (j : Fin 2816) : iblk m c 1 t (ix2 k j) = m ((c : Thread nD τ).loc main_arg1) (ix2 k j) := by
  blk_simp [iblk]
  show V m c main_v0 _ = _
  have e : ((win0_1.blk t).view.emb (ix2 k j)) = (ix2 k j) := by blk_ext [idx t]
  rw [e]
  unfold V
  after_results
  pointwise

theorem i2 (c : Dev nD) (t : Fin cfg0.N) (k : Fin 1024) (j : Fin 2816) : iblk m c 2 t (ix2 k j) = m ((c : Thread nD τ).loc main_arg2) (ix2 k j) := by
  blk_simp [iblk]
  show V m c main_v1 _ = _
  have e : ((win0_2.blk t).view.emb (ix2 k j)) = (ix2 k j) := by blk_ext [idx t]
  rw [e]
  unfold V
  after_results
  pointwise

theorem i3 (c : Dev nD) (t : Fin cfg0.N) (k : Fin 2816) (j : Fin 1024) : iblk m c 3 t (ix2 k j) = m ((c : Thread nD τ).loc main_arg3) (ix2 k j) := by
  blk_simp [iblk]
  show V m c main_v2 _ = _
  have e : ((win0_3.blk t).view.emb (ix2 k j)) = (ix2 k j) := by blk_ext [idx t]
  rw [e]
  unfold V
  after_results
  pointwise

theorem i4 (c : Dev nD) (t : Fin cfg0.N) (j : Fin 1024) : iblk m c 4 t (ix2 0 j) = m ((c : Thread nD τ).loc main_arg4) (ix1 j) := by
  blk_simp [iblk]
  show V m c main_v3 _ = _
  have e : ((win0_4.blk t).view.emb (ix2 0 j)) = (ix2 0 j) := by blk_ext [idx t]
  rw [e]
  unfold V
  after_results
  pointwise

theorem i5 (c : Dev nD) (t : Fin cfg0.N) (j : Fin 1024) : iblk m c 5 t (ix2 0 j) = m ((c : Thread nD τ).loc main_arg5) (ix1 j) := by
  blk_simp [iblk]
  show V m c main_v4 _ = _
  have e : ((win0_5.blk t).view.emb (ix2 0 j)) = (ix2 0 j) := by blk_ext [idx t]
  rw [e]
  unfold V
  after_results
  pointwise

theorem i0 (c : Dev nD) (t : Fin cfg0.N) (r : Fin 512) (k : Fin 1024) (h : (grid0.coords t 0).val * 512 + r.val < 65536) :
    iblk m c 0 t (ix2 r k) = m ((c : Thread nD τ).loc main_arg0) (ix2 ⟨(grid0.coords t 0).val * 512 + r.val, h⟩ k) := by
  blk_simp [iblk]
  show V m c main_arg0 _ = _
  rw [V_main_arg0]
  blk_ext [idx t]

theorem final (c : Dev nD) : (dats m 0 c).arrAt 6 cfg0.N = G m c := by
  refine (dats m 0 c).arrAt_eq_of_covers 6 _ (by decide +kernel) fun t hf y => ?_
  blk_simp
  rw [after0_6, outsAt0]
  obtain ⟨r, n, rfl⟩ : ∃ (r : Fin 512) (n : Fin 1024), y = (ix2 r n : S512x1024.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_6.blk t).view.emb (ix2 r n : S512x1024.Idx)) = ix2 (⟨(grid0.coords t 0).val * 512 + r.val, h⟩ : Fin 65536) n := by
    blk_ext [idx t]
  refine (block_at ..).trans ?_
  rw [e]
  have a0 : ∀ k : Fin 1024, (iblk m c 0 t (ix2 r k) : EReal) = _ := fun k => i0 m c t r k h
  have a1 : ∀ (k : Fin 1024) (j : Fin 2816), (iblk m c 1 t (ix2 k j) : EReal) = _ := i1 m c t
  have a2 : ∀ (k : Fin 1024) (j : Fin 2816), (iblk m c 2 t (ix2 k j) : EReal) = _ := i2 m c t
  have a3 : ∀ (k : Fin 2816) (j : Fin 1024), (iblk m c 3 t (ix2 k j) : EReal) = _ := i3 m c t
  have a4 : ∀ j : Fin 1024, (iblk m c 4 t (ix2 0 j) : EReal) = _ := i4 m c t
  have a5 : ∀ j : Fin 1024, (iblk m c 5 t (ix2 0 j) : EReal) = _ := i5 m c t
  show Layer.norm (Layer.half (fun k => iblk m c 0 t (ix2 r k))
      (fun k => Layer.act (fun i => iblk m c 0 t (ix2 r i)) (fun i => iblk m c 1 t (ix2 i k)) (fun i => iblk m c 2 t (ix2 i k)))
      (fun k j => iblk m c 3 t (ix2 k j))) (iblk m c 4 t (ix2 0 n)) (iblk m c 5 t (ix2 0 n)) n = _
  rw [a4, a5, funext a0, funext fun k => funext (a3 k)]
  have e1 : ∀ k : Fin 2816, (fun i : Fin 1024 => (iblk m c 1 t (ix2 i k) : EReal)) = _ := fun k => funext fun i => a1 i k
  have e2 : ∀ k : Fin 2816, (fun i : Fin 1024 => (iblk m c 2 t (ix2 i k) : EReal)) = _ := fun k => funext fun i => a2 i k
  simp only [e1, e2]
  rfl

/-- The program's run: the result array is `G` of the arguments, which are unchanged. -/
theorem run (ρ : Dev nD → PrngReg) : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.FfnIdeal

namespace Cert.FfnRefIdeal

/-- The reference's result, at an index: the same function of the arguments. -/
theorem ref_at (m : (ℓ : Loc nD τ sig) → Buf (Elt Ideal) ℓ) (c : Dev nD) (r : Fin 65536) (n : Fin 1024) :
    Value.res_main_v33 m c (ix2 r n)
      = Layer.norm (Layer.half (fun k => m ((c.tc : Thread nD τ).loc main_arg0) (ix2 r k))
          (fun k => Layer.act (fun i => m ((c.tc : Thread nD τ).loc main_arg0) (ix2 r i)) (fun i => m ((c.tc : Thread nD τ).loc main_arg1) (ix2 i k))
            (fun i => m ((c.tc : Thread nD τ).loc main_arg2) (ix2 i k)))
          (fun k j => m ((c.tc : Thread nD τ).loc main_arg3) (ix2 k j)))
        (m ((c.tc : Thread nD τ).loc main_arg4) (ix1 n)) (m ((c.tc : Thread nD τ).loc main_arg5) (ix1 n)) n := by
  pointwise [Value.res_main_v33]
  rfl

end Cert.FfnRefIdeal

namespace Cert.Dense

/-- The first half-step at the extended reals: kernel and reference end with equal results and unchanged arguments. -/
theorem algebraic_ffn : (hF : Cert.FfnIdeal.Facts) → (hR : Cert.FfnRefIdeal.Facts) →
    Cert.algebraic_FfnIdeal_FfnRefIdeal (hFfnIdeal := hF) (hFfnRefIdeal := hR) := by
  intro hF hR m ρ m' ρ' _ hag
  refine ⟨fun c => Cert.FfnIdeal.G m c, Cert.FfnIdeal.run m ρ, ?_⟩
  refine (θ_run Cert.FfnRefIdeal.defs _ _).mono (fun r h c => ⟨(h c).1.trans ?_, (h c).2⟩) (Cert.FfnRefIdeal.Value.run (F := Ideal) m' ρ')
  obtain ⟨h0, h1, h2, h3, h4, h5⟩ := hag c
  funext y
  obtain ⟨r, n, rfl⟩ : ∃ (r : Fin 65536) (n : Fin 1024), y = (ix2 r n : Cert.FfnIdeal.S65536x1024.Idx) := ⟨y 0, y 1, by funext d; fin_cases d <;> rfl⟩
  refine (Cert.FfnRefIdeal.ref_at m' c r n).trans ?_
  rw [h0, h1, h2, h3, h4, h5]
  rfl

/-- The reference's frame. -/
theorem frame_ffnRef : (hR : Cert.FfnRefIdeal.Facts) → Cert.quiescent_FfnRefIdeal (hFfnRefIdeal := hR) := fun _ m ρ _ =>
  (θ_run Cert.FfnRefIdeal.defs _ _).mono (fun r h => ⟨fun c => (h c).2, sem_eq_zero_of_no_sems (by decide) r.2⟩)
    (Cert.FfnRefIdeal.Value.run (F := Ideal) m ρ)

end Cert.Dense
-- ==== Proof.MergeValue.lean ====
/- The merge of the branches and the second half-step: what each grid point's block holds, and the result array after the run. -/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import proofs.«01_k».proof.Proof.Layer
public import Idealize.ShloMosaic.Lib.Quiescent
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem

namespace Cert.MergeIdeal
open Cert.MergeIdeal.Gen

/-- The activations of a block of rows: `silu(x·wg) · (x·wu)`. -/
def actArr (x : FVec Ideal S512x1024 .bf16) (wg wu : Vec Ideal S1024x2816 .bf16) : Vec Ideal S512x2816 .bf16 :=
  fun y => Layer.act (fun i => x (ix2 (y 0) i)) (fun i => wg (ix2 i (y 1))) (fun i => wu (ix2 i (y 1)))

/-- The mixers' normalized residual, at an index of the block. -/
theorem h2_at (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1x1024 .f32)
    (r : Fin 512) (k : Fin 1024) :
    k0_pay5 (k0_pay2 x8) (k0_pay3 x9) (k0_pay4 x0 x5 x1 x6 x2 x3 x7 x4) (ix2 r k)
      = Layer.norm (Layer.mixed (fun k => x4 (ix2 r k)) (Layer.merge (fun k => x0 (ix2 r k)) (fun k => x1 (ix2 r k)) (fun k => x2 (ix2 r k))
          (fun k => x3 (ix2 r k)) (fun i k => x5 (ix2 i k)) (fun i k => x6 (ix2 i k))) (fun i k => x7 (ix2 i k))) (x8 (ix2 0 k)) (x9 (ix2 0 k)) k := by
  pointwise [k0_pay5, k0_pay2, k0_pay3, k0_pay4]
  rfl

variable (m : (ℓ : Loc nD τ sig) → Buf (Elt Ideal) ℓ)

/-- The result block of a grid point, at an index: the row's function of the point's input blocks. -/
theorem block_at (c : Dev nD) (t : Fin cfg0.N) (r : Fin 512) (n : Fin 1024) : outsAt0 m c t (ix2 r n) = Layer.mergeRow
      (fun k => iblk m c 0 t (ix2 r k)) (fun k => iblk m c 1 t (ix2 r k)) (fun k => iblk m c 2 t (ix2 r k))
      (fun k => iblk m c 3 t (ix2 r k)) (fun k => iblk m c 4 t (ix2 r k))
      (fun i k => iblk m c 5 t (ix2 i k)) (fun i k => iblk m c 6 t (ix2 i k)) (fun i k => iblk m c 7 t (ix2 i k))
      (fun k => iblk m c 8 t (ix2 0 k)) (fun k => iblk m c 9 t (ix2 0 k))
      (fun i k => iblk m c 10 t (ix2 i k)) (fun i k => iblk m c 11 t (ix2 i k)) (fun i k => iblk m c 12 t (ix2 i k))
      (fun k => iblk m c 13 t (ix2 0 k)) (fun k => iblk m c 14 t (ix2 0 k)) n := by
  have hh := h2_at (iblk m c 0 t) (iblk m c 1 t) (iblk m c 2 t) (iblk m c 3 t) (iblk m c 4 t) (iblk m c 5 t) (iblk m c 6 t) (iblk m c 7 t) (iblk m c 8 t) (iblk m c 9 t) r
  unfold Layer.mergeRow
  dsimp only
  simp only [← hh]
  clear hh
  unfold outsAt0 out0_A_15 kernelRun0_A
  dsimp only
  unfold kernelRun0_A.sl.r_9 kernelRun0_A.sl.r_10 kernelRun0_A.sl.r_11 kernelRun0_A.sl.r_12
  frame_out
  generalize k0_pay4 (iblk m c 0 t) (iblk m c 5 t) (iblk m c 1 t) (iblk m c 6 t) (iblk m c 2 t) (iblk m c 3 t) (iblk m c 7 t) (iblk m c 4 t) = v32
  generalize k0_pay2 (iblk m c 8 t) = v24
  generalize k0_pay3 (iblk m c 9 t) = v26
  generalize iblk m c 10 t = x10
  generalize iblk m c 11 t = x11
  generalize iblk m c 12 t = x12
  generalize iblk m c 13 t = x13
  generalize iblk m c 14 t = x14
  generalize hS : View.readCov (Val := Elt Ideal) (View.whole cc0_scratch0) _ _ = S
  have hS' : S = actArr (k0_pay6 v24 v26 v32) x10 x11 := by
    rw [← hS]
    refine Layer.readBack (a := 512) (b := 2816) _ _ _ ?_ (View.cover_of_tiledL _ ![512,256] (by sl_kernel_rfl)) _
    intro p hp j
    simp only [List.mem_cons, List.mem_nil_iff, or_false] at hp
    rcases hp with rfl | rfl | rfl | rfl | rfl | rfl | rfl | rfl | rfl | rfl | rfl
    all_goals
      dsimp only
      obtain ⟨r, q, rfl⟩ : ∃ (r : Fin 512) (q : Fin 256), j = ix2 r q := ⟨j 0, j 1, by funext d; fin_cases d <;> rfl⟩
      have hq : q.val < 256 := q.isLt
      rw [Layer.emb_at _ r q (by omega) (by omega)]
      generalize hB : View.ld x10 _ = B
      generalize hC : View.ld x11 _ = C
      have eB := fun k : Fin 1024 => Layer.ld_at (a := 1024) (b := 2816) hB k q
      have eC := fun k : Fin 1024 => Layer.ld_at (a := 1024) (b := 2816) hC k q
      simp only [Nat.zero_add, Fin.eta] at eB eC ⊢
      clear hB hC
      try unfold k0_pay7
      try unfold k0_pay9 k0_pay8
      generalize k0_pay6 v24 v26 v32 = h2
      pointwise [k0_pay10, k0_pay11, k0_pay12, k0_pay13, k0_pay14, k0_pay15, k0_pay16, k0_pay17, k0_pay18, k0_pay19, k0_pay20, k0_pay21]
      simp only [eB, eC]
      rfl
  rw [hS']
  clear hS hS'
  have e6 : k0_pay6 v24 v26 v32 = k0_pay5 v24 v26 v32 := by unfold k0_pay6; rfl
  rw [e6]
  generalize k0_pay5 v24 v26 v32 = h2
  pointwise [k0_pay1, k0_pay22, k0_pay23, k0_pay24, k0_pay25]
  rfl

/-- The result array: row `r` of the inputs through the merge and the second half-step. -/
def G (c : Dev nD) : Buf (Elt Ideal) ((c : Thread nD τ).loc main_v10) := fun y : S65536x1024.Idx =>
  Layer.mergeRow (fun k => m ((c : Thread nD τ).loc main_arg0) (ix2 (y 0) k)) (fun k => m ((c : Thread nD τ).loc main_arg1) (ix2 (y 0) k)) (fun k => m ((c : Thread nD τ).loc main_arg2) (ix2 (y 0) k))
      (fun k => m ((c : Thread nD τ).loc main_arg3) (ix2 (y 0) k)) (fun k => m ((c : Thread nD τ).loc main_arg4) (ix2 (y 0) k))
      (fun i k => m ((c : Thread nD τ).loc main_arg5) (ix2 i k)) (fun i k => m ((c : Thread nD τ).loc main_arg6) (ix2 i k)) (fun i k => m ((c : Thread nD τ).loc main_arg7) (ix2 i k))
      (fun k => m ((c : Thread nD τ).loc main_arg8) (ix1 k)) (fun k => m ((c : Thread nD τ).loc main_arg9) (ix1 k))
      (fun i k => m ((c : Thread nD τ).loc main_arg10) (ix2 i k)) (fun i k => m ((c : Thread nD τ).loc main_arg11) (ix2 i k)) (fun i k => m ((c : Thread nD τ).loc main_arg12) (ix2 i k))
      (fun k => m ((c : Thread nD τ).loc main_arg13) (ix1 k)) (fun k => m ((c : Thread nD τ).loc main_arg14) (ix1 k)) (y 1)

/-- Where each window's block lies, at a grid point. -/
theorem idx : ∀ t : Fin cfg0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![(grid0.coords t 0).val, 0] := by
  decide +kernel

/-- Window 0: row `512·t + r` of its array. -/
theorem i0 (c : Dev nD) (t : Fin cfg0.N) (r : Fin 512) (k : Fin 1024) (h : (grid0.coords t 0).val * 512 + r.val < 65536) :
    iblk m c 0 t (ix2 r k) = m ((c : Thread nD τ).loc main_arg0) (ix2 ⟨(grid0.coords t 0).val * 512 + r.val, h⟩ k) := by
  blk_simp [iblk]
  show V m c main_arg0 _ = _
  rw [V_main_arg0]
  blk_ext [idx t]

/-- Window 1: row `512·t + r` of its array. -/
theorem i1 (c : Dev nD) (t : Fin cfg0.N) (r : Fin 512) (k : Fin 1024) (h : (grid0.coords t 0).val * 512 + r.val < 65536) :
    iblk m c 1 t (ix2 r k) = m ((c : Thread nD τ).loc main_arg1) (ix2 ⟨(grid0.coords t 0).val * 512 + r.val, h⟩ k) := by
  blk_simp [iblk]
  show V m c main_arg1 _ = _
  rw [V_main_arg1]
  blk_ext [idx t]

/-- Window 2: row `512·t + r` of its array. -/
theorem i2 (c : Dev nD) (t : Fin cfg0.N) (r : Fin 512) (k : Fin 1024) (h : (grid0.coords t 0).val * 512 + r.val < 65536) :
    iblk m c 2 t (ix2 r k) = m ((c : Thread nD τ).loc main_arg2) (ix2 ⟨(grid0.coords t 0).val * 512 + r.val, h⟩ k) := by
  blk_simp [iblk]
  show V m c main_arg2 _ = _
  rw [V_main_arg2]
  blk_ext [idx t]

/-- Window 3: row `512·t + r` of its array. -/
theorem i3 (c : Dev nD) (t : Fin cfg0.N) (r : Fin 512) (k : Fin 1024) (h : (grid0.coords t 0).val * 512 + r.val < 65536) :
    iblk m c 3 t (ix2 r k) = m ((c : Thread nD τ).loc main_arg3) (ix2 ⟨(grid0.coords t 0).val * 512 + r.val, h⟩ k) := by
  blk_simp [iblk]
  show V m c main_arg3 _ = _
  rw [V_main_arg3]
  blk_ext [idx t]

/-- Window 4: row `512·t + r` of its array. -/
theorem i4 (c : Dev nD) (t : Fin cfg0.N) (r : Fin 512) (k : Fin 1024) (h : (grid0.coords t 0).val * 512 + r.val < 65536) :
    iblk m c 4 t (ix2 r k) = m ((c : Thread nD τ).loc main_arg4) (ix2 ⟨(grid0.coords t 0).val * 512 + r.val, h⟩ k) := by
  blk_simp [iblk]
  show V m c main_arg4 _ = _
  rw [V_main_arg4]
  blk_ext [idx t]

/-- Window 5: its whole array, as prepared on the host. -/
theorem i5 (c : Dev nD) (t : Fin cfg0.N) (k : Fin 1024) (j : Fin 1024) : iblk m c 5 t (ix2 k j) = m ((c : Thread nD τ).loc main_arg5) (ix2 k j) := by
  blk_simp [iblk]
  show V m c main_v0 _ = _
  have e : ((win0_5.blk t).view.emb (ix2 k j)) = (ix2 k j) := by blk_ext [idx t]
  rw [e]
  unfold V
  after_results
  pointwise

/-- Window 6: its whole array, as prepared on the host. -/
theorem i6 (c : Dev nD) (t : Fin cfg0.N) (k : Fin 1024) (j : Fin 1024) : iblk m c 6 t (ix2 k j) = m ((c : Thread nD τ).loc main_arg6) (ix2 k j) := by
  blk_simp [iblk]
  show V m c main_v1 _ = _
  have e : ((win0_6.blk t).view.emb (ix2 k j)) = (ix2 k j) := by blk_ext [idx t]
  rw [e]
  unfold V
  after_results
  pointwise

/-- Window 7: its whole array, as prepared on the host. -/
theorem i7 (c : Dev nD) (t : Fin cfg0.N) (k : Fin 1024) (j : Fin 1024) : iblk m c 7 t (ix2 k j) = m ((c : Thread nD τ).loc main_arg7) (ix2 k j) := by
  blk_simp [iblk]
  show V m c main_v2 _ = _
  have e : ((win0_7.blk t).view.emb (ix2 k j)) = (ix2 k j) := by blk_ext [idx t]
  rw [e]
  unfold V
  after_results
  pointwise

/-- Window 8: its whole array, as prepared on the host. -/
theorem i8 (c : Dev nD) (t : Fin cfg0.N) (j : Fin 1024) : iblk m c 8 t (ix2 0 j) = m ((c : Thread nD τ).loc main_arg8) (ix1 j) := by
  blk_simp [iblk]
  show V m c main_v3 _ = _
  have e : ((win0_8.blk t).view.emb (ix2 0 j)) = (ix2 0 j) := by blk_ext [idx t]
  rw [e]
  unfold V
  after_results
  pointwise

/-- Window 9: its whole array, as prepared on the host. -/
theorem i9 (c : Dev nD) (t : Fin cfg0.N) (j : Fin 1024) : iblk m c 9 t (ix2 0 j) = m ((c : Thread nD τ).loc main_arg9) (ix1 j) := by
  blk_simp [iblk]
  show V m c main_v4 _ = _
  have e : ((win0_9.blk t).view.emb (ix2 0 j)) = (ix2 0 j) := by blk_ext [idx t]
  rw [e]
  unfold V
  after_results
  pointwise

/-- Window 10: its whole array, as prepared on the host. -/
theorem i10 (c : Dev nD) (t : Fin cfg0.N) (k : Fin 1024) (j : Fin 2816) : iblk m c 10 t (ix2 k j) = m ((c : Thread nD τ).loc main_arg10) (ix2 k j) := by
  blk_simp [iblk]
  show V m c main_v5 _ = _
  have e : ((win0_10.blk t).view.emb (ix2 k j)) = (ix2 k j) := by blk_ext [idx t]
  rw [e]
  unfold V
  after_results
  pointwise

/-- Window 11: its whole array, as prepared on the host. -/
theorem i11 (c : Dev nD) (t : Fin cfg0.N) (k : Fin 1024) (j : Fin 2816) : iblk m c 11 t (ix2 k j) = m ((c : Thread nD τ).loc main_arg11) (ix2 k j) := by
  blk_simp [iblk]
  show V m c main_v6 _ = _
  have e : ((win0_11.blk t).view.emb (ix2 k j)) = (ix2 k j) := by blk_ext [idx t]
  rw [e]
  unfold V
  after_results
  pointwise

/-- Window 12: its whole array, as prepared on the host. -/
theorem i12 (c : Dev nD) (t : Fin cfg0.N) (k : Fin 2816) (j : Fin 1024) : iblk m c 12 t (ix2 k j) = m ((c : Thread nD τ).loc main_arg12) (ix2 k j) := by
  blk_simp [iblk]
  show V m c main_v7 _ = _
  have e : ((win0_12.blk t).view.emb (ix2 k j)) = (ix2 k j) := by blk_ext [idx t]
  rw [e]
  unfold V
  after_results
  pointwise

/-- Window 13: its whole array, as prepared on the host. -/
theorem i13 (c : Dev nD) (t : Fin cfg0.N) (j : Fin 1024) : iblk m c 13 t (ix2 0 j) = m ((c : Thread nD τ).loc main_arg13) (ix1 j) := by
  blk_simp [iblk]
  show V m c main_v8 _ = _
  have e : ((win0_13.blk t).view.emb (ix2 0 j)) = (ix2 0 j) := by blk_ext [idx t]
  rw [e]
  unfold V
  after_results
  pointwise

/-- Window 14: its whole array, as prepared on the host. -/
theorem i14 (c : Dev nD) (t : Fin cfg0.N) (j : Fin 1024) : iblk m c 14 t (ix2 0 j) = m ((c : Thread nD τ).loc main_arg14) (ix1 j) := by
  blk_simp [iblk]
  show V m c main_v9 _ = _
  have e : ((win0_14.blk t).view.emb (ix2 0 j)) = (ix2 0 j) := by blk_ext [idx t]
  rw [e]
  unfold V
  after_results
  pointwise

/-- The result array after the run. -/
theorem final (c : Dev nD) : (dats m 0 c).arrAt 15 cfg0.N = G m c := by
  refine (dats m 0 c).arrAt_eq_of_covers 15 _ (by decide +kernel) fun t hf y => ?_
  blk_simp
  rw [after0_15]
  obtain ⟨r, n, rfl⟩ : ∃ (r : Fin 512) (n : Fin 1024), y = (ix2 r n : S512x1024.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_15.blk t).view.emb (ix2 r n : S512x1024.Idx)) = ix2 (⟨(grid0.coords t 0).val * 512 + r.val, h⟩ : Fin 65536) n := by
    blk_ext [idx t]
  refine (block_at ..).trans ?_
  rw [e]
  have a0 : (fun k : Fin 1024 => (iblk m c 0 t (ix2 r k) : EReal)) = _ := funext fun k => i0 m c t r k h
  have a1 : (fun k : Fin 1024 => (iblk m c 1 t (ix2 r k) : EReal)) = _ := funext fun k => i1 m c t r k h
  have a2 : (fun k : Fin 1024 => (iblk m c 2 t (ix2 r k) : EReal)) = _ := funext fun k => i2 m c t r k h
  have a3 : (fun k : Fin 1024 => (iblk m c 3 t (ix2 r k) : EReal)) = _ := funext fun k => i3 m c t r k h
  have a4 : (fun k : Fin 1024 => (iblk m c 4 t (ix2 r k) : EReal)) = _ := funext fun k => i4 m c t r k h
  have a5 : (fun (i : Fin 1024) (k : Fin 1024) => (iblk m c 5 t (ix2 i k) : EReal)) = _ := funext fun i => funext fun k => i5 m c t i k
  have a6 : (fun (i : Fin 1024) (k : Fin 1024) => (iblk m c 6 t (ix2 i k) : EReal)) = _ := funext fun i => funext fun k => i6 m c t i k
  have a7 : (fun (i : Fin 1024) (k : Fin 1024) => (iblk m c 7 t (ix2 i k) : EReal)) = _ := funext fun i => funext fun k => i7 m c t i k
  have a8 : (fun k : Fin 1024 => (iblk m c 8 t (ix2 0 k) : EReal)) = _ := funext fun k => i8 m c t k
  have a9 : (fun k : Fin 1024 => (iblk m c 9 t (ix2 0 k) : EReal)) = _ := funext fun k => i9 m c t k
  have a10 : (fun (i : Fin 1024) (k : Fin 2816) => (iblk m c 10 t (ix2 i k) : EReal)) = _ := funext fun i => funext fun k => i10 m c t i k
  have a11 : (fun (i : Fin 1024) (k : Fin 2816) => (iblk m c 11 t (ix2 i k) : EReal)) = _ := funext fun i => funext fun k => i11 m c t i k
  have a12 : (fun (i : Fin 2816) (k : Fin 1024) => (iblk m c 12 t (ix2 i k) : EReal)) = _ := funext fun i => funext fun k => i12 m c t i k
  have a13 : (fun k : Fin 1024 => (iblk m c 13 t (ix2 0 k) : EReal)) = _ := funext fun k => i13 m c t k
  have a14 : (fun k : Fin 1024 => (iblk m c 14 t (ix2 0 k) : EReal)) = _ := funext fun k => i14 m c t k
  rw [a0, a1, a2, a3, a4, a5, a6, a7, a8, a9, a10, a11, a12, a13, a14]
  rfl

/-- The program's run: the result array is `G` of the arguments, which are unchanged. -/
theorem run (ρ : Dev nD → PrngReg) : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final m c), (h c).2⟩) (Value.run_blocks m ρ)

end Cert.MergeIdeal

namespace Cert.MergeRefIdeal
open Cert.MergeRefIdeal.Value

variable (V0 : Valuation τ sig (Elt Ideal))

/-- The mixers' residual of the reference, at an index. -/
theorem mixed_at (r : Fin 65536) (n : Fin 1024) : res_main_v22 V0 (ix2 r n)
    = Layer.mixed (fun k => V0 (Proc.devRef .tc main_arg4) (ix2 r k)) (Layer.merge (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun i k => V0 (Proc.devRef .tc main_arg5) (ix2 i k)) (fun i k => V0 (Proc.devRef .tc main_arg6) (ix2 i k))) (fun i k => V0 (Proc.devRef .tc main_arg7) (ix2 i k)) n := by
  pointwise [res_main_v22]
  rfl

/-- The mixers' normalized residual of the reference, at an index. -/
theorem h2_at (r : Fin 65536) (n : Fin 1024) : res_main_v46 V0 (ix2 r n) = (fun k => Layer.norm (Layer.mixed (fun k => V0 (Proc.devRef .tc main_arg4) (ix2 r k)) (Layer.merge (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun i k => V0 (Proc.devRef .tc main_arg5) (ix2 i k)) (fun i k => V0 (Proc.devRef .tc main_arg6) (ix2 i k))) (fun i k => V0 (Proc.devRef .tc main_arg7) (ix2 i k))) (V0 (Proc.devRef .tc main_arg8) (ix1 k)) (V0 (Proc.devRef .tc main_arg9) (ix1 k)) k) n := by
  pointwise [res_main_v46, res_main_v28, res_main_v26]
  simp only [mixed_at]
  rfl

/-- The second half-step of the reference before its normalization, at an index. -/
theorem half_at (r : Fin 65536) (n : Fin 1024) : res_main_v56 V0 (ix2 r n)
    = Layer.half (fun k => Layer.norm (Layer.mixed (fun k => V0 (Proc.devRef .tc main_arg4) (ix2 r k)) (Layer.merge (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun i k => V0 (Proc.devRef .tc main_arg5) (ix2 i k)) (fun i k => V0 (Proc.devRef .tc main_arg6) (ix2 i k))) (fun i k => V0 (Proc.devRef .tc main_arg7) (ix2 i k))) (V0 (Proc.devRef .tc main_arg8) (ix1 k)) (V0 (Proc.devRef .tc main_arg9) (ix1 k)) k) (fun k => Layer.act (fun k => Layer.norm (Layer.mixed (fun k => V0 (Proc.devRef .tc main_arg4) (ix2 r k)) (Layer.merge (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun i k => V0 (Proc.devRef .tc main_arg5) (ix2 i k)) (fun i k => V0 (Proc.devRef .tc main_arg6) (ix2 i k))) (fun i k => V0 (Proc.devRef .tc main_arg7) (ix2 i k))) (V0 (Proc.devRef .tc main_arg8) (ix1 k)) (V0 (Proc.devRef .tc main_arg9) (ix1 k)) k) (fun i => V0 (Proc.devRef .tc main_arg10) (ix2 i k)) (fun i => V0 (Proc.devRef .tc main_arg11) (ix2 i k))) (fun i k => V0 (Proc.devRef .tc main_arg12) (ix2 i k)) n := by
  pointwise [res_main_v56, res_main_v49]
  simp only [h2_at]
  rfl

/-- The reference's result, at an index: the same function of the arguments. -/
theorem ref_at (r : Fin 65536) (n : Fin 1024) : Read.val_main_v80 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (ix2 r n)
    = Layer.mergeRow (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun k => V0 (Proc.devRef .tc main_arg4) (ix2 r k)) (fun i k => V0 (Proc.devRef .tc main_arg5) (ix2 i k)) (fun i k => V0 (Proc.devRef .tc main_arg6) (ix2 i k)) (fun i k => V0 (Proc.devRef .tc main_arg7) (ix2 i k)) (fun k => V0 (Proc.devRef .tc main_arg8) (ix1 k)) (fun k => V0 (Proc.devRef .tc main_arg9) (ix1 k)) (fun i k => V0 (Proc.devRef .tc main_arg10) (ix2 i k)) (fun i k => V0 (Proc.devRef .tc main_arg11) (ix2 i k)) (fun i k => V0 (Proc.devRef .tc main_arg12) (ix2 i k)) (fun k => V0 (Proc.devRef .tc main_arg13) (ix1 k)) (fun k => V0 (Proc.devRef .tc main_arg14) (ix1 k)) n := by
  rw [← Read.val_main_v80_eq V0]
  pointwise [res_main_v60, res_main_v62]
  simp only [half_at]
  rfl

end Cert.MergeRefIdeal

namespace Cert.Dense

/-- The merge and second half-step at the extended reals: kernel and reference end with equal results and unchanged arguments. -/
theorem algebraic_merge : (hF : Cert.MergeIdeal.Facts) → (hR : Cert.MergeRefIdeal.Facts) →
    Cert.algebraic_MergeIdeal_MergeRefIdeal (hMergeIdeal := hF) (hMergeRefIdeal := hR) := by
  intro hF hR m ρ m' ρ' _ hag
  refine ⟨fun c => Cert.MergeIdeal.G m c, Cert.MergeIdeal.run m ρ, ?_⟩
  refine (θ_run Cert.MergeRefIdeal.defs _ _).mono (fun r h c => ⟨((h c).1.trans (Cert.MergeRefIdeal.Read.val_main_v80_eq _)).trans ?_, (h c).2⟩)
    (Cert.MergeRefIdeal.Value.run (F := Ideal) m' ρ')
  obtain ⟨h0, h1, h2, h3, h4, h5, h6, h7, h8, h9, h10, h11, h12, h13, h14⟩ := hag c
  funext y
  obtain ⟨r, n, rfl⟩ : ∃ (r : Fin 65536) (n : Fin 1024), y = (ix2 r n : Cert.MergeIdeal.S65536x1024.Idx) := ⟨y 0, y 1, by funext d; fin_cases d <;> rfl⟩
  refine (Cert.MergeRefIdeal.ref_at _ r n).trans ?_
  have q0 : StableHlo.launchContents m' c (Proc.devRef .tc Cert.MergeRefIdeal.main_arg0) = m ((c.tc : Thread Cert.MergeIdeal.nD Cert.MergeIdeal.τ).loc Cert.MergeIdeal.main_arg0) := h0
  have q1 : StableHlo.launchContents m' c (Proc.devRef .tc Cert.MergeRefIdeal.main_arg1) = m ((c.tc : Thread Cert.MergeIdeal.nD Cert.MergeIdeal.τ).loc Cert.MergeIdeal.main_arg1) := h1
  have q2 : StableHlo.launchContents m' c (Proc.devRef .tc Cert.MergeRefIdeal.main_arg2) = m ((c.tc : Thread Cert.MergeIdeal.nD Cert.MergeIdeal.τ).loc Cert.MergeIdeal.main_arg2) := h2
  have q3 : StableHlo.launchContents m' c (Proc.devRef .tc Cert.MergeRefIdeal.main_arg3) = m ((c.tc : Thread Cert.MergeIdeal.nD Cert.MergeIdeal.τ).loc Cert.MergeIdeal.main_arg3) := h3
  have q4 : StableHlo.launchContents m' c (Proc.devRef .tc Cert.MergeRefIdeal.main_arg4) = m ((c.tc : Thread Cert.MergeIdeal.nD Cert.MergeIdeal.τ).loc Cert.MergeIdeal.main_arg4) := h4
  have q5 : StableHlo.launchContents m' c (Proc.devRef .tc Cert.MergeRefIdeal.main_arg5) = m ((c.tc : Thread Cert.MergeIdeal.nD Cert.MergeIdeal.τ).loc Cert.MergeIdeal.main_arg5) := h5
  have q6 : StableHlo.launchContents m' c (Proc.devRef .tc Cert.MergeRefIdeal.main_arg6) = m ((c.tc : Thread Cert.MergeIdeal.nD Cert.MergeIdeal.τ).loc Cert.MergeIdeal.main_arg6) := h6
  have q7 : StableHlo.launchContents m' c (Proc.devRef .tc Cert.MergeRefIdeal.main_arg7) = m ((c.tc : Thread Cert.MergeIdeal.nD Cert.MergeIdeal.τ).loc Cert.MergeIdeal.main_arg7) := h7
  have q8 : StableHlo.launchContents m' c (Proc.devRef .tc Cert.MergeRefIdeal.main_arg8) = m ((c.tc : Thread Cert.MergeIdeal.nD Cert.MergeIdeal.τ).loc Cert.MergeIdeal.main_arg8) := h8
  have q9 : StableHlo.launchContents m' c (Proc.devRef .tc Cert.MergeRefIdeal.main_arg9) = m ((c.tc : Thread Cert.MergeIdeal.nD Cert.MergeIdeal.τ).loc Cert.MergeIdeal.main_arg9) := h9
  have q10 : StableHlo.launchContents m' c (Proc.devRef .tc Cert.MergeRefIdeal.main_arg10) = m ((c.tc : Thread Cert.MergeIdeal.nD Cert.MergeIdeal.τ).loc Cert.MergeIdeal.main_arg10) := h10
  have q11 : StableHlo.launchContents m' c (Proc.devRef .tc Cert.MergeRefIdeal.main_arg11) = m ((c.tc : Thread Cert.MergeIdeal.nD Cert.MergeIdeal.τ).loc Cert.MergeIdeal.main_arg11) := h11
  have q12 : StableHlo.launchContents m' c (Proc.devRef .tc Cert.MergeRefIdeal.main_arg12) = m ((c.tc : Thread Cert.MergeIdeal.nD Cert.MergeIdeal.τ).loc Cert.MergeIdeal.main_arg12) := h12
  have q13 : StableHlo.launchContents m' c (Proc.devRef .tc Cert.MergeRefIdeal.main_arg13) = m ((c.tc : Thread Cert.MergeIdeal.nD Cert.MergeIdeal.τ).loc Cert.MergeIdeal.main_arg13) := h13
  have q14 : StableHlo.launchContents m' c (Proc.devRef .tc Cert.MergeRefIdeal.main_arg14) = m ((c.tc : Thread Cert.MergeIdeal.nD Cert.MergeIdeal.τ).loc Cert.MergeIdeal.main_arg14) := h14
  rw [q0, q1, q2, q3, q4, q5, q6, q7, q8, q9, q10, q11, q12, q13, q14]
  rfl

/-- The reference's frame. -/
theorem frame_mergeRef : (hR : Cert.MergeRefIdeal.Facts) → Cert.quiescent_MergeRefIdeal (hMergeRefIdeal := hR) := fun _ m ρ _ =>
  (θ_run Cert.MergeRefIdeal.defs _ _).mono (fun r h => ⟨fun c => (h c).2, sem_eq_zero_of_no_sems (by decide) r.2⟩)
    (Cert.MergeRefIdeal.Value.run (F := Ideal) m ρ)

end Cert.Dense
-- ==== Proof.MixRefFrame.lean ====
module

public import proofs.«01_k».proof.Defs
public import proofs.«01_k».proof.Proof.Gen.MixRefIdeal.Run
public import Idealize.ShloMosaic.Lib.Quiescent

/- The frame of the reference of the projection call. -/

@[expose] public section

noncomputable section

namespace Cert.Dense

open Idealize.ShloMosaic Idealize.ShloMosaic.StableHlo Idealize.SL.Sem

/-- The projection reference runs to an end in every store, leaves its arguments as they were, and leaves every
semaphore counter at zero. -/
theorem frame_mixRef : (hR : Cert.MixRefIdeal.Facts) → Cert.quiescent_MixRefIdeal (hMixRefIdeal := hR) := fun _ m ρ _ =>
  (θ_run Cert.MixRefIdeal.defs _ _).mono (fun r h => ⟨fun c => (h c).2.2.2.2.2.2.2.2.2.2.2.2, sem_eq_zero_of_no_sems (by decide) r.2⟩)
    (Cert.MixRefIdeal.Value.run (F := Ideal) m ρ)

end Cert.Dense
-- ==== Proof.MixBlocks.lean ====
/- The projections call: what each grid point's blocks hold. -/
module

public import proofs.«01_k».proof.Proof.Gen.MixIdeal.Value
public import proofs.«01_k».proof.Proof.Layer
public import Idealize.ShloMosaic.Lib.Pointwise
public import Idealize.ShloMosaic.Lib.Pipeline.ValueKit
public import Idealize.ShloMosaic.Lib.VecWindow

@[expose] public section
set_option maxRecDepth 16384
noncomputable section
open Idealize.ShloMosaic Idealize.ShloMosaic.TcCoe Idealize.SL.Sem

namespace Cert.MixIdeal
open Cert.MixIdeal.Gen

variable (x0 : Vec Ideal S512x1024 .f32) (x1 : Vec Ideal S1024x1536 .bf16) (x2 : Vec Ideal S1024x768 .bf16) (x3 : Vec Ideal S1024x2048 .bf16)
  (x4 x5 : Vec Ideal S1024x1024 .bf16) (x6 x7 : Vec Ideal S1x1024 .f32) (x8 : Vec Ideal S4x128x128 .f32) (x9 : Vec Ideal S128x4 .f32)

/-- The block of keys, at an index: rows of `h` times columns of the weights. -/
theorem b10 (r : Fin 512) (n : Fin 256) : out0_10 x0 x1 x2 x3 x4 x5 x6 x7 x8 x9 (ix2 r n)
    = (∑ k : Fin 1024, x0 (ix2 r k) * x1 (ix2 k ⟨1024 + n.val, by omega⟩) : EReal) := by
  unfold_out out0_10
  frame_out
  pointwise [k0_pay4, k0_pay3, k0_pay1]
  try rfl

/-- The block of values, at an index: rows of `h` times columns of the weights. -/
theorem b11 (r : Fin 512) (n : Fin 256) : out0_11 x0 x1 x2 x3 x4 x5 x6 x7 x8 x9 (ix2 r n)
    = (∑ k : Fin 1024, x0 (ix2 r k) * x1 (ix2 k ⟨1280 + n.val, by omega⟩) : EReal) := by
  unfold_out out0_11
  frame_out
  pointwise [k0_pay5, k0_pay3, k0_pay1]
  try rfl

/-- The block of index keys, at an index: rows of `h` times columns of the weights. -/
theorem b12 (r : Fin 512) (n : Fin 64) : out0_12 x0 x1 x2 x3 x4 x5 x6 x7 x8 x9 (ix2 r n)
    = (∑ k : Fin 1024, x0 (ix2 r k) * x2 (ix2 k ⟨512 + n.val, by omega⟩) : EReal) := by
  unfold_out out0_12
  frame_out
  pointwise [k0_pay9, k0_pay7, k0_pay1]
  try rfl

/-- The block of keys, handed on, at an index: rows of `h` times columns of the weights. -/
theorem b13 (r : Fin 512) (n : Fin 256) : out0_13 x0 x1 x2 x3 x4 x5 x6 x7 x8 x9 (ix2 r n)
    = (∑ k : Fin 1024, x0 (ix2 r k) * x1 (ix2 k ⟨1024 + n.val, by omega⟩) : EReal) := by
  unfold_out out0_13
  frame_out
  pointwise [k0_pay6, k0_pay4, k0_pay3, k0_pay1]
  try rfl

/-- The block of index keys, handed on, at an index: rows of `h` times columns of the weights. -/
theorem b14 (r : Fin 512) (n : Fin 64) : out0_14 x0 x1 x2 x3 x4 x5 x6 x7 x8 x9 (ix2 r n)
    = (∑ k : Fin 1024, x0 (ix2 r k) * x2 (ix2 k ⟨512 + n.val, by omega⟩) : EReal) := by
  unfold_out out0_14
  frame_out
  pointwise [k0_pay11, k0_pay9, k0_pay7, k0_pay1]
  try rfl

/-- The block of first branch gate, at an index: rows of `h` times columns of the weights. -/
theorem b16 (r : Fin 512) (n : Fin 1024) : out0_16 x0 x1 x2 x3 x4 x5 x6 x7 x8 x9 (ix2 r n)
    = (∑ k : Fin 1024, x0 (ix2 r k) * x4 (ix2 k n) : EReal) := by
  unfold_out out0_16
  frame_out
  pointwise [k0_pay18, k0_pay1]
  try rfl

/-- The block of second branch gate, at an index: rows of `h` times columns of the weights. -/
theorem b17 (r : Fin 512) (n : Fin 1024) : out0_17 x0 x1 x2 x3 x4 x5 x6 x7 x8 x9 (ix2 r n)
    = (∑ k : Fin 1024, x0 (ix2 r k) * x5 (ix2 k n) : EReal) := by
  unfold_out out0_17
  frame_out
  pointwise [k0_pay19, k0_pay1]
  try rfl

/-- The block of queries, scaled and transposed, at an index: rows of `h` times columns of the weights. -/
theorem b18 (n : Fin 1024) (r : Fin 512) : out0_18 x0 x1 x2 x3 x4 x5 x6 x7 x8 x9 (ix2 n r)
    = (∑ k : Fin 1024, x0 (ix2 r k) * x1 (ix2 k ⟨n.val, by omega⟩) : EReal) * Ideal.ofBits FTy.f32 0x3E38AA3B#32 := by
  unfold_out out0_18
  frame_out
  pointwise [k0_pay12, k0_pay3, k0_pay1]
  try rfl

/-- The block of index queries, transposed, at an index: rows of `h` times columns of the weights. -/
theorem b19 (n : Fin 512) (r : Fin 512) : out0_19 x0 x1 x2 x3 x4 x5 x6 x7 x8 x9 (ix2 n r)
    = (∑ k : Fin 1024, x0 (ix2 r k) * x2 (ix2 k ⟨n.val, by omega⟩) : EReal) := by
  unfold_out out0_19
  frame_out
  pointwise [k0_pay13, k0_pay8, k0_pay7, k0_pay1]
  try rfl

/-- The block of index weights, transposed, at an index: rows of `h` times columns of the weights. -/
theorem b20 (n : Fin 8) (r : Fin 512) : out0_20 x0 x1 x2 x3 x4 x5 x6 x7 x8 x9 (ix2 n r)
    = (∑ k : Fin 1024, x0 (ix2 r k) * x2 (ix2 k ⟨640 + n.val, by omega⟩) : EReal) := by
  unfold_out out0_20
  frame_out
  pointwise [k0_pay14, k0_pay10, k0_pay7, k0_pay1]
  try rfl

/-- The block of the values, transposed and cut in tiles, at an index. -/
theorem b21 (d : Fin 2) (n q : Fin 256) : out0_21 x0 x1 x2 x3 x4 x5 x6 x7 x8 x9 (ix3 d n q)
    = (∑ k : Fin 1024, x0 (ix2 ⟨d.val * 256 + q.val, by omega⟩ k) * x1 (ix2 k ⟨1280 + n.val, by omega⟩) : EReal) := by
  unfold_out out0_21
  frame_out
  rw [Value.canon21_eq]
  pointwise [Value.E21, Value.ix21_0, k0_pay3, k0_pay1]
  refine Finset.sum_congr rfl fun k _ => ?_
  congr 3
  exact Fin.ext (Nat.add_comm _ _)

/-- The first half of the projection through the error unit. -/
theorem u_at (r : Fin 512) (n : Fin 1024) : k0_pay61 x0 x1 x2 x3 x4 x5 x6 x7 x8 x9 (ix2 r n)
    = Layer.gelu (∑ k : Fin 1024, x0 (ix2 r k) * x3 (ix2 k ⟨n.val, by omega⟩) : EReal) := by
  unfold k0_pay61 k0_pay58 k0_pay56
  pointwise [k0_pay22, k0_pay21, k0_pay20, k0_pay2, k0_pay1]
  rfl

/-- The second half of the projection through the error unit, normalized. -/
theorem vg_at (r : Fin 512) (n : Fin 1024) : k0_pay62 x0 x1 x2 x3 x4 x5 x6 x7 x8 x9 (ix2 r n)
    = Layer.norm (fun j => Layer.gelu (∑ k : Fin 1024, x0 (ix2 r k) * x3 (ix2 k ⟨1024 + j.val, by omega⟩) : EReal)) (x6 (ix2 0 n)) (x7 (ix2 0 n)) n := by
  unfold k0_pay62 k0_pay58 k0_pay56
  pointwise [k0_pay23, k0_pay21, k0_pay20, k0_pay2, k0_pay1]
  rfl

/-- The mask over a chunk: on and below the diagonal, since one chunk is one group of rows. -/
theorem keep_at (r c : Fin 128) : k0_pay66 x0 x1 x2 x3 x4 x5 x6 x7 x8 x9 (ix2 r c) = if c ≤ r then 1#1 else 0#1 := by
  unfold k0_pay66 k0_pay65 k0_pay64 k0_pay63 k0_pay60 k0_pay59
  pointwise [k0_pay27, k0_pay26, k0_pay25, k0_pay24]
  have h1 : ∀ r : Fin 128, (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 r.val) 128#32) 0#32))
          (IntOp.subi (IntOp.divsi ArithUnit.vector (BitVec.ofNat 32 r.val) 128#32) 1#32)
          (IntOp.divsi ArithUnit.vector (BitVec.ofNat 32 r.val) 128#32)) = 0#32 := by decide +kernel
  have h2 : ∀ r c : Fin 128, IntOp.cmpi CmpIPredicate.sge (BitVec.ofNat 32 r.val) (BitVec.ofNat 32 c.val) = if c ≤ r then 1#1 else 0#1 := by
    decide +kernel
  rw [h1, h1, h2]
  split <;> rfl

/-- One entry of the gated block: the unit's row times the masked mixing of the chunk's rows plus its shift. -/
def gateEl (u v : Fin 512 → Fin 1024 → EReal) (w : Fin 4 → Fin 128 → Fin 128 → EReal) (b : Fin 128 → Fin 4 → EReal) (R : Fin 512) (N : Fin 1024) : EReal :=
  u R N * ((∑ j : Fin 128, (if j.val ≤ R.val % 128 then w ⟨N.val / 256, by omega⟩ ⟨R.val % 128, by omega⟩ j else 0)
      * v ⟨R.val / 128 * 128 + j.val, by omega⟩ N) + b ⟨R.val % 128, by omega⟩ ⟨N.val / 256, by omega⟩)

/-- The gated block inside one tile of 128 rows and 256 columns. -/
theorem gateEl_tile (u v : Fin 512 → Fin 1024 → EReal) (w : Fin 4 → Fin 128 → Fin 128 → EReal) (b : Fin 128 → Fin 4 → EReal)
    (ch g : Fin 4) (o p : ℕ) (ho : o = ch.val * 128) (hp : p = g.val * 256) (r : Fin 128) (q : Fin 256) (h1 : o + r.val < 512) (h2 : p + q.val < 1024) :
    gateEl u v w b ⟨o + r.val, h1⟩ ⟨p + q.val, h2⟩
      = u ⟨o + r.val, h1⟩ ⟨p + q.val, h2⟩ * ((∑ j : Fin 128, (if j ≤ r then w g r j else 0) * v ⟨o + j.val, by omega⟩ ⟨p + q.val, h2⟩) + b r g) := by
  subst ho hp
  have e1 : (ch.val * 128 + r.val) % 128 = r.val := by omega
  have e2 : (g.val * 256 + q.val) / 256 = g.val := by omega
  have e3 : (ch.val * 128 + r.val) / 128 = ch.val := by omega
  unfold gateEl
  simp only [e1, e2, e3, Fin.eta]
  rfl

/-- The gated block. -/
def gateArr (u v : Fin 512 → Fin 1024 → EReal) (w : Fin 4 → Fin 128 → Fin 128 → EReal) (b : Fin 128 → Fin 4 → EReal) : Vec Ideal S512x1024 .bf16 :=
  fun y => gateEl u v w b (y 0) (y 1)

/-- The first group's masked weights are masked as the other groups' are. -/
theorem w0_eq : k0_pay67 x0 x1 x2 x3 x4 x5 x6 x7 x8 x9 = k0_pay34 (k0_pay66 x0 x1 x2 x3 x4 x5 x6 x7 x8 x9) (View.ld x8 r0_13) := rfl

/-- The gated block, at an index. -/
theorem b15 (R : Fin 512) (N : Fin 1024) : out0_15 x0 x1 x2 x3 x4 x5 x6 x7 x8 x9 (ix2 R N)
    = gateEl (fun r n => Layer.gelu (∑ k : Fin 1024, x0 (ix2 r k) * x3 (ix2 k ⟨n.val, by omega⟩) : EReal))
        (fun r n => Layer.norm (fun j => Layer.gelu (∑ k : Fin 1024, x0 (ix2 r k) * x3 (ix2 k ⟨1024 + j.val, by omega⟩) : EReal)) (x6 (ix2 0 n)) (x7 (ix2 0 n)) n)
        (fun g r c => x8 (ix3 g r c)) (fun r g => x9 (ix2 r g)) R N := by
  have hU := u_at x0 x1 x2 x3 x4 x5 x6 x7 x8 x9
  have hV := vg_at x0 x1 x2 x3 x4 x5 x6 x7 x8 x9
  have hK := keep_at x0 x1 x2 x3 x4 x5 x6 x7 x8 x9
  unfold out0_15 k0_pay71 k0_pay70 k0_pay69 k0_pay68
  rw [w0_eq]
  generalize k0_pay61 x0 x1 x2 x3 x4 x5 x6 x7 x8 x9 = U at hU ⊢
  generalize k0_pay62 x0 x1 x2 x3 x4 x5 x6 x7 x8 x9 = W at hV ⊢
  generalize k0_pay66 x0 x1 x2 x3 x4 x5 x6 x7 x8 x9 = K at hK ⊢
  have eU : (fun r n => Layer.gelu (∑ k : Fin 1024, x0 (ix2 r k) * x3 (ix2 k ⟨n.val, by omega⟩) : EReal)) = fun (r : Fin 512) (n : Fin 1024) => U (ix2 r n) :=
    funext fun r => funext fun n => (hU r n).symm
  have eV : (fun r n => Layer.norm (fun j => Layer.gelu (∑ k : Fin 1024, x0 (ix2 r k) * x3 (ix2 k ⟨1024 + j.val, by omega⟩) : EReal)) (x6 (ix2 0 n)) (x7 (ix2 0 n)) n)
      = fun (r : Fin 512) (n : Fin 1024) => W (ix2 r n) := funext fun r => funext fun n => (hV r n).symm
  rw [eU, eV]
  clear hU hV eU eV
  have sel : ∀ (r c : Fin 128) (a : EReal), Scalar.select (K (ix2 r c)) a 0 = if c ≤ r then a else 0 := fun r c a => by
    rw [hK]; split <;> rfl
  refine View.canon_apply_of_pieces (gateArr (fun r n => U (ix2 r n)) (fun r n => W (ix2 r n)) (fun g r c => x8 (ix3 g r c)) (fun r g => x9 (ix2 r g))) _ ?_ (ix2 R N) (cover0_15 _ _ _ _ _ _ _ _ _ _ _ _ _ _ _ _ _)
  intro pc hpc
  simp only [List.mem_cons, List.mem_nil_iff, or_false] at hpc
  rcases hpc with rfl | rfl | rfl | rfl | rfl | rfl | rfl | rfl | rfl | rfl | rfl | rfl | rfl | rfl | rfl | rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 3 3 _ _ rfl rfl r q _ _).symm
    pointwise [k0_pay54, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 2 3 _ _ rfl rfl r q _ _).symm
    pointwise [k0_pay53, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 1 3 _ _ rfl rfl r q _ _).symm
    pointwise [k0_pay52, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 0 3 _ _ rfl rfl r q _ _).symm
    pointwise [k0_pay51, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 3 2 _ _ rfl rfl r q _ _).symm
    pointwise [k0_pay46, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 2 2 _ _ rfl rfl r q _ _).symm
    pointwise [k0_pay45, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 1 2 _ _ rfl rfl r q _ _).symm
    pointwise [k0_pay44, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 0 2 _ _ rfl rfl r q _ _).symm
    pointwise [k0_pay43, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 3 1 _ _ rfl rfl r q _ _).symm
    pointwise [k0_pay39, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 2 1 _ _ rfl rfl r q _ _).symm
    pointwise [k0_pay38, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 1 1 _ _ rfl rfl r q _ _).symm
    pointwise [k0_pay37, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 0 1 _ _ rfl rfl r q _ _).symm
    pointwise [k0_pay36, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 3 0 _ _ rfl rfl r q _ _).symm
    pointwise [k0_pay33, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 2 0 _ _ rfl rfl r q _ _).symm
    pointwise [k0_pay32, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 1 0 _ _ rfl rfl r q _ _).symm
    pointwise [k0_pay31, k0_pay29, k0_pay34, k0_pay35, k0_pay40, k0_pay41, k0_pay42, k0_pay47, k0_pay48, k0_pay49, k0_pay50]
    simp only [sel, ite_mul, zero_mul]
    try rfl
  · intro x
    obtain ⟨r, q, rfl⟩ : ∃ (r : Fin 128) (q : Fin 256), x = ix2 r q := ⟨x 0, x 1, by funext d; fin_cases d <;> rfl⟩
    rw [Layer.emb_at (a := 512) (b := 1024) _ r q (by omega) (by omega)]
    refine Eq.trans ?_ (gateEl_tile _ _ _ _ 0 0 _ _ rfl rfl r q _ _).symm
    pointwise [k0_pay30, k0_pay29, k0_pay34, k0_pay35, k0_pay40, k0_pay41, k0_pay42, k0_pay47, k0_pay48, k0_pay49, k0_pay50]
    simp only [sel, ite_mul, zero_mul]
    try rfl

end Cert.MixIdeal
-- ==== Proof.MixArrays.lean ====
/- The arrays that the fused projection leaves, as functions of the layer's arguments: what each window holds, and what the launch writes. -/
module

public import proofs.«01_k».proof.Defs
public import proofs.«01_k».proof.Proof.MixBlocks

@[expose] public section
set_option maxRecDepth 16384
noncomputable section
open Idealize.ShloMosaic Idealize.ShloMosaic.TcCoe Idealize.SL.Sem

namespace Cert.MixIdeal
open Cert.MixIdeal.Gen
variable (m : (ℓ : Loc nD τ sig) → Buf (Elt Ideal) ℓ)

/-- Where each window's block lies at a grid point. -/
theorem idx : ∀ t : Fin cfg0.N, win0_0.index t = ![(grid0.coords t 0).val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0, 0] ∧ win0_9.index t = ![0, 0]
    ∧ win0_10.index t = ![(grid0.coords t 0).val, 0] ∧ win0_11.index t = ![(grid0.coords t 0).val, 0] ∧ win0_12.index t = ![(grid0.coords t 0).val, 0]
    ∧ win0_13.index t = ![(grid0.coords t 0).val, 0] ∧ win0_14.index t = ![(grid0.coords t 0).val, 0] ∧ win0_15.index t = ![(grid0.coords t 0).val, 0]
    ∧ win0_16.index t = ![(grid0.coords t 0).val, 0] ∧ win0_17.index t = ![(grid0.coords t 0).val, 0] ∧ win0_18.index t = ![0, (grid0.coords t 0).val]
    ∧ win0_19.index t = ![0, (grid0.coords t 0).val] ∧ win0_20.index t = ![0, (grid0.coords t 0).val] ∧ win0_21.index t = ![(grid0.coords t 0).val, 0, 0] := by
  decide +kernel

/-- Window 0: rows of `h`. -/
theorem i0 (c : Dev nD) (t : Fin cfg0.N) (r : Fin 512) (k : Fin 1024) (h : (grid0.coords t 0).val * 512 + r.val < 65536) :
    iblk m c 0 t (ix2 r k) = m ((c : Thread nD τ).loc main_arg0) (ix2 ⟨(grid0.coords t 0).val * 512 + r.val, h⟩ k) := by
  blk_simp [iblk]
  show V m c main_arg0 _ = _
  rw [V_main_arg0]
  blk_ext [idx t]

/-- Window 1: the weights' first 1536 columns. -/
theorem i1 (c : Dev nD) (t : Fin cfg0.N) (k : Fin 1024) (j : Fin 1536) : iblk m c 1 t (ix2 k j) = m ((c : Thread nD τ).loc main_arg1) (ix2 k ⟨j.val, by omega⟩) := by
  blk_simp [iblk]
  show V m c main_v7 _ = _
  have e : ((win0_1.blk t).view.emb (ix2 k j)) = (ix2 k j) := by blk_ext [idx t]
  rw [e]
  unfold V
  simp only [hostOps0, hostOps0_1, hostOps0_2, hostOps0_3, hostOps0_4, List.flatten_cons, List.flatten_nil, List.append_nil, List.cons_append, List.nil_append]
  after_results
  pointwise

/-- Window 3: the gate's columns of the weights. -/
theorem i3 (c : Dev nD) (t : Fin cfg0.N) (k : Fin 1024) (j : Fin 2048) : iblk m c 3 t (ix2 k j) = m ((c : Thread nD τ).loc main_arg1) (ix2 k ⟨2120 + j.val, by omega⟩) := by
  blk_simp [iblk]
  show V m c main_v8 _ = _
  have e : ((win0_3.blk t).view.emb (ix2 k j)) = (ix2 k j) := by blk_ext [idx t]
  rw [e]
  unfold V
  simp only [hostOps0, hostOps0_1, hostOps0_2, hostOps0_3, hostOps0_4, List.flatten_cons, List.flatten_nil, List.append_nil, List.cons_append, List.nil_append]
  after_results
  pointwise

/-- Window 4: the first branch gate's columns. -/
theorem i4 (c : Dev nD) (t : Fin cfg0.N) (k j : Fin 1024) : iblk m c 4 t (ix2 k j) = m ((c : Thread nD τ).loc main_arg1) (ix2 k ⟨4168 + j.val, by omega⟩) := by
  blk_simp [iblk]
  show V m c main_v9 _ = _
  have e : ((win0_4.blk t).view.emb (ix2 k j)) = (ix2 k j) := by blk_ext [idx t]
  rw [e]
  unfold V
  simp only [hostOps0, hostOps0_1, hostOps0_2, hostOps0_3, hostOps0_4, List.flatten_cons, List.flatten_nil, List.append_nil, List.cons_append, List.nil_append]
  after_results
  pointwise

/-- Window 5: the second branch gate's columns. -/
theorem i5 (c : Dev nD) (t : Fin cfg0.N) (k j : Fin 1024) : iblk m c 5 t (ix2 k j) = m ((c : Thread nD τ).loc main_arg1) (ix2 k ⟨5192 + j.val, by omega⟩) := by
  blk_simp [iblk]
  show V m c main_v10 _ = _
  have e : ((win0_5.blk t).view.emb (ix2 k j)) = (ix2 k j) := by blk_ext [idx t]
  rw [e]
  unfold V
  simp only [hostOps0, hostOps0_1, hostOps0_2, hostOps0_3, hostOps0_4, List.flatten_cons, List.flatten_nil, List.append_nil, List.cons_append, List.nil_append]
  after_results
  pointwise

/-- Window 6: the gate normalization's scale. -/
theorem i6 (c : Dev nD) (t : Fin cfg0.N) (j : Fin 1024) : iblk m c 6 t (ix2 0 j) = m ((c : Thread nD τ).loc main_arg2) (ix1 j) := by
  blk_simp [iblk]
  show V m c main_v18 _ = _
  have e : ((win0_6.blk t).view.emb (ix2 0 j)) = (ix2 0 j) := by blk_ext [idx t]
  rw [e]
  unfold V
  simp only [hostOps0, hostOps0_1, hostOps0_2, hostOps0_3, hostOps0_4, List.flatten_cons, List.flatten_nil, List.append_nil, List.cons_append, List.nil_append]
  after_results
  pointwise

/-- Window 7: the gate normalization's shift. -/
theorem i7 (c : Dev nD) (t : Fin cfg0.N) (j : Fin 1024) : iblk m c 7 t (ix2 0 j) = m ((c : Thread nD τ).loc main_arg3) (ix1 j) := by
  blk_simp [iblk]
  show V m c main_v19 _ = _
  have e : ((win0_7.blk t).view.emb (ix2 0 j)) = (ix2 0 j) := by blk_ext [idx t]
  rw [e]
  unfold V
  simp only [hostOps0, hostOps0_1, hostOps0_2, hostOps0_3, hostOps0_4, List.flatten_cons, List.flatten_nil, List.append_nil, List.cons_append, List.nil_append]
  after_results
  pointwise

/-- Window 8: the gate's mixing weights. -/
theorem i8 (c : Dev nD) (t : Fin cfg0.N) (g : Fin 4) (i j : Fin 128) : iblk m c 8 t (ix3 g i j) = m ((c : Thread nD τ).loc main_arg4) (ix3 g i j) := by
  blk_simp [iblk]
  show V m c main_v13 _ = _
  have e : ((win0_8.blk t).view.emb (ix3 g i j)) = (ix3 g i j) := by blk_ext [idx t]
  rw [e]
  unfold V
  simp only [hostOps0, hostOps0_1, hostOps0_2, hostOps0_3, hostOps0_4, List.flatten_cons, List.flatten_nil, List.append_nil, List.cons_append, List.nil_append]
  after_results
  pointwise

/-- Window 9: the gate's shifts, transposed. -/
theorem i9 (c : Dev nD) (t : Fin cfg0.N) (i : Fin 128) (g : Fin 4) : iblk m c 9 t (ix2 i g) = m ((c : Thread nD τ).loc main_arg5) (ix2 g i) := by
  blk_simp [iblk]
  show V m c main_v17 _ = _
  have e : ((win0_9.blk t).view.emb (ix2 i g)) = (ix2 i g) := by blk_ext [idx t]
  rw [e]
  unfold V
  simp only [hostOps0, hostOps0_1, hostOps0_2, hostOps0_3, hostOps0_4, List.flatten_cons, List.flatten_nil, List.append_nil, List.cons_append, List.nil_append]
  after_results
  pointwise

/-- Three matrices side by side, read in the first. -/
theorem cat_a (A : Vec Ideal S1024x512 .bf16) (B C : Vec Ideal S1024x128 .bf16) (k : Fin 1024) (j : Fin 512) :
    concatenate S1024x768 1 [⟨S1024x512, A⟩, ⟨S1024x128, B⟩, ⟨S1024x128, C⟩] concatenates_S1024x512_S1024x128_S1024x128_S1024x768_d1 (ix2 k ⟨j.val, by omega⟩) = A (ix2 k ⟨j.val, by omega⟩) := by
  pointwise

/-- Three matrices side by side, read in the second. -/
theorem cat_b (A : Vec Ideal S1024x512 .bf16) (B C : Vec Ideal S1024x128 .bf16) (k : Fin 1024) (j : Fin 64) :
    concatenate S1024x768 1 [⟨S1024x512, A⟩, ⟨S1024x128, B⟩, ⟨S1024x128, C⟩] concatenates_S1024x512_S1024x128_S1024x128_S1024x768_d1 (ix2 k ⟨512 + j.val, by omega⟩) = B (ix2 k ⟨j.val, by omega⟩) := by
  pointwise
  rw [dif_pos (by omega)]

/-- Three matrices side by side, read in the third. -/
theorem cat_c (A : Vec Ideal S1024x512 .bf16) (B C : Vec Ideal S1024x128 .bf16) (k : Fin 1024) (j : Fin 8) :
    concatenate S1024x768 1 [⟨S1024x512, A⟩, ⟨S1024x128, B⟩, ⟨S1024x128, C⟩] concatenates_S1024x512_S1024x128_S1024x128_S1024x768_d1 (ix2 k ⟨640 + j.val, by omega⟩) = C (ix2 k ⟨j.val, by omega⟩) := by
  pointwise
  rw [dif_neg (by omega), dif_neg (by omega)]
  exact congrArg C (congrArg (ix2 k) (Fin.ext (by simp; omega)))

/-- Window 2, first part: the index queries' columns. -/
theorem i2a (c : Dev nD) (t : Fin cfg0.N) (k : Fin 1024) (j : Fin 512) : iblk m c 2 t (ix2 k ⟨j.val, by omega⟩) = m ((c : Thread nD τ).loc main_arg1) (ix2 k ⟨1536 + j.val, by omega⟩) := by
  blk_simp [iblk]
  show V m c main_v6 _ = _
  have e : ((win0_2.blk t).view.emb (ix2 k ⟨j.val, by omega⟩)) = (ix2 k ⟨j.val, by omega⟩) := by blk_ext [idx t]
  rw [e]
  unfold V
  simp only [hostOps0, hostOps0_1, hostOps0_2, hostOps0_3, hostOps0_4, List.flatten_cons, List.flatten_nil, List.append_nil, List.cons_append, List.nil_append]
  after_results
  refine (cat_a _ _ _ k j).trans ?_
  pointwise
  after_results_simp
  pointwise

/-- Window 2, second part: the index key's columns. -/
theorem i2b (c : Dev nD) (t : Fin cfg0.N) (k : Fin 1024) (j : Fin 64) : iblk m c 2 t (ix2 k ⟨512 + j.val, by omega⟩) = m ((c : Thread nD τ).loc main_arg1) (ix2 k ⟨2048 + j.val, by omega⟩) := by
  blk_simp [iblk]
  show V m c main_v6 _ = _
  have e : ((win0_2.blk t).view.emb (ix2 k ⟨512 + j.val, by omega⟩)) = (ix2 k ⟨512 + j.val, by omega⟩) := by blk_ext [idx t]
  rw [e]
  unfold V
  simp only [hostOps0, hostOps0_1, hostOps0_2, hostOps0_3, hostOps0_4, List.flatten_cons, List.flatten_nil, List.append_nil, List.cons_append, List.nil_append]
  after_results
  refine (cat_b _ _ _ k j).trans ?_
  pointwise
  after_results_simp
  simp only [StableHlo.TRef.toBuf, StableHlo.TRef.ofBuf, cast_eq]
  pointwise

/-- Window 2, third part: the index heads' weights' columns. -/
theorem i2c (c : Dev nD) (t : Fin cfg0.N) (k : Fin 1024) (j : Fin 8) : iblk m c 2 t (ix2 k ⟨640 + j.val, by omega⟩) = m ((c : Thread nD τ).loc main_arg1) (ix2 k ⟨2112 + j.val, by omega⟩) := by
  blk_simp [iblk]
  show V m c main_v6 _ = _
  have e : ((win0_2.blk t).view.emb (ix2 k ⟨640 + j.val, by omega⟩)) = (ix2 k ⟨640 + j.val, by omega⟩) := by blk_ext [idx t]
  rw [e]
  unfold V
  simp only [hostOps0, hostOps0_1, hostOps0_2, hostOps0_3, hostOps0_4, List.flatten_cons, List.flatten_nil, List.append_nil, List.cons_append, List.nil_append]
  after_results
  refine (cat_c _ _ _ k j).trans ?_
  pointwise
  after_results_simp
  simp only [StableHlo.TRef.toBuf, StableHlo.TRef.ofBuf, cast_eq]
  pointwise

/-- An entry of `h`. -/
def aH (c : Dev nD) (r : Fin 65536) (k : Fin 1024) : EReal := m ((c : Thread nD τ).loc main_arg0) (ix2 r k)

/-- An entry of the fused projection's weights. -/
def aW (c : Dev nD) (k : Fin 1024) (n : Fin 6216) : EReal := m ((c : Thread nD τ).loc main_arg1) (ix2 k n)

/-- An entry of the gate's mixing weights. -/
def aS (c : Dev nD) (g : Fin 4) (i j : Fin 128) : EReal := m ((c : Thread nD τ).loc main_arg4) (ix3 g i j)

/-- An entry of the gate's shifts. -/
def aB (c : Dev nD) (g : Fin 4) (i : Fin 128) : EReal := m ((c : Thread nD τ).loc main_arg5) (ix2 g i)

/-- A row of `h` times a column of the fused projection's weights. -/
def prj (c : Dev nD) (r : Fin 65536) (n : Fin 6216) : EReal :=
  ∑ k : Fin 1024, aH m c r k * aW m c k n

/-- The key array: `h` times the weights' columns from 1024 on. -/
def G10 (c : Dev nD) : Vec Ideal S65536x256 .f32 :=
  fun y => (fun (r : Fin 65536) (n : Fin 256) => prj m c r ⟨1024 + n.val, by omega⟩) (y 0) (y 1)

/-- The value array: `h` times the weights' columns from 1280 on. -/
def G11 (c : Dev nD) : Vec Ideal S65536x256 .f32 :=
  fun y => (fun (r : Fin 65536) (n : Fin 256) => prj m c r ⟨1280 + n.val, by omega⟩) (y 0) (y 1)

/-- The index key array: `h` times the weights' columns from 2048 on. -/
def G12 (c : Dev nD) : Vec Ideal S65536x64 .f32 :=
  fun y => (fun (r : Fin 65536) (n : Fin 64) => prj m c r ⟨2048 + n.val, by omega⟩) (y 0) (y 1)

/-- The key, to the attention, array: `h` times the weights' columns from 1024 on. -/
def G13 (c : Dev nD) : Vec Ideal S65536x256 .bf16 :=
  fun y => (fun (r : Fin 65536) (n : Fin 256) => prj m c r ⟨1024 + n.val, by omega⟩) (y 0) (y 1)

/-- The index key, to the attention, array: `h` times the weights' columns from 2048 on. -/
def G14 (c : Dev nD) : Vec Ideal S65536x64 .bf16 :=
  fun y => (fun (r : Fin 65536) (n : Fin 64) => prj m c r ⟨2048 + n.val, by omega⟩) (y 0) (y 1)

/-- The first branch gate array: `h` times the weights' columns from 4168 on. -/
def G16 (c : Dev nD) : Vec Ideal S65536x1024 .f32 :=
  fun y => (fun (r : Fin 65536) (n : Fin 1024) => prj m c r ⟨4168 + n.val, by omega⟩) (y 0) (y 1)

/-- The second branch gate array: `h` times the weights' columns from 5192 on. -/
def G17 (c : Dev nD) : Vec Ideal S65536x1024 .f32 :=
  fun y => (fun (r : Fin 65536) (n : Fin 1024) => prj m c r ⟨5192 + n.val, by omega⟩) (y 0) (y 1)

/-- The queries, transposed and scaled: `h` times the weights' first columns, times the constant. -/
def G18 (c : Dev nD) : Vec Ideal S1024x65536 .bf16 :=
  fun y => (fun (n : Fin 1024) (r : Fin 65536) => prj m c r ⟨n.val, by omega⟩ * Ideal.ofBits FTy.f32 0x3E38AA3B#32) (y 0) (y 1)

/-- The index queries, transposed. -/
def G19 (c : Dev nD) : Vec Ideal S512x65536 .bf16 :=
  fun y => (fun (n : Fin 512) (r : Fin 65536) => prj m c r ⟨1536 + n.val, by omega⟩) (y 0) (y 1)

/-- The index heads' weights, transposed. -/
def G20 (c : Dev nD) : Vec Ideal S8x65536 .f32 :=
  fun y => (fun (n : Fin 8) (r : Fin 65536) => prj m c r ⟨2112 + n.val, by omega⟩) (y 0) (y 1)

/-- The values in blocks of 256 rows, each block transposed. -/
def G21 (c : Dev nD) : Vec Ideal S256x256x256 .bf16 :=
  fun y => (fun (d n q : Fin 256) => prj m c ⟨d.val * 256 + q.val, by omega⟩ ⟨1280 + n.val, by omega⟩) (y 0) (y 1) (y 2)

/-- The gate's first half, through the error unit. -/
def gu (c : Dev nD) (r : Fin 65536) (n : Fin 1024) : EReal := Layer.gelu (prj m c r ⟨2120 + n.val, by omega⟩)

/-- The gate's second half, through the error unit and normalized. -/
def gv (c : Dev nD) (r : Fin 65536) (n : Fin 1024) : EReal :=
  Layer.norm (fun j => Layer.gelu (prj m c r ⟨3144 + j.val, by omega⟩)) (m ((c : Thread nD τ).loc main_arg2) (ix1 n)) (m ((c : Thread nD τ).loc main_arg3) (ix1 n)) n

/-- The gate: within its chunk of 128 rows, the second half is mixed by the group's lower-triangular weights and shifted, then times the first half. -/
def gate (c : Dev nD) (R : Fin 65536) (N : Fin 1024) : EReal :=
  gu m c R N * ((∑ j : Fin 128, (if j.val ≤ R.val % 128 then aS m c ⟨N.val / 256, by omega⟩ ⟨R.val % 128, by omega⟩ j else 0)
      * gv m c ⟨R.val / 128 * 128 + j.val, by omega⟩ N) + aB m c ⟨N.val / 256, by omega⟩ ⟨R.val % 128, by omega⟩)

/-- The gate's array. -/
def G15 (c : Dev nD) : Vec Ideal S65536x1024 .bf16 := fun y => gate m c (y 0) (y 1)

/-- The launch leaves `G10` in window 10's array. -/
theorem final10 (c : Dev nD) : (dats m 0 c).arrAt 10 cfg0.N = G10 m c := by
  refine (dats m 0 c).arrAt_eq_of_covers 10 _ (by decide +kernel) fun t hf y => ?_
  blk_simp
  rw [after0_10]
  obtain ⟨r, n, rfl⟩ : ∃ (r : Fin 512) (n : Fin 256), y = (ix2 r n : S512x256.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_10.blk t).view.emb (ix2 r n : S512x256.Idx)) = ix2 (⟨(grid0.coords t 0).val * 512 + r.val, h⟩ : Fin 65536) n := by
    blk_ext [idx t]
  refine (b10 ..).trans ?_
  rw [e]
  exact Finset.sum_congr rfl fun k _ => congrArg₂ (fun a b : EReal => a * b) (i0 m c t r k h) (i1 m c t k ⟨1024 + n.val, by omega⟩)

/-- The launch leaves `G11` in window 11's array. -/
theorem final11 (c : Dev nD) : (dats m 0 c).arrAt 11 cfg0.N = G11 m c := by
  refine (dats m 0 c).arrAt_eq_of_covers 11 _ (by decide +kernel) fun t hf y => ?_
  blk_simp
  rw [after0_11]
  obtain ⟨r, n, rfl⟩ : ∃ (r : Fin 512) (n : Fin 256), y = (ix2 r n : S512x256.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_11.blk t).view.emb (ix2 r n : S512x256.Idx)) = ix2 (⟨(grid0.coords t 0).val * 512 + r.val, h⟩ : Fin 65536) n := by
    blk_ext [idx t]
  refine (b11 ..).trans ?_
  rw [e]
  exact Finset.sum_congr rfl fun k _ => congrArg₂ (fun a b : EReal => a * b) (i0 m c t r k h) (i1 m c t k ⟨1280 + n.val, by omega⟩)

/-- The launch leaves `G12` in window 12's array. -/
theorem final12 (c : Dev nD) : (dats m 0 c).arrAt 12 cfg0.N = G12 m c := by
  refine (dats m 0 c).arrAt_eq_of_covers 12 _ (by decide +kernel) fun t hf y => ?_
  blk_simp
  rw [after0_12]
  obtain ⟨r, n, rfl⟩ : ∃ (r : Fin 512) (n : Fin 64), y = (ix2 r n : S512x64.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_12.blk t).view.emb (ix2 r n : S512x64.Idx)) = ix2 (⟨(grid0.coords t 0).val * 512 + r.val, h⟩ : Fin 65536) n := by
    blk_ext [idx t]
  refine (b12 ..).trans ?_
  rw [e]
  exact Finset.sum_congr rfl fun k _ => congrArg₂ (fun a b : EReal => a * b) (i0 m c t r k h) (i2b m c t k n)

/-- The launch leaves `G13` in window 13's array. -/
theorem final13 (c : Dev nD) : (dats m 0 c).arrAt 13 cfg0.N = G13 m c := by
  refine (dats m 0 c).arrAt_eq_of_covers 13 _ (by decide +kernel) fun t hf y => ?_
  blk_simp
  rw [after0_13]
  obtain ⟨r, n, rfl⟩ : ∃ (r : Fin 512) (n : Fin 256), y = (ix2 r n : S512x256.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_13.blk t).view.emb (ix2 r n : S512x256.Idx)) = ix2 (⟨(grid0.coords t 0).val * 512 + r.val, h⟩ : Fin 65536) n := by
    blk_ext [idx t]
  refine (b13 ..).trans ?_
  rw [e]
  exact Finset.sum_congr rfl fun k _ => congrArg₂ (fun a b : EReal => a * b) (i0 m c t r k h) (i1 m c t k ⟨1024 + n.val, by omega⟩)

/-- The launch leaves `G14` in window 14's array. -/
theorem final14 (c : Dev nD) : (dats m 0 c).arrAt 14 cfg0.N = G14 m c := by
  refine (dats m 0 c).arrAt_eq_of_covers 14 _ (by decide +kernel) fun t hf y => ?_
  blk_simp
  rw [after0_14]
  obtain ⟨r, n, rfl⟩ : ∃ (r : Fin 512) (n : Fin 64), y = (ix2 r n : S512x64.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_14.blk t).view.emb (ix2 r n : S512x64.Idx)) = ix2 (⟨(grid0.coords t 0).val * 512 + r.val, h⟩ : Fin 65536) n := by
    blk_ext [idx t]
  refine (b14 ..).trans ?_
  rw [e]
  exact Finset.sum_congr rfl fun k _ => congrArg₂ (fun a b : EReal => a * b) (i0 m c t r k h) (i2b m c t k n)

/-- The launch leaves `G16` in window 16's array. -/
theorem final16 (c : Dev nD) : (dats m 0 c).arrAt 16 cfg0.N = G16 m c := by
  refine (dats m 0 c).arrAt_eq_of_covers 16 _ (by decide +kernel) fun t hf y => ?_
  blk_simp
  rw [after0_16]
  obtain ⟨r, n, rfl⟩ : ∃ (r : Fin 512) (n : Fin 1024), y = (ix2 r n : S512x1024.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_16.blk t).view.emb (ix2 r n : S512x1024.Idx)) = ix2 (⟨(grid0.coords t 0).val * 512 + r.val, h⟩ : Fin 65536) n := by
    blk_ext [idx t]
  refine (b16 ..).trans ?_
  rw [e]
  exact Finset.sum_congr rfl fun k _ => congrArg₂ (fun a b : EReal => a * b) (i0 m c t r k h) (i4 m c t k n)

/-- The launch leaves `G17` in window 17's array. -/
theorem final17 (c : Dev nD) : (dats m 0 c).arrAt 17 cfg0.N = G17 m c := by
  refine (dats m 0 c).arrAt_eq_of_covers 17 _ (by decide +kernel) fun t hf y => ?_
  blk_simp
  rw [after0_17]
  obtain ⟨r, n, rfl⟩ : ∃ (r : Fin 512) (n : Fin 1024), y = (ix2 r n : S512x1024.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_17.blk t).view.emb (ix2 r n : S512x1024.Idx)) = ix2 (⟨(grid0.coords t 0).val * 512 + r.val, h⟩ : Fin 65536) n := by
    blk_ext [idx t]
  refine (b17 ..).trans ?_
  rw [e]
  exact Finset.sum_congr rfl fun k _ => congrArg₂ (fun a b : EReal => a * b) (i0 m c t r k h) (i5 m c t k n)

/-- The launch leaves `G18` in window 18's array. -/
theorem final18 (c : Dev nD) : (dats m 0 c).arrAt 18 cfg0.N = G18 m c := by
  refine (dats m 0 c).arrAt_eq_of_covers 18 _ (by decide +kernel) fun t hf y => ?_
  blk_simp
  rw [after0_18]
  obtain ⟨n, r, rfl⟩ : ∃ (n : Fin 1024) (r : Fin 512), y = (ix2 n r : S1024x512.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_18.blk t).view.emb (ix2 n r : S1024x512.Idx)) = ix2 n (⟨(grid0.coords t 0).val * 512 + r.val, h⟩ : Fin 65536) := by
    blk_ext [idx t]
  refine (b18 ..).trans ?_
  rw [e]
  refine congrArg (fun a : EReal => a * Ideal.ofBits FTy.f32 0x3E38AA3B#32) ?_
  exact Finset.sum_congr rfl fun k _ => congrArg₂ (fun a b : EReal => a * b) (i0 m c t r k h) (i1 m c t k ⟨n.val, by omega⟩)

/-- The launch leaves `G19` in window 19's array. -/
theorem final19 (c : Dev nD) : (dats m 0 c).arrAt 19 cfg0.N = G19 m c := by
  refine (dats m 0 c).arrAt_eq_of_covers 19 _ (by decide +kernel) fun t hf y => ?_
  blk_simp
  rw [after0_19]
  obtain ⟨n, r, rfl⟩ : ∃ (n : Fin 512) (r : Fin 512), y = (ix2 n r : S512x512.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_19.blk t).view.emb (ix2 n r : S512x512.Idx)) = ix2 n (⟨(grid0.coords t 0).val * 512 + r.val, h⟩ : Fin 65536) := by
    blk_ext [idx t]
  refine (b19 ..).trans ?_
  rw [e]
  exact Finset.sum_congr rfl fun k _ => congrArg₂ (fun a b : EReal => a * b) (i0 m c t r k h) (i2a m c t k n)

/-- The launch leaves `G20` in window 20's array. -/
theorem final20 (c : Dev nD) : (dats m 0 c).arrAt 20 cfg0.N = G20 m c := by
  refine (dats m 0 c).arrAt_eq_of_covers 20 _ (by decide +kernel) fun t hf y => ?_
  blk_simp
  rw [after0_20]
  obtain ⟨n, r, rfl⟩ : ∃ (n : Fin 8) (r : Fin 512), y = (ix2 n r : S8x512.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_20.blk t).view.emb (ix2 n r : S8x512.Idx)) = ix2 n (⟨(grid0.coords t 0).val * 512 + r.val, h⟩ : Fin 65536) := by
    blk_ext [idx t]
  refine (b20 ..).trans ?_
  rw [e]
  exact Finset.sum_congr rfl fun k _ => congrArg₂ (fun a b : EReal => a * b) (i0 m c t r k h) (i2c m c t k n)

/-- The launch leaves `G21` in window 21's array. -/
theorem final21 (c : Dev nD) : (dats m 0 c).arrAt 21 cfg0.N = G21 m c := by
  refine (dats m 0 c).arrAt_eq_of_covers 21 _ (by decide +kernel) fun t hf y => ?_
  blk_simp
  rw [after0_21]
  obtain ⟨d, n, q, rfl⟩ : ∃ (d : Fin 2) (n : Fin 256) (q : Fin 256), y = (ix3 d n q : S2x256x256.Idx) := ⟨y 0, y 1, y 2, by funext d; fin_cases d <;> rfl⟩
  have ht : (grid0.coords t 0).val < 128 := (grid0.coords t 0).isLt
  have h : (grid0.coords t 0).val * 2 + d.val < 256 := by have := d.isLt; omega
  have h' : (grid0.coords t 0).val * 512 + (d.val * 256 + q.val) < 65536 := by have := d.isLt; have := q.isLt; omega
  have e : ((win0_21.blk t).view.emb (ix3 d n q : S2x256x256.Idx)) = ix3 (⟨(grid0.coords t 0).val * 2 + d.val, h⟩ : Fin 256) n q := by
    blk_ext [idx t]
  refine (b21 ..).trans ?_
  rw [e]
  have er : (⟨(grid0.coords t 0).val * 512 + (d.val * 256 + q.val), h'⟩ : Fin 65536) = ⟨((grid0.coords t 0).val * 2 + d.val) * 256 + q.val, by omega⟩ := Fin.ext (by simp only; omega)
  refine (Finset.sum_congr rfl fun k _ => congrArg₂ (fun a b : EReal => a * b) (i0 m c t ⟨d.val * 256 + q.val, by omega⟩ k h') (i1 m c t k ⟨1280 + n.val, by omega⟩)).trans ?_
  exact congrArg (fun R => prj m c R ⟨1280 + n.val, by omega⟩) er

/-- A block of the gate is the gate at the block's rows. -/
theorem gateEl_glob (c : Dev nD) (i : ℕ) (hi : i < 128) (R : Fin 512) (N : Fin 1024) (h : i * 512 + R.val < 65536) :
    gateEl (fun r n => gu m c ⟨i * 512 + r.val, by omega⟩ n) (fun r n => gv m c ⟨i * 512 + r.val, by omega⟩ n)
      (fun g r j => aS m c g r j) (fun r g => aB m c g r) R N
      = gate m c ⟨i * 512 + R.val, h⟩ N := by
  have h1 : (i * 512 + R.val) % 128 = R.val % 128 := by omega
  have h2 : ∀ j : Fin 128, (⟨(i * 512 + R.val) / 128 * 128 + j.val, by omega⟩ : Fin 65536) = ⟨i * 512 + (R.val / 128 * 128 + j.val), by omega⟩ := fun j =>
    Fin.ext (by simp only; omega)
  unfold gateEl gate
  simp only [h1, h2]

/-- The gate of a block whose operands are the block's rows of `h` and the whole of the weights. -/
theorem gate_glob (c : Dev nD) (i : ℕ) (hi : i < 128) (x0 : Vec Ideal S512x1024 .f32) (x3 : Vec Ideal S1024x2048 .bf16)
    (x6 x7 : Vec Ideal S1x1024 .f32) (x8 : Vec Ideal S4x128x128 .f32) (x9 : Vec Ideal S128x4 .f32)
    (h : ∀ r : Fin 512, i * 512 + r.val < 65536)
    (h0 : ∀ r k, x0 (ix2 r k) = aH m c ⟨i * 512 + r.val, h r⟩ k) (h3 : ∀ k (j : Fin 2048), x3 (ix2 k j) = aW m c k ⟨2120 + j.val, by omega⟩)
    (h6 : ∀ j, x6 (ix2 0 j) = m ((c : Thread nD τ).loc main_arg2) (ix1 j)) (h7 : ∀ j, x7 (ix2 0 j) = m ((c : Thread nD τ).loc main_arg3) (ix1 j))
    (h8 : ∀ g a b, x8 (ix3 g a b) = aS m c g a b) (h9 : ∀ a g, x9 (ix2 a g) = aB m c g a) (R : Fin 512) (N : Fin 1024) :
    gateEl (fun r n => Layer.gelu (∑ k : Fin 1024, x0 (ix2 r k) * x3 (ix2 k ⟨n.val, by omega⟩) : EReal))
        (fun r n => Layer.norm (fun j => Layer.gelu (∑ k : Fin 1024, x0 (ix2 r k) * x3 (ix2 k ⟨1024 + j.val, by omega⟩) : EReal)) (x6 (ix2 0 n)) (x7 (ix2 0 n)) n)
        (fun g r c => x8 (ix3 g r c)) (fun r g => x9 (ix2 r g)) R N = gate m c ⟨i * 512 + R.val, h R⟩ N := by
  refine Eq.trans ?_ (gateEl_glob m c i hi R N (h R))
  have s : ∀ (a : Fin 512) (b : Fin 2048) (n : Fin 6216), 2120 + b.val = n.val → (∑ k : Fin 1024, x0 (ix2 a k) * x3 (ix2 k b) : EReal) = prj m c ⟨i * 512 + a.val, h a⟩ n := fun a b n e => by
    have e' : (⟨2120 + b.val, by omega⟩ : Fin 6216) = n := Fin.ext e
    rw [← e']
    exact Finset.sum_congr rfl fun k _ => congrArg₂ (fun a b : EReal => a * b) (h0 a k) (h3 k b)
  have eu : (fun (a : Fin 512) (b : Fin 1024) => Layer.gelu (∑ k : Fin 1024, x0 (ix2 a k) * x3 (ix2 k ⟨b.val, by omega⟩) : EReal))
      = fun a b => gu m c ⟨i * 512 + a.val, h a⟩ b := funext fun a => funext fun b => congrArg Layer.gelu (s a ⟨b.val, by omega⟩ _ rfl)
  have ev : (fun (a : Fin 512) (b : Fin 1024) => Layer.norm (fun j : Fin 1024 => Layer.gelu (∑ k : Fin 1024, x0 (ix2 a k) * x3 (ix2 k ⟨1024 + j.val, by omega⟩) : EReal))
        (x6 (ix2 0 b)) (x7 (ix2 0 b)) b)
      = fun a b => gv m c ⟨i * 512 + a.val, h a⟩ b := funext fun a => funext fun b => by
    have e1 : (fun j : Fin 1024 => Layer.gelu (∑ k : Fin 1024, x0 (ix2 a k) * x3 (ix2 k ⟨1024 + j.val, by omega⟩) : EReal))
        = fun j => Layer.gelu (prj m c ⟨i * 512 + a.val, h a⟩ ⟨3144 + j.val, by omega⟩) := funext fun j =>
      congrArg Layer.gelu (s a ⟨1024 + j.val, by omega⟩ _ (by simp only; omega))
    rw [e1, h6, h7]
    rfl
  have ew : (fun (g : Fin 4) (a b : Fin 128) => (x8 (ix3 g a b) : EReal)) = fun g a b => aS m c g a b :=
    funext fun g => funext fun a => funext fun b => h8 g a b
  have eb : (fun (a : Fin 128) (g : Fin 4) => (x9 (ix2 a g) : EReal)) = fun a g => aB m c g a :=
    funext fun a => funext fun g => h9 a g
  exact congrFun (congrFun (congr (congr (congr (congrArg gateEl eu) ev) ew) eb) R) N

/-- The launch leaves `G15` in window 15's array. -/
theorem final15 (c : Dev nD) : (dats m 0 c).arrAt 15 cfg0.N = G15 m c := by
  refine (dats m 0 c).arrAt_eq_of_covers 15 _ (by decide +kernel) fun t hf y => ?_
  blk_simp
  rw [after0_15]
  obtain ⟨r, n, rfl⟩ : ∃ (r : Fin 512) (n : Fin 1024), y = (ix2 r n : S512x1024.Idx) := ⟨y 0, y 1, by funext d; fin_cases d <;> rfl⟩
  have ht : (grid0.coords t 0).val < 128 := (grid0.coords t 0).isLt
  have h : ∀ r : Fin 512, (grid0.coords t 0).val * 512 + r.val < 65536 := fun r => by have := r.isLt; omega
  have e : ((win0_15.blk t).view.emb (ix2 r n : S512x1024.Idx)) = ix2 (⟨(grid0.coords t 0).val * 512 + r.val, h r⟩ : Fin 65536) n := by
    blk_ext [idx t]
  refine (b15 ..).trans ?_
  rw [e]
  exact gate_glob m c (grid0.coords t 0).val ht _ _ _ _ _ _ h (fun r k => i0 m c t r k (h r)) (i3 m c t) (i6 m c t) (i7 m c t) (i8 m c t) (i9 m c t) r n

/-- The program's run: the twelve result arrays, in the claim's order, are these functions of the arguments, which are unchanged. -/
theorem run (ρ : Dev nD → PrngReg) : θ_run defs (onTc (τ := τ) (main (F := Ideal))) ⟨m, fun _ => 0, ρ⟩ fun r => ∀ c : Dev nD,
      r.2.mem ((c : Thread nD τ).loc main_v20_0) = G10 m c
      ∧ r.2.mem ((c : Thread nD τ).loc main_v20_1) = G11 m c
      ∧ r.2.mem ((c : Thread nD τ).loc main_v20_2) = G12 m c
      ∧ r.2.mem ((c : Thread nD τ).loc main_v20_3) = G13 m c
      ∧ r.2.mem ((c : Thread nD τ).loc main_v20_4) = G14 m c
      ∧ r.2.mem ((c : Thread nD τ).loc main_v20_5) = G15 m c
      ∧ r.2.mem ((c : Thread nD τ).loc main_v20_6) = G16 m c
      ∧ r.2.mem ((c : Thread nD τ).loc main_v20_7) = G17 m c
      ∧ r.2.mem ((c : Thread nD τ).loc main_v20_8) = G18 m c
      ∧ r.2.mem ((c : Thread nD τ).loc main_v20_11) = G21 m c
      ∧ r.2.mem ((c : Thread nD τ).loc main_v20_9) = G19 m c
      ∧ r.2.mem ((c : Thread nD τ).loc main_v20_10) = G20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    obtain ⟨h0, h1, h2, h3, h4, h5, h6, h7, h8, h9, h10, h11, hk⟩ := h c
    exact ⟨h0.trans (final10 m c), h1.trans (final11 m c), h2.trans (final12 m c), h3.trans (final13 m c), h4.trans (final14 m c),
      h5.trans (final15 m c), h6.trans (final16 m c), h7.trans (final17 m c), h8.trans (final18 m c), h11.trans (final21 m c),
      h9.trans (final19 m c), h10.trans (final20 m c), hk⟩) (Value.run_blocks m ρ)

end Cert.MixIdeal
-- ==== Proof.MixValue.lean ====
/- The reference of the fused projection read index by index, and the claim that kernel and reference agree. -/
module

public import proofs.«01_k».proof.Defs
public import proofs.«01_k».proof.Proof.MixArrays
public import proofs.«01_k».proof.Proof.Gen.MixRefIdeal.Run
public import Idealize.ShloMosaic.Lib.Quiescent

@[expose] public section

set_option maxRecDepth 16384

noncomputable section

open Idealize.ShloMosaic Idealize.ShloMosaic.TcCoe Idealize.SL.Sem

namespace Cert.MixRefIdeal

/-- The Gaussian error unit as the reference multiplies it: the cube as `(x·x)·x`. -/
def gelu (x : EReal) : EReal :=
  x * (Ideal.ofBits FTy.f32 0x3F000000#32 * (1
    + Ideal.tanh (Ideal.ofBits FTy.f32 0x3F4C422A#32 * (x + Ideal.ofBits FTy.f32 0x3D372713#32 * (x * x * x)))))

/-- It is the layer's error unit. -/
theorem gelu_eq (x : EReal) : gelu x = Layer.gelu x := by
  unfold gelu Layer.gelu
  rw [mul_comm (x * x) x]

/-- The reference's gate, of plain functions: the mask selects each product or zero. -/
def rgate (H : Fin 65536 → Fin 1024 → EReal) (W : Fin 1024 → Fin 6216 → EReal) (g b : Fin 1024 → EReal)
    (S : Fin 4 → Fin 128 → Fin 128 → EReal) (B : Fin 4 → Fin 128 → EReal) (R : Fin 65536) (N : Fin 1024) : EReal :=
  gelu (∑ k, H R k * W k ⟨2120 + N.val, by omega⟩)
    * ((∑ x : Fin 128, Scalar.select (IntOp.cmpi CmpIPredicate.sge (IntOp.addi (BitVec.ofNat 32 (R.val % 128)) 0#32) (BitVec.ofNat 32 x.val))
        (Layer.norm (fun j => gelu (∑ k, H ⟨R.val / 128 * 128 + x.val, by omega⟩ k * W k ⟨2120 + (1024 + j.val), by omega⟩)) (g N) (b N) N
          * S ⟨N.val / 256, by omega⟩ ⟨R.val % 128, by omega⟩ x) 0)
      + B ⟨N.val / 256, by omega⟩ ⟨R.val % 128, by omega⟩)

variable (m : (ℓ : Loc nD τ sig) → Buf (Elt Ideal) ℓ)

/-- The reference's gate, at an index. -/
theorem ref_at (c : Dev nD) (R : Fin 65536) (N : Fin 1024) : Value.res_main_v67 m c (ix2 R N)
    = rgate (fun r k => m ((c.tc : Thread nD τ).loc main_arg0) (ix2 r k)) (fun k n => m ((c.tc : Thread nD τ).loc main_arg1) (ix2 k n))
        (fun n => m ((c.tc : Thread nD τ).loc main_arg2) (ix1 n)) (fun n => m ((c.tc : Thread nD τ).loc main_arg3) (ix1 n))
        (fun g i j => m ((c.tc : Thread nD τ).loc main_arg4) (ix3 g i j)) (fun g i => m ((c.tc : Thread nD τ).loc main_arg5) (ix2 g i)) R N := by
  pointwise [Value.res_main_v67]
  rfl

/-- The mask: on and below the diagonal. -/
theorem mask (i x : Fin 128) : IntOp.cmpi CmpIPredicate.sge (IntOp.addi (BitVec.ofNat 32 i.val) 0#32) (BitVec.ofNat 32 x.val)
    = if x.val ≤ i.val then 1#1 else 0#1 := by
  revert i x
  decide +kernel

/-- The reference's gate is the layer's: a product masked to zero is a product with a masked weight. -/
theorem rgate_eq (m : (ℓ : Loc Cert.MixIdeal.nD Cert.MixIdeal.τ Cert.MixIdeal.sig) → Buf (Elt Ideal) ℓ) (c : Dev Cert.MixIdeal.nD) (R : Fin 65536) (N : Fin 1024) :
    rgate (Cert.MixIdeal.aH m c) (Cert.MixIdeal.aW m c) (fun n => m ((c.tc : Thread Cert.MixIdeal.nD Cert.MixIdeal.τ).loc Cert.MixIdeal.main_arg2) (ix1 n))
        (fun n => m ((c.tc : Thread Cert.MixIdeal.nD Cert.MixIdeal.τ).loc Cert.MixIdeal.main_arg3) (ix1 n)) (Cert.MixIdeal.aS m c) (Cert.MixIdeal.aB m c) R N
      = Cert.MixIdeal.gate m c R N := by
  unfold rgate Cert.MixIdeal.gate
  refine congrArg₂ (fun a b : EReal => a * b) (gelu_eq _) (congrArg (fun a : EReal => a + _) (Finset.sum_congr rfl fun x _ => ?_))
  have hm := mask ⟨R.val % 128, by omega⟩ x
  simp only at hm
  have hv : Layer.norm (fun j : Fin 1024 => gelu (∑ k, Cert.MixIdeal.aH m c ⟨R.val / 128 * 128 + x.val, by omega⟩ k * Cert.MixIdeal.aW m c k ⟨2120 + (1024 + j.val), by omega⟩))
      (m ((c.tc : Thread Cert.MixIdeal.nD Cert.MixIdeal.τ).loc Cert.MixIdeal.main_arg2) (ix1 N)) (m ((c.tc : Thread Cert.MixIdeal.nD Cert.MixIdeal.τ).loc Cert.MixIdeal.main_arg3) (ix1 N)) N
      = Cert.MixIdeal.gv m c ⟨R.val / 128 * 128 + x.val, by omega⟩ N := by
    unfold Cert.MixIdeal.gv
    refine congrArg (fun z => Layer.norm z _ _ N) (funext fun j => (gelu_eq _).trans (congrArg Layer.gelu ?_))
    exact congrArg (Cert.MixIdeal.prj m c _) (Fin.ext (by simp only; omega))
  rw [hm, hv]
  split
  · exact mul_comm _ _
  · exact (zero_mul _).symm

end Cert.MixRefIdeal

namespace Cert.Dense

/-- The fused projection at the extended reals: kernel and reference end with equal results, all twelve, and unchanged arguments. -/
theorem algebraic_mix : (hF : Cert.MixIdeal.Facts) → (hR : Cert.MixRefIdeal.Facts) →
    Cert.algebraic_MixIdeal_MixRefIdeal (hMixIdeal := hF) (hMixRefIdeal := hR) := by
  intro hF hR m ρ m' ρ' _ hag
  refine ⟨fun c => Cert.MixIdeal.G10 m c, fun c => Cert.MixIdeal.G11 m c, fun c => Cert.MixIdeal.G12 m c, fun c => Cert.MixIdeal.G13 m c,
    fun c => Cert.MixIdeal.G14 m c, fun c => Cert.MixIdeal.G15 m c, fun c => Cert.MixIdeal.G16 m c, fun c => Cert.MixIdeal.G17 m c,
    fun c => Cert.MixIdeal.G18 m c, fun c => Cert.MixIdeal.G21 m c, fun c => Cert.MixIdeal.G19 m c, fun c => Cert.MixIdeal.G20 m c,
    Cert.MixIdeal.run m ρ, ?_⟩
  refine (θ_run Cert.MixRefIdeal.defs _ _).mono (fun r h c => ?_) (Cert.MixRefIdeal.Value.run (F := Ideal) m' ρ')
  obtain ⟨e0, e1, e2, e3, e4, e5, e6, e7, e8, e9, e10, e11, hk⟩ := h c
  obtain ⟨h0, h1, h2, h3, h4, h5⟩ := hag c
  refine ⟨e0.trans ?_, e1.trans ?_, e2.trans ?_, e3.trans ?_, e4.trans ?_, e5.trans ?_, e6.trans ?_, e7.trans ?_, e8.trans ?_, e9.trans ?_,
    e10.trans ?_, e11.trans ?_, hk⟩
  all_goals funext y
  case refine_6 =>
    obtain ⟨r, n, rfl⟩ : ∃ (r : Fin 65536) (n : Fin 1024), y = (ix2 r n : Cert.MixIdeal.S65536x1024.Idx) := ⟨y 0, y 1, by funext d; fin_cases d <;> rfl⟩
    refine (Cert.MixRefIdeal.ref_at m' c r n).trans ?_
    rw [h0, h1, h2, h3, h4, h5]
    exact Cert.MixRefIdeal.rgate_eq m c r n
  case refine_10 =>
    obtain ⟨d, n, q, rfl⟩ : ∃ (d n q : Fin 256), y = (ix3 d n q : Cert.MixIdeal.S256x256x256.Idx) := ⟨y 0, y 1, y 2, by funext d; fin_cases d <;> rfl⟩
    rw [h0, h1]
    pointwise
    rfl
  case refine_9 =>
    obtain ⟨n, r, rfl⟩ : ∃ (n : Fin 1024) (r : Fin 65536), y = (ix2 n r : Cert.MixIdeal.S1024x65536.Idx) := ⟨y 0, y 1, by funext d; fin_cases d <;> rfl⟩
    rw [h0, h1]
    pointwise
    rfl
  case refine_11 =>
    obtain ⟨n, r, rfl⟩ : ∃ (n : Fin 512) (r : Fin 65536), y = (ix2 n r : Cert.MixIdeal.S512x65536.Idx) := ⟨y 0, y 1, by funext d; fin_cases d <;> rfl⟩
    rw [h0, h1]
    pointwise
    rfl
  case refine_12 =>
    obtain ⟨n, r, rfl⟩ : ∃ (n : Fin 8) (r : Fin 65536), y = (ix2 n r : Cert.MixIdeal.S8x65536.Idx) := ⟨y 0, y 1, by funext d; fin_cases d <;> rfl⟩
    rw [h0, h1]
    pointwise
    rfl
  case refine_3 | refine_5 =>
    obtain ⟨r, n, rfl⟩ : ∃ (r : Fin 65536) (n : Fin 64), y = (ix2 r n : Cert.MixIdeal.S65536x64.Idx) := ⟨y 0, y 1, by funext d; fin_cases d <;> rfl⟩
    rw [h0, h1]
    pointwise
    rfl
  case refine_7 | refine_8 =>
    obtain ⟨r, n, rfl⟩ : ∃ (r : Fin 65536) (n : Fin 1024), y = (ix2 r n : Cert.MixIdeal.S65536x1024.Idx) := ⟨y 0, y 1, by funext d; fin_cases d <;> rfl⟩
    rw [h0, h1]
    pointwise
    rfl
  all_goals
    obtain ⟨r, n, rfl⟩ : ∃ (r : Fin 65536) (n : Fin 256), y = (ix2 r n : Cert.MixIdeal.S65536x256.Idx) := ⟨y 0, y 1, by funext d; fin_cases d <;> rfl⟩
    rw [h0, h1]
    pointwise
    rfl

end Cert.Dense
-- ==== Proof.SampleRefFrame.lean ====
module

public import proofs.«01_k».proof.Defs
public import proofs.«01_k».proof.Proof.Gen.SampleRefIdeal.Run
public import Idealize.ShloMosaic.Lib.Quiescent

/- The frame of the reference of the sample's first half-step and projections. -/

@[expose] public section

noncomputable section

namespace Cert.Dense

open Idealize.ShloMosaic Idealize.ShloMosaic.StableHlo Idealize.SL.Sem

/-- The reference of the sample's first half-step and projections runs to an end in every store, leaves its arguments as they were, and
leaves every semaphore counter at zero. -/
theorem frame_sampleRef : (hR : Cert.SampleRefIdeal.Facts) → Cert.quiescent_SampleRefIdeal (hSampleRefIdeal := hR) := fun _ m ρ _ =>
  (θ_run Cert.SampleRefIdeal.defs _ _).mono (fun r h => ⟨fun c => (h c).2.2.2.2.2.2.2.2.2.2.2.2.2.2, sem_eq_zero_of_no_sems (by decide) r.2⟩)
    (Cert.SampleRefIdeal.Value.run (F := Ideal) m ρ)

end Cert.Dense
-- ==== Proof.SampleFfn.lean ====
/- The first half-step feed-forward call at the sample's shapes: what each grid point's block holds, and the result array after the run. -/
module

public import proofs.«01_k».proof.Defs
public import proofs.«01_k».proof.Proof.Gen.SampleIdeal.Frame
public import Idealize.ShloMosaic.Lib.Quiescent
public import proofs.«01_k».proof.Proof.Layer
public import Idealize.ShloMosaic.Lib.Pointwise
public import Idealize.ShloMosaic.Lib.Pipeline.ValueKit
public import Idealize.ShloMosaic.Lib.VecWindow

@[expose] public section
set_option maxRecDepth 16384
noncomputable section
open Idealize.ShloMosaic Idealize.ShloMosaic.TcCoe Idealize.SL.Sem

namespace Cert.SampleIdeal
open Cert.SampleIdeal.Gen

namespace Ffn

/-- The activations of a block of rows: `silu(x·wg) · (x·wu)`. -/
def actArr (x0 : Vec Ideal S128x1024 .f32) (x1 x2 : Vec Ideal S1024x2816 .bf16) : Vec Ideal S128x2816 .bf16 :=
  fun y => Layer.act (fun i => x0 (ix2 (y 0) i)) (fun i => x1 (ix2 i (y 1))) (fun i => x2 (ix2 i (y 1)))

/-- What the eleven column stores left in the activation scratch, read back whole. -/
theorem scratch_eq (c : Dev nD) (arg1 : Memref sig .tc .vmem S128x1024 .f32) (harg1 : arg1.IsWhole) (arg2 : Memref sig .tc .vmem S1024x2816 .bf16) (harg2 : arg2.IsWhole) (arg3 : Memref sig .tc .vmem S1024x2816 .bf16) (harg3 : arg3.IsWhole) (arg8 : Memref sig .tc .vmem S128x2816 .bf16)
    (x0 : Vec Ideal S128x1024 .f32) (x1 : Vec Ideal S1024x2816 .bf16) (x2 : Vec Ideal S1024x2816 .bf16) (inb) :
   arg8.view.readCov (kernelRun0_A.sl.HS0_11 c arg1 harg1 arg2 harg2 arg3 harg3 x0 x1 x2) (Rect.unit (s := S128x2816) ![0,0] S128x2816.size inb).toLoadRect = actArr x0 x1 x2 := by
  funext y
  show View.read (Elt Ideal) _ _ ((Rect.unit (s := S128x2816) ![0,0] S128x2816.size inb).idx y) = _
  have e : (Rect.unit (s := S128x2816) ![0,0] S128x2816.size inb).idx y = y := by
    funext a; apply Fin.ext; rw [Rect.idx_unit_val]; fin_cases a <;> simp
  rw [e]
  refine View.read_writes_apply_of_pieces _ _ (actArr x0 x1 x2) _ ?_ y (View.cover_of_tiledL _ ![128,256] (by sl_kernel_rfl) y)
  intro p hp j
  simp only [kernelRun0_A.sl.HS0_11, List.mem_cons, List.mem_nil_iff, or_false] at hp
  rcases hp with rfl | rfl | rfl | rfl | rfl | rfl | rfl | rfl | rfl | rfl | rfl
  all_goals
    dsimp only
    sl_unfold_words
    simp only [View.readAt_eq_ld, Memref.IsWhole.read_unread]
    obtain ⟨r, q, rfl⟩ : ∃ (r : Fin 128) (q : Fin 256), j = ix2 r q := ⟨j 0, j 1, by funext d; fin_cases d <;> rfl⟩
    have hq : q.val < 256 := q.isLt
    rw [Layer.emb_at _ r q (by omega) (by omega)]
    generalize hA : View.ld x0 _ = A
    generalize hB : View.ld x1 _ = B
    generalize hC : View.ld x2 _ = C
    have eA := fun k : Fin 1024 => Layer.ld_at (a := 128) (b := 1024) hA r k
    have eB := fun k : Fin 1024 => Layer.ld_at (a := 1024) (b := 2816) hB k q
    have eC := fun k : Fin 1024 => Layer.ld_at (a := 1024) (b := 2816) hC k q
    simp only [Nat.zero_add, Fin.eta] at eA eB eC ⊢
    clear hA hB hC
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [eA, eB, eC]
    rfl

/-- The result block of a grid point, at an index. -/
theorem block_at (c : Dev nD) (i : grid0.Coords) (arg1 : Memref sig .tc .vmem S128x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x2816 .bf16) (harg8 : arg8.IsWhole)
    (x0 : Vec Ideal S128x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (r : Fin 128) (n : Fin 1024) :
    out0_A_6 c i arg1 harg1 arg2 harg2 arg3 harg3 arg4 harg4 arg5 harg5 arg6 harg6 arg7 harg7 arg8 harg8 x0 x1 x2 x3 x4 x5 (ix2 r n)
      = Layer.norm (Layer.half (fun k => x0 (ix2 r k)) (fun k => actArr x0 x1 x2 (ix2 r k)) (fun k j => x3 (ix2 k j)))
          (x4 (ix2 0 n)) (x5 (ix2 0 n)) n := by
  unfold out0_A_6 kernelRun0_A
  dsimp only
  unfold kernelRun0_A.sl.v145 kernelRun0_A.sl.r
  rw [scratch_eq]
  frame_out
  pointwise [k0_pay17]
  rfl

variable (m : (ℓ : Loc nD τ sig) → Buf (Elt Ideal) ℓ) (ρ : Dev nD → PrngReg)

/-- The result array: row `r` of the input through the half-step and its normalization. -/
def G (c : Dev nD) : Buf (Elt Ideal) ((c : Thread nD τ).loc main_v16) := fun y : S512x1024.Idx =>
  let x : Fin 1024 → EReal := fun k => m ((c : Thread nD τ).loc main_arg0) (ix2 (y 0) k)
  Layer.norm (Layer.half x
      (fun k => Layer.act x (fun i => m ((c : Thread nD τ).loc main_arg1) (ix2 i k)) (fun i => m ((c : Thread nD τ).loc main_arg2) (ix2 i k)))
      (fun k j => m ((c : Thread nD τ).loc main_arg3) (ix2 k j)))
    (m ((c : Thread nD τ).loc main_arg4) (ix1 (y 1))) (m ((c : Thread nD τ).loc main_arg5) (ix1 (y 1))) (y 1)

theorem idx : ∀ t : Fin cfg0.N, win0_0.index t = ![(grid0.coords t 0).val, 0] ∧ win0_6.index t = ![(grid0.coords t 0).val, 0]
    ∧ win0_1.index t = ![0, 0] ∧ win0_2.index t = ![0, 0] ∧ win0_3.index t = ![0, 0] ∧ win0_4.index t = ![0, 0] ∧ win0_5.index t = ![0, 0] := by
  decide +kernel

theorem i1 (c : Dev nD) (t : Fin cfg0.N) (k : Fin 1024) (j : Fin 2816) : iblk0 (V5 m ρ) c 1 t (ix2 k j) = m ((c : Thread nD τ).loc main_arg1) (ix2 k j) := by
  blk_simp [iblk0]
  show StableHlo.after hostOps0_4 (W4 m ρ c) (Proc.devRef .tc main_v11) _ = _
  have e : ((win0_1.blk t).view.emb (ix2 k j)) = (ix2 k j) := by blk_ext [idx t]
  rw [e]
  after_results
  pointwise

theorem i2 (c : Dev nD) (t : Fin cfg0.N) (k : Fin 1024) (j : Fin 2816) : iblk0 (V5 m ρ) c 2 t (ix2 k j) = m ((c : Thread nD τ).loc main_arg2) (ix2 k j) := by
  blk_simp [iblk0]
  show StableHlo.after hostOps0_4 (W4 m ρ c) (Proc.devRef .tc main_v12) _ = _
  have e : ((win0_2.blk t).view.emb (ix2 k j)) = (ix2 k j) := by blk_ext [idx t]
  rw [e]
  after_results
  pointwise

theorem i3 (c : Dev nD) (t : Fin cfg0.N) (k : Fin 2816) (j : Fin 1024) : iblk0 (V5 m ρ) c 3 t (ix2 k j) = m ((c : Thread nD τ).loc main_arg3) (ix2 k j) := by
  blk_simp [iblk0]
  show StableHlo.after hostOps0_4 (W4 m ρ c) (Proc.devRef .tc main_v13) _ = _
  have e : ((win0_3.blk t).view.emb (ix2 k j)) = (ix2 k j) := by blk_ext [idx t]
  rw [e]
  after_results
  pointwise

theorem i4 (c : Dev nD) (t : Fin cfg0.N) (j : Fin 1024) : iblk0 (V5 m ρ) c 4 t (ix2 0 j) = m ((c : Thread nD τ).loc main_arg4) (ix1 j) := by
  blk_simp [iblk0]
  show StableHlo.after hostOps0_4 (W4 m ρ c) (Proc.devRef .tc main_v14) _ = _
  have e : ((win0_4.blk t).view.emb (ix2 0 j)) = (ix2 0 j) := by blk_ext [idx t]
  rw [e]
  after_results
  pointwise

theorem i5 (c : Dev nD) (t : Fin cfg0.N) (j : Fin 1024) : iblk0 (V5 m ρ) c 5 t (ix2 0 j) = m ((c : Thread nD τ).loc main_arg5) (ix1 j) := by
  blk_simp [iblk0]
  show StableHlo.after hostOps0_4 (W4 m ρ c) (Proc.devRef .tc main_v15) _ = _
  have e : ((win0_5.blk t).view.emb (ix2 0 j)) = (ix2 0 j) := by blk_ext [idx t]
  rw [e]
  after_results
  pointwise

theorem i0 (c : Dev nD) (t : Fin cfg0.N) (r : Fin 128) (k : Fin 1024) (h : (grid0.coords t 0).val * 128 + r.val < 512) :
    iblk0 (V5 m ρ) c 0 t (ix2 r k) = m ((c : Thread nD τ).loc main_arg0) (ix2 ⟨(grid0.coords t 0).val * 128 + r.val, h⟩ k) := by
  blk_simp [iblk0]
  show W5 m ρ c (Proc.devRef .tc main_arg0) _ = _
  rw [W5_args m ρ c main_arg0 (by decide)]
  blk_ext [idx t]

theorem final (c : Dev nD) : (dat0 (V5 m ρ) c).arrAt 6 cfg0.N = G m c := by
  refine (dat0 (V5 m ρ) c).arrAt_eq_of_covers 6 _ (by decide +kernel) fun t hf y => ?_
  blk_simp
  rw [after0_6, outsAt0]
  obtain ⟨r, n, rfl⟩ : ∃ (r : Fin 128) (n : Fin 1024), y = (ix2 r n : S128x1024.Idx) := ⟨y 0, y 1, by funext d; fin_cases d <;> rfl⟩
  have ht : (grid0.coords t 0).val < 4 := (grid0.coords t 0).isLt
  have h : (grid0.coords t 0).val * 128 + r.val < 512 := by have := r.isLt; omega
  have e : ((win0_6.blk t).view.emb (ix2 r n : S128x1024.Idx)) = ix2 (⟨(grid0.coords t 0).val * 128 + r.val, h⟩ : Fin 512) n := by
    blk_ext [idx t]
  refine (block_at ..).trans ?_
  rw [e]
  have a0 : ∀ k : Fin 1024, (iblk0 (V5 m ρ) c 0 t (ix2 r k) : EReal) = _ := fun k => i0 m ρ c t r k h
  have a1 : ∀ (k : Fin 1024) (j : Fin 2816), (iblk0 (V5 m ρ) c 1 t (ix2 k j) : EReal) = _ := i1 m ρ c t
  have a2 : ∀ (k : Fin 1024) (j : Fin 2816), (iblk0 (V5 m ρ) c 2 t (ix2 k j) : EReal) = _ := i2 m ρ c t
  have a3 : ∀ (k : Fin 2816) (j : Fin 1024), (iblk0 (V5 m ρ) c 3 t (ix2 k j) : EReal) = _ := i3 m ρ c t
  have a4 : ∀ j : Fin 1024, (iblk0 (V5 m ρ) c 4 t (ix2 0 j) : EReal) = _ := i4 m ρ c t
  have a5 : ∀ j : Fin 1024, (iblk0 (V5 m ρ) c 5 t (ix2 0 j) : EReal) = _ := i5 m ρ c t
  show Layer.norm (Layer.half (fun k => iblk0 (V5 m ρ) c 0 t (ix2 r k))
      (fun k => Layer.act (fun i => iblk0 (V5 m ρ) c 0 t (ix2 r i)) (fun i => iblk0 (V5 m ρ) c 1 t (ix2 i k)) (fun i => iblk0 (V5 m ρ) c 2 t (ix2 i k)))
      (fun k j => iblk0 (V5 m ρ) c 3 t (ix2 k j))) (iblk0 (V5 m ρ) c 4 t (ix2 0 n)) (iblk0 (V5 m ρ) c 5 t (ix2 0 n)) n = _
  rw [a4, a5, funext a0, funext fun k => funext (a3 k)]
  have e1 : ∀ k : Fin 2816, (fun i : Fin 1024 => (iblk0 (V5 m ρ) c 1 t (ix2 i k) : EReal)) = _ := fun k => funext fun i => a1 i k
  have e2 : ∀ k : Fin 2816, (fun i : Fin 1024 => (iblk0 (V5 m ρ) c 2 t (ix2 i k) : EReal)) = _ := fun k => funext fun i => a2 i k
  simp only [e1, e2]
  rfl

end Ffn

end Cert.SampleIdeal
-- ==== Proof.SampleBlocks.lean ====
/- The projections call at the sample's shapes: what each grid point's blocks hold. -/
module

public import proofs.«01_k».proof.Proof.Gen.SampleIdeal.Frame
public import proofs.«01_k».proof.Proof.Layer
public import Idealize.ShloMosaic.Lib.Pointwise
public import Idealize.ShloMosaic.Lib.Pipeline.ValueKit
public import Idealize.ShloMosaic.Lib.VecWindow

@[expose] public section
set_option maxRecDepth 16384
noncomputable section
open Idealize.ShloMosaic Idealize.ShloMosaic.TcCoe Idealize.SL.Sem

namespace Cert.SampleIdeal
open Cert.SampleIdeal.Gen

namespace Mix

variable (x0 : Vec Ideal S128x1024 .f32) (x1 : Vec Ideal S1024x1536 .bf16) (x2 : Vec Ideal S1024x768 .bf16) (x3 : Vec Ideal S1024x2048 .bf16)
  (x4 x5 : Vec Ideal S1024x1024 .bf16) (x6 x7 : Vec Ideal S1x1024 .f32) (x8 : Vec Ideal S4x128x128 .f32) (x9 : Vec Ideal S128x4 .f32)

/-- The block of keys, at an index: rows of `h` times columns of the weights. -/
theorem b10 (r : Fin 128) (n : Fin 256) : out1_10 x0 x1 x2 x3 x4 x5 x6 x7 x8 x9 (ix2 r n)
    = (∑ k : Fin 1024, x0 (ix2 r k) * x1 (ix2 k ⟨1024 + n.val, by omega⟩) : EReal) := by
  unfold_out out1_10
  frame_out
  pointwise [k1_pay5, k1_pay4, k1_pay2]
  try rfl

/-- The block of values, at an index: rows of `h` times columns of the weights. -/
theorem b11 (r : Fin 128) (n : Fin 256) : out1_11 x0 x1 x2 x3 x4 x5 x6 x7 x8 x9 (ix2 r n)
    = (∑ k : Fin 1024, x0 (ix2 r k) * x1 (ix2 k ⟨1280 + n.val, by omega⟩) : EReal) := by
  unfold_out out1_11
  frame_out
  pointwise [k1_pay6, k1_pay4, k1_pay2]
  try rfl

/-- The block of index keys, at an index: rows of `h` times columns of the weights. -/
theorem b12 (r : Fin 128) (n : Fin 64) : out1_12 x0 x1 x2 x3 x4 x5 x6 x7 x8 x9 (ix2 r n)
    = (∑ k : Fin 1024, x0 (ix2 r k) * x2 (ix2 k ⟨512 + n.val, by omega⟩) : EReal) := by
  unfold_out out1_12
  frame_out
  pointwise [k1_pay10, k1_pay8, k1_pay2]
  try rfl

/-- The block of keys, handed on, at an index: rows of `h` times columns of the weights. -/
theorem b13 (r : Fin 128) (n : Fin 256) : out1_13 x0 x1 x2 x3 x4 x5 x6 x7 x8 x9 (ix2 r n)
    = (∑ k : Fin 1024, x0 (ix2 r k) * x1 (ix2 k ⟨1024 + n.val, by omega⟩) : EReal) := by
  unfold_out out1_13
  frame_out
  pointwise [k1_pay7, k1_pay5, k1_pay4, k1_pay2]
  try rfl

/-- The block of index keys, handed on, at an index: rows of `h` times columns of the weights. -/
theorem b14 (r : Fin 128) (n : Fin 64) : out1_14 x0 x1 x2 x3 x4 x5 x6 x7 x8 x9 (ix2 r n)
    = (∑ k : Fin 1024, x0 (ix2 r k) * x2 (ix2 k ⟨512 + n.val, by omega⟩) : EReal) := by
  unfold_out out1_14
  frame_out
  pointwise [k1_pay12, k1_pay10, k1_pay8, k1_pay2]
  try rfl

/-- The block of first branch gate, at an index: rows of `h` times columns of the weights. -/
theorem b16 (r : Fin 128) (n : Fin 1024) : out1_16 x0 x1 x2 x3 x4 x5 x6 x7 x8 x9 (ix2 r n)
    = (∑ k : Fin 1024, x0 (ix2 r k) * x4 (ix2 k n) : EReal) := by
  unfold_out out1_16
  frame_out
  pointwise [k1_pay16, k1_pay2]
  try rfl

/-- The block of second branch gate, at an index: rows of `h` times columns of the weights. -/
theorem b17 (r : Fin 128) (n : Fin 1024) : out1_17 x0 x1 x2 x3 x4 x5 x6 x7 x8 x9 (ix2 r n)
    = (∑ k : Fin 1024, x0 (ix2 r k) * x5 (ix2 k n) : EReal) := by
  unfold_out out1_17
  frame_out
  pointwise [k1_pay17, k1_pay2]
  try rfl

/-- The block of queries, scaled, at an index: rows of `h` times columns of the weights. -/
theorem b18 (r : Fin 128) (n : Fin 1024) : out1_18 x0 x1 x2 x3 x4 x5 x6 x7 x8 x9 (ix2 r n)
    = (∑ k : Fin 1024, x0 (ix2 r k) * x1 (ix2 k ⟨n.val, by omega⟩) : EReal) * Ideal.ofBits FTy.f32 0x3E38AA3B#32 := by
  unfold_out out1_18
  frame_out
  pointwise [k1_pay13, k1_pay4, k1_pay2]
  try rfl

/-- The block of values, handed on, at an index: rows of `h` times columns of the weights. -/
theorem b19 (r : Fin 128) (n : Fin 256) : out1_19 x0 x1 x2 x3 x4 x5 x6 x7 x8 x9 (ix2 r n)
    = (∑ k : Fin 1024, x0 (ix2 r k) * x1 (ix2 k ⟨1280 + n.val, by omega⟩) : EReal) := by
  unfold_out out1_19
  frame_out
  pointwise [k1_pay14, k1_pay6, k1_pay4, k1_pay2]
  try rfl

/-- The block of index queries, at an index: rows of `h` times columns of the weights. -/
theorem b20 (r : Fin 128) (n : Fin 512) : out1_20 x0 x1 x2 x3 x4 x5 x6 x7 x8 x9 (ix2 r n)
    = (∑ k : Fin 1024, x0 (ix2 r k) * x2 (ix2 k ⟨n.val, by omega⟩) : EReal) := by
  unfold_out out1_20
  frame_out
  pointwise [k1_pay15, k1_pay9, k1_pay8, k1_pay2]
  try rfl

/-- The block of index weights, at an index: rows of `h` times columns of the weights. -/
theorem b21 (r : Fin 128) (n : Fin 128) : out1_21 x0 x1 x2 x3 x4 x5 x6 x7 x8 x9 (ix2 r n)
    = (∑ k : Fin 1024, x0 (ix2 r k) * x2 (ix2 k ⟨640 + n.val, by omega⟩) : EReal) := by
  unfold_out out1_21
  frame_out
  pointwise [k1_pay11, k1_pay8, k1_pay2]
  try rfl

/-- The first half of the projection through the error unit. -/
theorem u_at (r : Fin 128) (n : Fin 1024) : k1_pay36 x0 x1 x2 x3 x4 x5 x6 x7 x8 x9 (ix2 r n)
    = Layer.gelu (∑ k : Fin 1024, x0 (ix2 r k) * x3 (ix2 k ⟨n.val, by omega⟩) : EReal) := by
  unfold k1_pay36 k1_pay35
  pointwise [k1_pay19, k1_pay18, k1_pay3, k1_pay2]
  rfl

/-- The second half of the projection through the error unit, normalized, as the block of `vg`. -/
theorem b22 (r : Fin 128) (n : Fin 1024) : out1_22 x0 x1 x2 x3 x4 x5 x6 x7 x8 x9 (ix2 r n)
    = Layer.norm (fun j => Layer.gelu (∑ k : Fin 1024, x0 (ix2 r k) * x3 (ix2 k ⟨1024 + j.val, by omega⟩) : EReal)) (x6 (ix2 0 n)) (x7 (ix2 0 n)) n := by
  unfold_out out1_22
  frame_out
  pointwise [k1_pay22, k1_pay20, k1_pay21, k1_pay18, k1_pay3, k1_pay2]
  rfl

/-- The second half of the projection through the error unit, normalized, as the mixing reads it. -/
theorem vg_at (r : Fin 128) (n : Fin 1024) : k1_pay40 x0 x1 x2 x3 x4 x5 x6 x7 x8 x9 (ix2 r n)
    = Layer.norm (fun j => Layer.gelu (∑ k : Fin 1024, x0 (ix2 r k) * x3 (ix2 k ⟨1024 + j.val, by omega⟩) : EReal)) (x6 (ix2 0 n)) (x7 (ix2 0 n)) n := by
  unfold k1_pay40 k1_pay37 k1_pay38 k1_pay35
  pointwise [k1_pay23, k1_pay22, k1_pay20, k1_pay21, k1_pay18, k1_pay3, k1_pay2]
  rfl

/-- The mask over a block of rows: on and below the diagonal, inside one group of sixteen rows. -/
theorem keep_at (r c : Fin 128) : k1_pay45 x0 x1 x2 x3 x4 x5 x6 x7 x8 x9 (ix2 r c) = if c ≤ r ∧ r.val / 16 = c.val / 16 then 1#1 else 0#1 := by
  unfold k1_pay45 k1_pay44 k1_pay43 k1_pay42 k1_pay41 k1_pay39
  pointwise [k1_pay28, k1_pay27, k1_pay26, k1_pay25, k1_pay24]
  have h1 : ∀ r : Fin 128, (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 r.val) 16#32) 0#32))
          (IntOp.subi (IntOp.divsi ArithUnit.vector (BitVec.ofNat 32 r.val) 16#32) 1#32)
          (IntOp.divsi ArithUnit.vector (BitVec.ofNat 32 r.val) 16#32)) = BitVec.ofNat 32 (r.val / 16) := by decide +kernel
  have h2 : ∀ r c : Fin 128, IntOp.cmpi CmpIPredicate.sge (BitVec.ofNat 32 r.val) (BitVec.ofNat 32 c.val) = if c ≤ r then 1#1 else 0#1 := by
    decide +kernel
  have h3 : ∀ a b : Fin 8, IntOp.cmpi CmpIPredicate.eq (BitVec.ofNat 32 a.val) (BitVec.ofNat 32 b.val) = if a.val = b.val then 1#1 else 0#1 := by
    decide +kernel
  have h4 := h3 ⟨r.val / 16, by omega⟩ ⟨c.val / 16, by omega⟩
  rw [h1, h1, h2]
  refine (congrArg _ h4).trans ?_
  dsimp only
  by_cases a : c ≤ r <;> by_cases b : r.val / 16 = c.val / 16 <;> simp only [a, b, and_self, and_true, and_false, true_and, false_and, if_true, if_false] <;> rfl

/-- One entry of the gated block: the unit's row times the masked mixing of the group's rows plus its shift. -/
def gateEl (u v : Fin 128 → Fin 1024 → EReal) (w : Fin 4 → Fin 128 → Fin 128 → EReal) (b : Fin 128 → Fin 4 → EReal) (R : Fin 128) (N : Fin 1024) : EReal :=
  u R N * ((∑ j : Fin 128, (if j ≤ R ∧ R.val / 16 = j.val / 16 then w ⟨N.val / 256, by omega⟩ R j else 0) * v j N) + b R ⟨N.val / 256, by omega⟩)

/-- The gated block inside one group of 256 columns. -/
theorem gateEl_tile (u v : Fin 128 → Fin 1024 → EReal) (w : Fin 4 → Fin 128 → Fin 128 → EReal) (b : Fin 128 → Fin 4 → EReal)
    (g : Fin 4) (p : ℕ) (hp : p = g.val * 256) (r : Fin 128) (q : Fin 256) (h1 : 0 + r.val < 128) (h2 : p + q.val < 1024) :
    gateEl u v w b ⟨0 + r.val, h1⟩ ⟨p + q.val, h2⟩
      = u r ⟨p + q.val, h2⟩ * ((∑ j : Fin 128, (if j ≤ r ∧ r.val / 16 = j.val / 16 then w g r j else 0) * v j ⟨p + q.val, h2⟩) + b r g) := by
  subst hp
  have e2 : (g.val * 256 + q.val) / 256 = g.val := by omega
  unfold gateEl
  simp only [e2, Nat.zero_add, Fin.eta]

/-- The gated block. -/
def gateArr (u v : Fin 128 → Fin 1024 → EReal) (w : Fin 4 → Fin 128 → Fin 128 → EReal) (b : Fin 128 → Fin 4 → EReal) : Vec Ideal S128x1024 .bf16 :=
  fun y => gateEl u v w b (y 0) (y 1)

/-- The mask, spelt out in parts, is the mask bound once. -/
theorem mask_eq : k1_pay28 (k1_pay39 x0 x1 x2 x3 x4 x5 x6 x7 x8 x9) (k1_pay41 x0 x1 x2 x3 x4 x5 x6 x7 x8 x9) (k1_pay42 x0 x1 x2 x3 x4 x5 x6 x7 x8 x9) (k1_pay43 x0 x1 x2 x3 x4 x5 x6 x7 x8 x9) (k1_pay44 x0 x1 x2 x3 x4 x5 x6 x7 x8 x9) = k1_pay45 x0 x1 x2 x3 x4 x5 x6 x7 x8 x9 := rfl

/-- The gated block, at an index. -/
theorem b15 (R : Fin 128) (N : Fin 1024) : out1_15 x0 x1 x2 x3 x4 x5 x6 x7 x8 x9 (ix2 R N)
    = gateEl (fun r n => Layer.gelu (∑ k : Fin 1024, x0 (ix2 r k) * x3 (ix2 k ⟨n.val, by omega⟩) : EReal))
        (fun r n => Layer.norm (fun j => Layer.gelu (∑ k : Fin 1024, x0 (ix2 r k) * x3 (ix2 k ⟨1024 + j.val, by omega⟩) : EReal)) (x6 (ix2 0 n)) (x7 (ix2 0 n)) n)
        (fun g r c => x8 (ix3 g r c)) (fun r g => x9 (ix2 r g)) R N := by
  have hU := u_at x0 x1 x2 x3 x4 x5 x6 x7 x8 x9
  have hV := vg_at x0 x1 x2 x3 x4 x5 x6 x7 x8 x9
  have hK := keep_at x0 x1 x2 x3 x4 x5 x6 x7 x8 x9
  unfold out1_15 k1_pay29
  rw [mask_eq]
  generalize k1_pay36 x0 x1 x2 x3 x4 x5 x6 x7 x8 x9 = U at hU ⊢
  generalize k1_pay40 x0 x1 x2 x3 x4 x5 x6 x7 x8 x9 = W at hV ⊢
  generalize k1_pay45 x0 x1 x2 x3 x4 x5 x6 x7 x8 x9 = K at hK ⊢
  have eU : (fun r n => Layer.gelu (∑ k : Fin 1024, x0 (ix2 r k) * x3 (ix2 k ⟨n.val, by omega⟩) : EReal)) = fun (r : Fin 128) (n : Fin 1024) => U (ix2 r n) :=
    funext fun r => funext fun n => (hU r n).symm
  have eV : (fun r n => Layer.norm (fun j => Layer.gelu (∑ k : Fin 1024, x0 (ix2 r k) * x3 (ix2 k ⟨1024 + j.val, by omega⟩) : EReal)) (x6 (ix2 0 n)) (x7 (ix2 0 n)) n)
      = fun (r : Fin 128) (n : Fin 1024) => W (ix2 r n) := funext fun r => funext fun n => (hV r n).symm
  rw [eU, eV]
  clear hU hV eU eV
  have sel : ∀ (r c : Fin 128) (a : EReal), Scalar.select (K (ix2 r c)) a 0 = if c ≤ r ∧ r.val / 16 = c.val / 16 then a else 0 := fun r c a => by
    rw [hK]; split <;> rfl
  refine View.canon_apply_of_pieces (gateArr (fun r n => U (ix2 r n)) (fun r n => W (ix2 r n)) (fun g r c => x8 (ix3 g r c)) (fun r g => x9 (ix2 r g))) _ ?_ (ix2 R N) (cover1_15 _ _ _ _ _)
  intro pc hpc
  simp only [List.mem_cons, List.mem_nil_iff, or_false] at hpc
  rcases hpc with rfl | rfl | rfl | rfl
  · intro x
    obtain ⟨r, q, rfl⟩ : ∃ (r : Fin 128) (q : Fin 256), x = ix2 r q := ⟨x 0, x 1, by funext d; fin_cases d <;> rfl⟩
    rw [Layer.emb_at (a := 128) (b := 1024) _ r q (by omega) (by omega)]
    refine Eq.trans ?_ (gateEl_tile _ _ _ _ 3 _ rfl r q _ _).symm
    pointwise [k1_pay1, k1_pay32, k1_pay33]
    simp only [sel, ite_mul, zero_mul, Nat.zero_add]
    try rfl
  · intro x
    obtain ⟨r, q, rfl⟩ : ∃ (r : Fin 128) (q : Fin 256), x = ix2 r q := ⟨x 0, x 1, by funext d; fin_cases d <;> rfl⟩
    rw [Layer.emb_at (a := 128) (b := 1024) _ r q (by omega) (by omega)]
    refine Eq.trans ?_ (gateEl_tile _ _ _ _ 2 _ rfl r q _ _).symm
    pointwise [k1_pay31]
    simp only [sel, ite_mul, zero_mul, Nat.zero_add]
    try rfl
  · intro x
    obtain ⟨r, q, rfl⟩ : ∃ (r : Fin 128) (q : Fin 256), x = ix2 r q := ⟨x 0, x 1, by funext d; fin_cases d <;> rfl⟩
    rw [Layer.emb_at (a := 128) (b := 1024) _ r q (by omega) (by omega)]
    refine Eq.trans ?_ (gateEl_tile _ _ _ _ 1 _ rfl r q _ _).symm
    pointwise [k1_pay30]
    simp only [sel, ite_mul, zero_mul, Nat.zero_add]
    try rfl
  · intro x
    obtain ⟨r, q, rfl⟩ : ∃ (r : Fin 128) (q : Fin 256), x = ix2 r q := ⟨x 0, x 1, by funext d; fin_cases d <;> rfl⟩
    rw [Layer.emb_at (a := 128) (b := 1024) _ r q (by omega) (by omega)]
    refine Eq.trans ?_ (gateEl_tile _ _ _ _ 0 _ rfl r q _ _).symm
    pointwise [k1_pay28]
    simp only [sel, ite_mul, zero_mul, Nat.zero_add]
    try rfl

end Mix

end Cert.SampleIdeal
-- ==== Proof.SampleRun.lean ====
/- The first half-step and the projections, one after the other at the sample's shapes: every buffer after the run. -/
module

public import proofs.«01_k».proof.Proof.Gen.SampleIdeal.Frame

@[expose] public section
set_option maxRecDepth 16384
noncomputable section
namespace Cert.SampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters the program runs to its end, and every buffer that outlives its calls then holds what the
    calls and the operations between them leave in it, one after the other. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.SampleIdeal.Gen
-- ==== Proof.SampleArrays.lean ====
/- The projections call at the sample's shapes: the result arrays after the run. -/
module

public import proofs.«01_k».proof.Proof.SampleFfn
public import proofs.«01_k».proof.Proof.SampleBlocks
public import proofs.«01_k».proof.Proof.SampleRun

@[expose] public section
set_option maxRecDepth 16384
noncomputable section
open Idealize.ShloMosaic Idealize.ShloMosaic.TcCoe Idealize.SL.Sem

namespace Cert.SampleIdeal
open Cert.SampleIdeal.Gen

namespace Mix

-- read as an opaque array here: only where its entries stand matters
attribute [local irreducible] Ffn.G

variable (m : (ℓ : Loc nD τ sig) → Buf (Elt Ideal) ℓ) (ρ : Dev nD → PrngReg)

/-- The integer zero, read as a float, is zero. -/
theorem sitofp_zero : (FloatOps.sitofp (F := Ideal) FTy.bf16 0#32 : EReal) = 0 := by
  show (((0#32 : BitVec 32).toInt : ℝ) : EReal) = 0
  simp

/-- Where each window's block lies at a grid point. -/
theorem idx : ∀ t : Fin cfg1.N, win1_0.index t = ![(grid1.coords t 0).val, 0]
    ∧ win1_1.index t = ![0, 0]
    ∧ win1_2.index t = ![0, 0]
    ∧ win1_3.index t = ![0, 0]
    ∧ win1_4.index t = ![0, 0]
    ∧ win1_5.index t = ![0, 0]
    ∧ win1_6.index t = ![0, 0]
    ∧ win1_7.index t = ![0, 0]
    ∧ win1_8.index t = ![0, 0, 0]
    ∧ win1_9.index t = ![0, 0]
    ∧ win1_10.index t = ![(grid1.coords t 0).val, 0]
    ∧ win1_11.index t = ![(grid1.coords t 0).val, 0]
    ∧ win1_12.index t = ![(grid1.coords t 0).val, 0]
    ∧ win1_13.index t = ![(grid1.coords t 0).val, 0]
    ∧ win1_14.index t = ![(grid1.coords t 0).val, 0]
    ∧ win1_15.index t = ![(grid1.coords t 0).val, 0]
    ∧ win1_16.index t = ![(grid1.coords t 0).val, 0]
    ∧ win1_17.index t = ![(grid1.coords t 0).val, 0]
    ∧ win1_18.index t = ![(grid1.coords t 0).val, 0]
    ∧ win1_19.index t = ![(grid1.coords t 0).val, 0]
    ∧ win1_20.index t = ![(grid1.coords t 0).val, 0]
    ∧ win1_21.index t = ![(grid1.coords t 0).val, 0]
    ∧ win1_22.index t = ![(grid1.coords t 0).val, 0] := by
  decide +kernel

/-- Window 0: rows of the first half-step's result. -/
theorem i0 (c : Dev nD) (t : Fin cfg1.N) (r : Fin 128) (k : Fin 1024) (h : (grid1.coords t 0).val * 128 + r.val < 512) :
    iblk1 (V7 m ρ) c 0 t (ix2 r k) = Ffn.G m c (ix2 ⟨(grid1.coords t 0).val * 128 + r.val, h⟩ k) := by
  blk_simp [iblk1]
  show W7 m ρ c (Proc.devRef .tc main_v16) _ = _
  rw [W7_of m ρ c main_v16 (by decide), show W6 m ρ c (Proc.devRef .tc main_v16) = Ffn.G m c from (W6_arr m ρ c 6).trans (Ffn.final m ρ c)]
  blk_ext [idx t]

/-- Window 1: the weights' first 1536 columns. -/
theorem i1 (c : Dev nD) (t : Fin cfg1.N) (k : Fin 1024) (j : Fin 1536) : iblk1 (V7 m ρ) c 1 t (ix2 k j) = m ((c : Thread nD τ).loc main_arg6) (ix2 k ⟨j.val, by omega⟩) := by
  blk_simp [iblk1]
  show W7 m ρ c (Proc.devRef .tc main_v7) _ = _
  have e : ((win1_1.blk t).view.emb (ix2 k j)) = (ix2 k j) := by blk_ext [idx t]
  rw [e]
  rw [W7_of m ρ c main_v7 (by decide), W6_of m ρ c main_v7 (by decide)]
  show StableHlo.after hostOps0_4 (W4 m ρ c) (Proc.devRef .tc main_v7) _ = _
  after_results
  pointwise

/-- Window 3: the gate's columns of the weights. -/
theorem i3 (c : Dev nD) (t : Fin cfg1.N) (k : Fin 1024) (j : Fin 2048) : iblk1 (V7 m ρ) c 3 t (ix2 k j) = m ((c : Thread nD τ).loc main_arg6) (ix2 k ⟨2120 + j.val, by omega⟩) := by
  blk_simp [iblk1]
  show W7 m ρ c (Proc.devRef .tc main_v8) _ = _
  have e : ((win1_3.blk t).view.emb (ix2 k j)) = (ix2 k j) := by blk_ext [idx t]
  rw [e]
  rw [W7_of m ρ c main_v8 (by decide), W6_of m ρ c main_v8 (by decide)]
  show StableHlo.after hostOps0_4 (W4 m ρ c) (Proc.devRef .tc main_v8) _ = _
  after_results
  pointwise

/-- Window 4: the first branch gate's columns. -/
theorem i4 (c : Dev nD) (t : Fin cfg1.N) (k : Fin 1024) (j : Fin 1024) : iblk1 (V7 m ρ) c 4 t (ix2 k j) = m ((c : Thread nD τ).loc main_arg6) (ix2 k ⟨4168 + j.val, by omega⟩) := by
  blk_simp [iblk1]
  show W7 m ρ c (Proc.devRef .tc main_v9) _ = _
  have e : ((win1_4.blk t).view.emb (ix2 k j)) = (ix2 k j) := by blk_ext [idx t]
  rw [e]
  rw [W7_of m ρ c main_v9 (by decide), W6_of m ρ c main_v9 (by decide)]
  show StableHlo.after hostOps0_4 (W4 m ρ c) (Proc.devRef .tc main_v9) _ = _
  after_results
  pointwise

/-- Window 5: the second branch gate's columns. -/
theorem i5 (c : Dev nD) (t : Fin cfg1.N) (k : Fin 1024) (j : Fin 1024) : iblk1 (V7 m ρ) c 5 t (ix2 k j) = m ((c : Thread nD τ).loc main_arg6) (ix2 k ⟨5192 + j.val, by omega⟩) := by
  blk_simp [iblk1]
  show W7 m ρ c (Proc.devRef .tc main_v10) _ = _
  have e : ((win1_5.blk t).view.emb (ix2 k j)) = (ix2 k j) := by blk_ext [idx t]
  rw [e]
  rw [W7_of m ρ c main_v10 (by decide), W6_of m ρ c main_v10 (by decide)]
  show StableHlo.after hostOps0_4 (W4 m ρ c) (Proc.devRef .tc main_v10) _ = _
  after_results
  pointwise

/-- Window 6: the gate normalization's scale. -/
theorem i6 (c : Dev nD) (t : Fin cfg1.N) (j : Fin 1024) : iblk1 (V7 m ρ) c 6 t (ix2 0 j) = m ((c : Thread nD τ).loc main_arg7) (ix1 j) := by
  blk_simp [iblk1]
  show W7 m ρ c (Proc.devRef .tc main_v26) _ = _
  have e : ((win1_6.blk t).view.emb (ix2 0 j)) = (ix2 0 j) := by blk_ext [idx t]
  rw [e]
  show StableHlo.after hostOps1 (W6 m ρ c) (Proc.devRef .tc main_v26) _ = _
  after_results
  pointwise
  rw [W6_args m ρ c main_arg7 (by decide)]

/-- Window 7: the gate normalization's shift. -/
theorem i7 (c : Dev nD) (t : Fin cfg1.N) (j : Fin 1024) : iblk1 (V7 m ρ) c 7 t (ix2 0 j) = m ((c : Thread nD τ).loc main_arg8) (ix1 j) := by
  blk_simp [iblk1]
  show W7 m ρ c (Proc.devRef .tc main_v27) _ = _
  have e : ((win1_7.blk t).view.emb (ix2 0 j)) = (ix2 0 j) := by blk_ext [idx t]
  rw [e]
  show StableHlo.after hostOps1 (W6 m ρ c) (Proc.devRef .tc main_v27) _ = _
  after_results
  pointwise
  rw [W6_args m ρ c main_arg8 (by decide)]

/-- Window 8: the gate's mixing weights of one group of sixteen rows, repeated. -/
theorem i8 (c : Dev nD) (t : Fin cfg1.N) (g : Fin 4) (i j : Fin 128) : iblk1 (V7 m ρ) c 8 t (ix3 g i j) = m ((c : Thread nD τ).loc main_arg9) (ix3 g ⟨i.val % 16, by omega⟩ ⟨j.val % 16, by omega⟩) := by
  blk_simp [iblk1]
  show W7 m ρ c (Proc.devRef .tc main_v20) _ = _
  have e : ((win1_8.blk t).view.emb (ix3 g i j)) = (ix3 g i j) := by blk_ext [idx t]
  rw [e]
  show StableHlo.after hostOps1 (W6 m ρ c) (Proc.devRef .tc main_v20) _ = _
  after_results
  pointwise
  rw [W6_args m ρ c main_arg9 (by decide)]

/-- Window 9: the gate's shifts of one group, transposed and repeated. -/
theorem i9 (c : Dev nD) (t : Fin cfg1.N) (i : Fin 128) (g : Fin 4) : iblk1 (V7 m ρ) c 9 t (ix2 i g) = m ((c : Thread nD τ).loc main_arg10) (ix2 g ⟨i.val % 16, by omega⟩) := by
  blk_simp [iblk1]
  show W7 m ρ c (Proc.devRef .tc main_v25) _ = _
  have e : ((win1_9.blk t).view.emb (ix2 i g)) = (ix2 i g) := by blk_ext [idx t]
  rw [e]
  show StableHlo.after hostOps1 (W6 m ρ c) (Proc.devRef .tc main_v25) _ = _
  after_results
  pointwise
  rw [W6_args m ρ c main_arg10 (by decide)]

/-- Three matrices side by side, read in the first. -/
theorem cat_a (A : Vec Ideal S1024x512 .bf16) (B C : Vec Ideal S1024x128 .bf16) (k : Fin 1024) (j : Fin 512) :
    concatenate S1024x768 1 [⟨S1024x512, A⟩, ⟨S1024x128, B⟩, ⟨S1024x128, C⟩] concatenates_S1024x512_S1024x128_S1024x128_S1024x768_d1 (ix2 k ⟨j.val, by omega⟩) = A (ix2 k ⟨j.val, by omega⟩) := by
  pointwise

/-- Three matrices side by side, read in the second. -/
theorem cat_b (A : Vec Ideal S1024x512 .bf16) (B C : Vec Ideal S1024x128 .bf16) (k : Fin 1024) (j : Fin 64) :
    concatenate S1024x768 1 [⟨S1024x512, A⟩, ⟨S1024x128, B⟩, ⟨S1024x128, C⟩] concatenates_S1024x512_S1024x128_S1024x128_S1024x768_d1 (ix2 k ⟨512 + j.val, by omega⟩) = B (ix2 k ⟨j.val, by omega⟩) := by
  pointwise
  rw [dif_pos (by omega)]

/-- Three matrices side by side, read in the third. -/
theorem cat_c (A : Vec Ideal S1024x512 .bf16) (B C : Vec Ideal S1024x128 .bf16) (k : Fin 1024) (j : Fin 128) :
    concatenate S1024x768 1 [⟨S1024x512, A⟩, ⟨S1024x128, B⟩, ⟨S1024x128, C⟩] concatenates_S1024x512_S1024x128_S1024x128_S1024x768_d1 (ix2 k ⟨640 + j.val, by omega⟩) = C (ix2 k ⟨j.val, by omega⟩) := by
  pointwise
  rw [dif_neg (by omega), dif_neg (by omega)]
  exact congrArg C (congrArg (ix2 k) (Fin.ext (by simp; omega)))

/-- Window 2, first part: the index queries' columns. -/
theorem i2a (c : Dev nD) (t : Fin cfg1.N) (k : Fin 1024) (j : Fin 512) : iblk1 (V7 m ρ) c 2 t (ix2 k ⟨j.val, by omega⟩) = m ((c : Thread nD τ).loc main_arg6) (ix2 k ⟨1536 + j.val, by omega⟩) := by
  blk_simp [iblk1]
  show W7 m ρ c (Proc.devRef .tc main_v6) _ = _
  have e : ((win1_2.blk t).view.emb (ix2 k ⟨j.val, by omega⟩)) = (ix2 k ⟨j.val, by omega⟩) := by blk_ext [idx t]
  rw [e]
  rw [W7_of m ρ c main_v6 (by decide), W6_of m ρ c main_v6 (by decide)]
  show StableHlo.after hostOps0_4 (W4 m ρ c) (Proc.devRef .tc main_v6) _ = _
  after_results
  refine (cat_a _ _ _ k j).trans ?_
  pointwise
  after_results_simp
  pointwise

/-- Window 2, second part: the index key's columns. -/
theorem i2b (c : Dev nD) (t : Fin cfg1.N) (k : Fin 1024) (j : Fin 64) : iblk1 (V7 m ρ) c 2 t (ix2 k ⟨512 + j.val, by omega⟩) = m ((c : Thread nD τ).loc main_arg6) (ix2 k ⟨2048 + j.val, by omega⟩) := by
  blk_simp [iblk1]
  show W7 m ρ c (Proc.devRef .tc main_v6) _ = _
  have e : ((win1_2.blk t).view.emb (ix2 k ⟨512 + j.val, by omega⟩)) = (ix2 k ⟨512 + j.val, by omega⟩) := by blk_ext [idx t]
  rw [e]
  rw [W7_of m ρ c main_v6 (by decide), W6_of m ρ c main_v6 (by decide)]
  show StableHlo.after hostOps0_4 (W4 m ρ c) (Proc.devRef .tc main_v6) _ = _
  after_results
  refine (cat_b _ _ _ k j).trans ?_
  pointwise
  after_results_simp
  simp only [StableHlo.TRef.toBuf, StableHlo.TRef.ofBuf, cast_eq]
  pointwise

/-- Window 2, third part: the index heads' weights' columns, then zeros. -/
theorem i2c (c : Dev nD) (t : Fin cfg1.N) (k : Fin 1024) (j : Fin 128) : iblk1 (V7 m ρ) c 2 t (ix2 k ⟨640 + j.val, by omega⟩) = if h : j.val < 8 then m ((c : Thread nD τ).loc main_arg6) (ix2 k ⟨2112 + j.val, by omega⟩) else (0 : EReal) := by
  blk_simp [iblk1]
  show W7 m ρ c (Proc.devRef .tc main_v6) _ = _
  have e : ((win1_2.blk t).view.emb (ix2 k ⟨640 + j.val, by omega⟩)) = (ix2 k ⟨640 + j.val, by omega⟩) := by blk_ext [idx t]
  rw [e]
  rw [W7_of m ρ c main_v6 (by decide), W6_of m ρ c main_v6 (by decide)]
  show StableHlo.after hostOps0_4 (W4 m ρ c) (Proc.devRef .tc main_v6) _ = _
  after_results
  refine (cat_c _ _ _ k j).trans ?_
  pointwise
  after_results_simp
  simp only [StableHlo.TRef.toBuf, StableHlo.TRef.ofBuf, cast_eq]
  pointwise
  split
  · rfl
  · exact sitofp_zero

/-- An entry of the first half-step's result. -/
def aH (c : Dev nD) (r : Fin 512) (k : Fin 1024) : EReal := Ffn.G m c (ix2 r k)

/-- An entry of the fused projection's weights. -/
def aW (c : Dev nD) (k : Fin 1024) (n : Fin 6216) : EReal := m ((c : Thread nD τ).loc main_arg6) (ix2 k n)

/-- An entry of the gate's mixing weights. -/
def aS (c : Dev nD) (g : Fin 4) (i j : Fin 128) : EReal := m ((c : Thread nD τ).loc main_arg9) (ix3 g i j)

/-- An entry of the gate's shifts. -/
def aB (c : Dev nD) (g : Fin 4) (i : Fin 128) : EReal := m ((c : Thread nD τ).loc main_arg10) (ix2 g i)

/-- A row of the first half-step's result times a column of the fused projection's weights. -/
def prj (c : Dev nD) (r : Fin 512) (n : Fin 6216) : EReal :=
  ∑ k : Fin 1024, aH m c r k * aW m c k n

/-- A sum of products of a row's entries with a column's is the row times the column. -/
theorem prj_of (c : Dev nD) (r : Fin 512) (n : Fin 6216) (x y : Fin 1024 → EReal) (hx : ∀ k, x k = aH m c r k) (hy : ∀ k, y k = aW m c k n) :
    (∑ k : Fin 1024, x k * y k) = prj m c r n :=
  Finset.sum_congr rfl fun k _ => congrArg₂ (fun a b : EReal => a * b) (hx k) (hy k)

/-- The array of the keys: the first half-step's result times the weights' columns from 1024 on. -/
def G10 (c : Dev nD) : Vec Ideal S512x256 .f32 :=
  fun y => (fun (r : Fin 512) (n : Fin 256) => prj m c r ⟨1024 + n.val, by omega⟩) (y 0) (y 1)

/-- The array of the values: the first half-step's result times the weights' columns from 1280 on. -/
def G11 (c : Dev nD) : Vec Ideal S512x256 .f32 :=
  fun y => (fun (r : Fin 512) (n : Fin 256) => prj m c r ⟨1280 + n.val, by omega⟩) (y 0) (y 1)

/-- The array of the index keys: the first half-step's result times the weights' columns from 2048 on. -/
def G12 (c : Dev nD) : Vec Ideal S512x64 .f32 :=
  fun y => (fun (r : Fin 512) (n : Fin 64) => prj m c r ⟨2048 + n.val, by omega⟩) (y 0) (y 1)

/-- The array of the keys, to the attention: the first half-step's result times the weights' columns from 1024 on. -/
def G13 (c : Dev nD) : Vec Ideal S512x256 .bf16 :=
  fun y => (fun (r : Fin 512) (n : Fin 256) => prj m c r ⟨1024 + n.val, by omega⟩) (y 0) (y 1)

/-- The array of the index keys, to the attention: the first half-step's result times the weights' columns from 2048 on. -/
def G14 (c : Dev nD) : Vec Ideal S512x64 .bf16 :=
  fun y => (fun (r : Fin 512) (n : Fin 64) => prj m c r ⟨2048 + n.val, by omega⟩) (y 0) (y 1)

/-- The array of the first branch gate: the first half-step's result times the weights' columns from 4168 on. -/
def G16 (c : Dev nD) : Vec Ideal S512x1024 .f32 :=
  fun y => (fun (r : Fin 512) (n : Fin 1024) => prj m c r ⟨4168 + n.val, by omega⟩) (y 0) (y 1)

/-- The array of the second branch gate: the first half-step's result times the weights' columns from 5192 on. -/
def G17 (c : Dev nD) : Vec Ideal S512x1024 .f32 :=
  fun y => (fun (r : Fin 512) (n : Fin 1024) => prj m c r ⟨5192 + n.val, by omega⟩) (y 0) (y 1)

/-- The array of the queries, scaled: the first half-step's result times the weights' columns from 0 on. -/
def G18 (c : Dev nD) : Vec Ideal S512x1024 .bf16 :=
  fun y => (fun (r : Fin 512) (n : Fin 1024) => prj m c r ⟨n.val, by omega⟩ * Ideal.ofBits FTy.f32 0x3E38AA3B#32) (y 0) (y 1)

/-- The array of the values, to the attention: the first half-step's result times the weights' columns from 1280 on. -/
def G19 (c : Dev nD) : Vec Ideal S512x256 .bf16 :=
  fun y => (fun (r : Fin 512) (n : Fin 256) => prj m c r ⟨1280 + n.val, by omega⟩) (y 0) (y 1)

/-- The array of the index queries: the first half-step's result times the weights' columns from 1536 on. -/
def G20 (c : Dev nD) : Vec Ideal S512x512 .bf16 :=
  fun y => (fun (r : Fin 512) (n : Fin 512) => prj m c r ⟨1536 + n.val, by omega⟩) (y 0) (y 1)

/-- The array of the index heads' weights: eight columns, then zeros. -/
def G21 (c : Dev nD) : Vec Ideal S512x128 .f32 :=
  fun y => (fun (r : Fin 512) (n : Fin 128) => if h : n.val < 8 then prj m c r ⟨2112 + n.val, by omega⟩ else (0 : EReal)) (y 0) (y 1)

/-- The gate's first half, through the error unit. -/
def gu (c : Dev nD) (r : Fin 512) (n : Fin 1024) : EReal := Layer.gelu (prj m c r ⟨2120 + n.val, by omega⟩)

/-- The gate's second half, through the error unit and normalized. -/
def gv (c : Dev nD) (r : Fin 512) (n : Fin 1024) : EReal :=
  Layer.norm (fun j => Layer.gelu (prj m c r ⟨3144 + j.val, by omega⟩)) (m ((c : Thread nD τ).loc main_arg7) (ix1 n)) (m ((c : Thread nD τ).loc main_arg8) (ix1 n)) n

/-- The gate: within its group of sixteen rows, the second half is mixed by the lower-triangular weights and shifted, then times the first half. -/
def gate (c : Dev nD) (R : Fin 512) (N : Fin 1024) : EReal :=
  gu m c R N * ((∑ j : Fin 16, (if j.val ≤ R.val % 16 then aS m c ⟨N.val / 256, by omega⟩ ⟨R.val % 16, by omega⟩ ⟨j.val, by omega⟩ else 0)
      * gv m c ⟨R.val / 16 * 16 + j.val, by omega⟩ N) + aB m c ⟨N.val / 256, by omega⟩ ⟨R.val % 16, by omega⟩)

/-- The gate's array. -/
def G15 (c : Dev nD) : Vec Ideal S512x1024 .bf16 := fun y => gate m c (y 0) (y 1)

/-- The array of the gate's second half, normalized. -/
def G22 (c : Dev nD) : Vec Ideal S512x1024 .f32 := fun y => gv m c (y 0) (y 1)

/-- The launch leaves `G10` in window 10's array. -/
theorem final10 (c : Dev nD) : (dat1 (V7 m ρ) c).arrAt 10 cfg1.N = G10 m c := by
  refine (dat1 (V7 m ρ) c).arrAt_eq_of_covers 10 _ (by decide +kernel) fun t hf y => ?_
  blk_simp
  rw [after1_10]
  obtain ⟨r, n, rfl⟩ : ∃ (r : Fin 128) (n : Fin 256), y = (ix2 r n : S128x256.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_10.blk t).view.emb (ix2 r n : S128x256.Idx)) = ix2 (⟨(grid1.coords t 0).val * 128 + r.val, h r⟩ : Fin 512) n := by
    blk_ext [idx t]
  refine (b10 ..).trans ?_
  rw [e]
  show _ = prj m c ⟨(grid1.coords t 0).val * 128 + r.val, h r⟩ ⟨1024 + n.val, by omega⟩
  exact prj_of m c _ _ _ _ (fun k => i0 m ρ c t r k (h r)) (fun k => i1 m ρ c t k ⟨1024 + n.val, by omega⟩)

/-- The launch leaves `G11` in window 11's array. -/
theorem final11 (c : Dev nD) : (dat1 (V7 m ρ) c).arrAt 11 cfg1.N = G11 m c := by
  refine (dat1 (V7 m ρ) c).arrAt_eq_of_covers 11 _ (by decide +kernel) fun t hf y => ?_
  blk_simp
  rw [after1_11]
  obtain ⟨r, n, rfl⟩ : ∃ (r : Fin 128) (n : Fin 256), y = (ix2 r n : S128x256.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_11.blk t).view.emb (ix2 r n : S128x256.Idx)) = ix2 (⟨(grid1.coords t 0).val * 128 + r.val, h r⟩ : Fin 512) n := by
    blk_ext [idx t]
  refine (b11 ..).trans ?_
  rw [e]
  show _ = prj m c ⟨(grid1.coords t 0).val * 128 + r.val, h r⟩ ⟨1280 + n.val, by omega⟩
  exact prj_of m c _ _ _ _ (fun k => i0 m ρ c t r k (h r)) (fun k => i1 m ρ c t k ⟨1280 + n.val, by omega⟩)

/-- The launch leaves `G12` in window 12's array. -/
theorem final12 (c : Dev nD) : (dat1 (V7 m ρ) c).arrAt 12 cfg1.N = G12 m c := by
  refine (dat1 (V7 m ρ) c).arrAt_eq_of_covers 12 _ (by decide +kernel) fun t hf y => ?_
  blk_simp
  rw [after1_12]
  obtain ⟨r, n, rfl⟩ : ∃ (r : Fin 128) (n : Fin 64), y = (ix2 r n : S128x64.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_12.blk t).view.emb (ix2 r n : S128x64.Idx)) = ix2 (⟨(grid1.coords t 0).val * 128 + r.val, h r⟩ : Fin 512) n := by
    blk_ext [idx t]
  refine (b12 ..).trans ?_
  rw [e]
  show _ = prj m c ⟨(grid1.coords t 0).val * 128 + r.val, h r⟩ ⟨2048 + n.val, by omega⟩
  exact prj_of m c _ _ _ _ (fun k => i0 m ρ c t r k (h r)) (fun k => i2b m ρ c t k n)

/-- The launch leaves `G13` in window 13's array. -/
theorem final13 (c : Dev nD) : (dat1 (V7 m ρ) c).arrAt 13 cfg1.N = G13 m c := by
  refine (dat1 (V7 m ρ) c).arrAt_eq_of_covers 13 _ (by decide +kernel) fun t hf y => ?_
  blk_simp
  rw [after1_13]
  obtain ⟨r, n, rfl⟩ : ∃ (r : Fin 128) (n : Fin 256), y = (ix2 r n : S128x256.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_13.blk t).view.emb (ix2 r n : S128x256.Idx)) = ix2 (⟨(grid1.coords t 0).val * 128 + r.val, h r⟩ : Fin 512) n := by
    blk_ext [idx t]
  refine (b13 ..).trans ?_
  rw [e]
  show _ = prj m c ⟨(grid1.coords t 0).val * 128 + r.val, h r⟩ ⟨1024 + n.val, by omega⟩
  exact prj_of m c _ _ _ _ (fun k => i0 m ρ c t r k (h r)) (fun k => i1 m ρ c t k ⟨1024 + n.val, by omega⟩)

/-- The launch leaves `G14` in window 14's array. -/
theorem final14 (c : Dev nD) : (dat1 (V7 m ρ) c).arrAt 14 cfg1.N = G14 m c := by
  refine (dat1 (V7 m ρ) c).arrAt_eq_of_covers 14 _ (by decide +kernel) fun t hf y => ?_
  blk_simp
  rw [after1_14]
  obtain ⟨r, n, rfl⟩ : ∃ (r : Fin 128) (n : Fin 64), y = (ix2 r n : S128x64.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_14.blk t).view.emb (ix2 r n : S128x64.Idx)) = ix2 (⟨(grid1.coords t 0).val * 128 + r.val, h r⟩ : Fin 512) n := by
    blk_ext [idx t]
  refine (b14 ..).trans ?_
  rw [e]
  show _ = prj m c ⟨(grid1.coords t 0).val * 128 + r.val, h r⟩ ⟨2048 + n.val, by omega⟩
  exact prj_of m c _ _ _ _ (fun k => i0 m ρ c t r k (h r)) (fun k => i2b m ρ c t k n)

/-- The launch leaves `G16` in window 16's array. -/
theorem final16 (c : Dev nD) : (dat1 (V7 m ρ) c).arrAt 16 cfg1.N = G16 m c := by
  refine (dat1 (V7 m ρ) c).arrAt_eq_of_covers 16 _ (by decide +kernel) fun t hf y => ?_
  blk_simp
  rw [after1_16]
  obtain ⟨r, n, rfl⟩ : ∃ (r : Fin 128) (n : Fin 1024), y = (ix2 r n : S128x1024.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_16.blk t).view.emb (ix2 r n : S128x1024.Idx)) = ix2 (⟨(grid1.coords t 0).val * 128 + r.val, h r⟩ : Fin 512) n := by
    blk_ext [idx t]
  refine (b16 ..).trans ?_
  rw [e]
  show _ = prj m c ⟨(grid1.coords t 0).val * 128 + r.val, h r⟩ ⟨4168 + n.val, by omega⟩
  exact prj_of m c _ _ _ _ (fun k => i0 m ρ c t r k (h r)) (fun k => i4 m ρ c t k n)

/-- The launch leaves `G17` in window 17's array. -/
theorem final17 (c : Dev nD) : (dat1 (V7 m ρ) c).arrAt 17 cfg1.N = G17 m c := by
  refine (dat1 (V7 m ρ) c).arrAt_eq_of_covers 17 _ (by decide +kernel) fun t hf y => ?_
  blk_simp
  rw [after1_17]
  obtain ⟨r, n, rfl⟩ : ∃ (r : Fin 128) (n : Fin 1024), y = (ix2 r n : S128x1024.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_17.blk t).view.emb (ix2 r n : S128x1024.Idx)) = ix2 (⟨(grid1.coords t 0).val * 128 + r.val, h r⟩ : Fin 512) n := by
    blk_ext [idx t]
  refine (b17 ..).trans ?_
  rw [e]
  show _ = prj m c ⟨(grid1.coords t 0).val * 128 + r.val, h r⟩ ⟨5192 + n.val, by omega⟩
  exact prj_of m c _ _ _ _ (fun k => i0 m ρ c t r k (h r)) (fun k => i5 m ρ c t k n)

/-- The launch leaves `G18` in window 18's array. -/
theorem final18 (c : Dev nD) : (dat1 (V7 m ρ) c).arrAt 18 cfg1.N = G18 m c := by
  refine (dat1 (V7 m ρ) c).arrAt_eq_of_covers 18 _ (by decide +kernel) fun t hf y => ?_
  blk_simp
  rw [after1_18]
  obtain ⟨r, n, rfl⟩ : ∃ (r : Fin 128) (n : Fin 1024), y = (ix2 r n : S128x1024.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_18.blk t).view.emb (ix2 r n : S128x1024.Idx)) = ix2 (⟨(grid1.coords t 0).val * 128 + r.val, h r⟩ : Fin 512) n := by
    blk_ext [idx t]
  refine (b18 ..).trans ?_
  rw [e]
  show _ = prj m c ⟨(grid1.coords t 0).val * 128 + r.val, h r⟩ ⟨n.val, by omega⟩ * Ideal.ofBits FTy.f32 0x3E38AA3B#32
  exact congrArg (fun s : EReal => s * Ideal.ofBits FTy.f32 0x3E38AA3B#32) (prj_of m c _ _ _ _ (fun k => i0 m ρ c t r k (h r)) (fun k => i1 m ρ c t k ⟨n.val, by omega⟩))

/-- The launch leaves `G19` in window 19's array. -/
theorem final19 (c : Dev nD) : (dat1 (V7 m ρ) c).arrAt 19 cfg1.N = G19 m c := by
  refine (dat1 (V7 m ρ) c).arrAt_eq_of_covers 19 _ (by decide +kernel) fun t hf y => ?_
  blk_simp
  rw [after1_19]
  obtain ⟨r, n, rfl⟩ : ∃ (r : Fin 128) (n : Fin 256), y = (ix2 r n : S128x256.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_19.blk t).view.emb (ix2 r n : S128x256.Idx)) = ix2 (⟨(grid1.coords t 0).val * 128 + r.val, h r⟩ : Fin 512) n := by
    blk_ext [idx t]
  refine (b19 ..).trans ?_
  rw [e]
  show _ = prj m c ⟨(grid1.coords t 0).val * 128 + r.val, h r⟩ ⟨1280 + n.val, by omega⟩
  exact prj_of m c _ _ _ _ (fun k => i0 m ρ c t r k (h r)) (fun k => i1 m ρ c t k ⟨1280 + n.val, by omega⟩)

/-- The launch leaves `G20` in window 20's array. -/
theorem final20 (c : Dev nD) : (dat1 (V7 m ρ) c).arrAt 20 cfg1.N = G20 m c := by
  refine (dat1 (V7 m ρ) c).arrAt_eq_of_covers 20 _ (by decide +kernel) fun t hf y => ?_
  blk_simp
  rw [after1_20]
  obtain ⟨r, n, rfl⟩ : ∃ (r : Fin 128) (n : Fin 512), y = (ix2 r n : S128x512.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_20.blk t).view.emb (ix2 r n : S128x512.Idx)) = ix2 (⟨(grid1.coords t 0).val * 128 + r.val, h r⟩ : Fin 512) n := by
    blk_ext [idx t]
  refine (b20 ..).trans ?_
  rw [e]
  show _ = prj m c ⟨(grid1.coords t 0).val * 128 + r.val, h r⟩ ⟨1536 + n.val, by omega⟩
  exact prj_of m c _ _ _ _ (fun k => i0 m ρ c t r k (h r)) (fun k => i2a m ρ c t k n)

/-- The launch leaves `G21` in window 21's array. -/
theorem final21 (c : Dev nD) : (dat1 (V7 m ρ) c).arrAt 21 cfg1.N = G21 m c := by
  refine (dat1 (V7 m ρ) c).arrAt_eq_of_covers 21 _ (by decide +kernel) fun t hf y => ?_
  blk_simp
  rw [after1_21]
  obtain ⟨r, n, rfl⟩ : ∃ (r : Fin 128) (n : Fin 128), y = (ix2 r n : S128x128.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_21.blk t).view.emb (ix2 r n : S128x128.Idx)) = ix2 (⟨(grid1.coords t 0).val * 128 + r.val, h r⟩ : Fin 512) n := by
    blk_ext [idx t]
  refine (b21 ..).trans ?_
  rw [e]
  refine (Finset.sum_congr rfl fun k _ => congrArg₂ (fun a b : EReal => a * b) (i0 m ρ c t r k (h r)) (i2c m ρ c t k n)).trans ?_
  show _ = if h : n.val < 8 then _ else (0 : EReal)
  split
  · rfl
  · exact Finset.sum_eq_zero fun k _ => mul_zero _

/-- A sum over 128 rows of what is zero outside the row's group of sixteen is the sum over the group. -/
theorem sum_group (a : ℕ) (ha : a < 8) (f : Fin 128 → EReal) (hf : ∀ j : Fin 128, j.val / 16 ≠ a → f j = 0) :
    ∑ j : Fin 128, f j = ∑ j : Fin 16, f ⟨a * 16 + j.val, by omega⟩ := by
  symm
  refine Finset.sum_of_injOn (fun j : Fin 16 => (⟨a * 16 + j.val, by omega⟩ : Fin 128)) ?_ (fun _ _ => Finset.mem_coe.2 (Finset.mem_univ _)) ?_ (fun _ _ => rfl)
  · intro x _ y _ e
    have := congrArg Fin.val e
    exact Fin.ext (by simp only at this; omega)
  · intro j _ hj
    refine hf j fun e => hj ⟨⟨j.val % 16, by omega⟩, Finset.mem_coe.2 (Finset.mem_univ _), Fin.ext (by simp only; omega)⟩

/-- A block of the gate is the gate at the block's rows. -/
theorem gateEl_glob (c : Dev nD) (i : ℕ) (hi : i < 4) (R : Fin 128) (N : Fin 1024) (h : i * 128 + R.val < 512) :
    gateEl (fun r n => gu m c ⟨i * 128 + r.val, by omega⟩ n) (fun r n => gv m c ⟨i * 128 + r.val, by omega⟩ n)
      (fun g r j => aS m c g ⟨r.val % 16, by omega⟩ ⟨j.val % 16, by omega⟩) (fun r g => aB m c g ⟨r.val % 16, by omega⟩) R N
      = gate m c ⟨i * 128 + R.val, h⟩ N := by
  have h1 : (i * 128 + R.val) % 16 = R.val % 16 := by omega
  unfold gateEl gate
  simp only [h1]
  refine congrArg (fun s : EReal => gu m c ⟨i * 128 + R.val, h⟩ N * (s + aB m c ⟨N.val / 256, by omega⟩ ⟨R.val % 16, by omega⟩)) ?_
  refine (sum_group (R.val / 16) (by omega) _ fun j hj => ?_).trans (Finset.sum_congr rfl fun j _ => ?_)
  · rw [if_neg fun a => hj a.2.symm, zero_mul]
  · have e1 : (R.val / 16 * 16 + j.val) % 16 = j.val := by omega
    have e2 : (R.val / 16 * 16 + j.val) / 16 = R.val / 16 := by omega
    have e3 : (⟨(i * 128 + R.val) / 16 * 16 + j.val, by omega⟩ : Fin 512) = ⟨i * 128 + (R.val / 16 * 16 + j.val), by omega⟩ := Fin.ext (by simp only; omega)
    have e4 : (⟨R.val / 16 * 16 + j.val, by omega⟩ : Fin 128) ≤ R ↔ j.val ≤ R.val % 16 := by
      rw [Fin.le_def]; simp only; omega
    simp only [e1, e2, e3, e4, and_true]

/-- The gate of a block whose operands are the block's rows of `h` and the whole of the weights. -/
theorem gate_glob (c : Dev nD) (i : ℕ) (hi : i < 4) (x0 : Vec Ideal S128x1024 .f32) (x3 : Vec Ideal S1024x2048 .bf16)
    (x6 x7 : Vec Ideal S1x1024 .f32) (x8 : Vec Ideal S4x128x128 .f32) (x9 : Vec Ideal S128x4 .f32)
    (h : ∀ r : Fin 128, i * 128 + r.val < 512)
    (h0 : ∀ r k, x0 (ix2 r k) = aH m c ⟨i * 128 + r.val, h r⟩ k) (h3 : ∀ k (j : Fin 2048), x3 (ix2 k j) = aW m c k ⟨2120 + j.val, by omega⟩)
    (h6 : ∀ j, x6 (ix2 0 j) = m ((c : Thread nD τ).loc main_arg7) (ix1 j)) (h7 : ∀ j, x7 (ix2 0 j) = m ((c : Thread nD τ).loc main_arg8) (ix1 j))
    (h8 : ∀ g a b, x8 (ix3 g a b) = aS m c g ⟨a.val % 16, by omega⟩ ⟨b.val % 16, by omega⟩) (h9 : ∀ a g, x9 (ix2 a g) = aB m c g ⟨a.val % 16, by omega⟩) (R : Fin 128) (N : Fin 1024) :
    gateEl (fun r n => Layer.gelu (∑ k : Fin 1024, x0 (ix2 r k) * x3 (ix2 k ⟨n.val, by omega⟩) : EReal))
        (fun r n => Layer.norm (fun j => Layer.gelu (∑ k : Fin 1024, x0 (ix2 r k) * x3 (ix2 k ⟨1024 + j.val, by omega⟩) : EReal)) (x6 (ix2 0 n)) (x7 (ix2 0 n)) n)
        (fun g r c => x8 (ix3 g r c)) (fun r g => x9 (ix2 r g)) R N = gate m c ⟨i * 128 + R.val, h R⟩ N := by
  refine Eq.trans ?_ (gateEl_glob m c i hi R N (h R))
  have s : ∀ (a : Fin 128) (b : Fin 2048) (n : Fin 6216), 2120 + b.val = n.val → (∑ k : Fin 1024, x0 (ix2 a k) * x3 (ix2 k b) : EReal) = prj m c ⟨i * 128 + a.val, h a⟩ n := fun a b n e => by
    have e' : (⟨2120 + b.val, by omega⟩ : Fin 6216) = n := Fin.ext e
    rw [← e']
    exact Finset.sum_congr rfl fun k _ => congrArg₂ (fun a b : EReal => a * b) (h0 a k) (h3 k b)
  have eu : (fun (a : Fin 128) (b : Fin 1024) => Layer.gelu (∑ k : Fin 1024, x0 (ix2 a k) * x3 (ix2 k ⟨b.val, by omega⟩) : EReal))
      = fun a b => gu m c ⟨i * 128 + a.val, h a⟩ b := funext fun a => funext fun b => congrArg Layer.gelu (s a ⟨b.val, by omega⟩ _ rfl)
  have ev : (fun (a : Fin 128) (b : Fin 1024) => Layer.norm (fun j : Fin 1024 => Layer.gelu (∑ k : Fin 1024, x0 (ix2 a k) * x3 (ix2 k ⟨1024 + j.val, by omega⟩) : EReal))
        (x6 (ix2 0 b)) (x7 (ix2 0 b)) b)
      = fun a b => gv m c ⟨i * 128 + a.val, h a⟩ b := funext fun a => funext fun b => by
    have e1 : (fun j : Fin 1024 => Layer.gelu (∑ k : Fin 1024, x0 (ix2 a k) * x3 (ix2 k ⟨1024 + j.val, by omega⟩) : EReal))
        = fun j => Layer.gelu (prj m c ⟨i * 128 + a.val, h a⟩ ⟨3144 + j.val, by omega⟩) := funext fun j =>
      congrArg Layer.gelu (s a ⟨1024 + j.val, by omega⟩ _ (by simp only; omega))
    rw [e1, h6, h7]
    rfl
  have ew : (fun (g : Fin 4) (a b : Fin 128) => (x8 (ix3 g a b) : EReal)) = fun g a b => aS m c g ⟨a.val % 16, by omega⟩ ⟨b.val % 16, by omega⟩ :=
    funext fun g => funext fun a => funext fun b => h8 g a b
  have eb : (fun (a : Fin 128) (g : Fin 4) => (x9 (ix2 a g) : EReal)) = fun a g => aB m c g ⟨a.val % 16, by omega⟩ :=
    funext fun a => funext fun g => h9 a g
  exact congrFun (congrFun (congr (congr (congr (congrArg gateEl eu) ev) ew) eb) R) N

/-- The launch leaves `G15` in window 15's array. -/
theorem final15 (c : Dev nD) : (dat1 (V7 m ρ) c).arrAt 15 cfg1.N = G15 m c := by
  refine (dat1 (V7 m ρ) c).arrAt_eq_of_covers 15 _ (by decide +kernel) fun t hf y => ?_
  blk_simp
  rw [after1_15]
  obtain ⟨r, n, rfl⟩ : ∃ (r : Fin 128) (n : Fin 1024), y = (ix2 r n : S128x1024.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_15.blk t).view.emb (ix2 r n : S128x1024.Idx)) = ix2 (⟨(grid1.coords t 0).val * 128 + r.val, h r⟩ : Fin 512) n := by
    blk_ext [idx t]
  refine (b15 ..).trans ?_
  rw [e]
  exact gate_glob m c (grid1.coords t 0).val ht _ _ _ _ _ _ h (fun r k => i0 m ρ c t r k (h r)) (i3 m ρ c t) (i6 m ρ c t) (i7 m ρ c t) (i8 m ρ c t) (i9 m ρ c t) r n

/-- The gate's second half, of a block whose operands are the block's rows and the whole of the weights. -/
theorem vg_glob (c : Dev nD) (i : ℕ) (hi : i < 4) (x0 : Vec Ideal S128x1024 .f32) (x3 : Vec Ideal S1024x2048 .bf16)
    (x6 x7 : Vec Ideal S1x1024 .f32) (h : ∀ r : Fin 128, i * 128 + r.val < 512)
    (h0 : ∀ r k, x0 (ix2 r k) = aH m c ⟨i * 128 + r.val, h r⟩ k) (h3 : ∀ k (j : Fin 2048), x3 (ix2 k j) = aW m c k ⟨2120 + j.val, by omega⟩)
    (h6 : ∀ j, x6 (ix2 0 j) = m ((c : Thread nD τ).loc main_arg7) (ix1 j)) (h7 : ∀ j, x7 (ix2 0 j) = m ((c : Thread nD τ).loc main_arg8) (ix1 j))
    (R : Fin 128) (N : Fin 1024) :
    Layer.norm (fun j => Layer.gelu (∑ k : Fin 1024, x0 (ix2 R k) * x3 (ix2 k ⟨1024 + j.val, by omega⟩) : EReal)) (x6 (ix2 0 N)) (x7 (ix2 0 N)) N
      = gv m c ⟨i * 128 + R.val, h R⟩ N := by
  have e1 : (fun j : Fin 1024 => Layer.gelu (∑ k : Fin 1024, x0 (ix2 R k) * x3 (ix2 k ⟨1024 + j.val, by omega⟩) : EReal))
      = fun j => Layer.gelu (prj m c ⟨i * 128 + R.val, h R⟩ ⟨3144 + j.val, by omega⟩) := funext fun j => by
    have e' : (⟨2120 + (1024 + j.val), by omega⟩ : Fin 6216) = ⟨3144 + j.val, by omega⟩ := Fin.ext (by simp only; omega)
    rw [← e']
    exact congrArg Layer.gelu (Finset.sum_congr rfl fun k _ => congrArg₂ (fun a b : EReal => a * b) (h0 R k) (h3 k ⟨1024 + j.val, by omega⟩))
  rw [e1, h6, h7]
  rfl

/-- The launch leaves `G22` in window 22's array. -/
theorem final22 (c : Dev nD) : (dat1 (V7 m ρ) c).arrAt 22 cfg1.N = G22 m c := by
  refine (dat1 (V7 m ρ) c).arrAt_eq_of_covers 22 _ (by decide +kernel) fun t hf y => ?_
  blk_simp
  rw [after1_22]
  obtain ⟨r, n, rfl⟩ : ∃ (r : Fin 128) (n : Fin 1024), y = (ix2 r n : S128x1024.Idx) := ⟨y 0, y 1, by funext d; fin_cases d <;> rfl⟩
  have ht : (grid1.coords t 0).val < 4 := (grid1.coords t 0).isLt
  have h : ∀ r : Fin 128, (grid1.coords t 0).val * 128 + r.val < 512 := fun r => by have := r.isLt; omega
  have e : ((win1_22.blk t).view.emb (ix2 r n : S128x1024.Idx)) = ix2 (⟨(grid1.coords t 0).val * 128 + r.val, h r⟩ : Fin 512) n := by
    blk_ext [idx t]
  refine (b22 ..).trans ?_
  rw [e]
  exact vg_glob m c (grid1.coords t 0).val ht _ _ _ _ h (fun r k => i0 m ρ c t r k (h r)) (i3 m ρ c t) (i6 m ρ c t) (i7 m ρ c t) r n

/-- What a memory holds at each buffer that outlives the calls, once the program has run. -/
abbrev Ends (c : Dev nD) (μ : (ℓ : Loc nD τ sig) → Buf (Elt Ideal) ℓ) : Prop := ∀ b ∈ Pipeline.ucRefs τ sig, μ (((c : Thread nD τ)).1, b) = W8 m ρ c b

/-- The first half-step's result, after the run. -/
theorem at_h (c : Dev nD) (μ : (ℓ : Loc nD τ sig) → Buf (Elt Ideal) ℓ) (h : Ends m ρ c μ) : μ ((c : Thread nD τ).loc main_v16) = Ffn.G m c :=
  (h _ (mem_uc main_v16 (by decide))).trans ((W8_of m ρ c main_v16 (by decide)).trans ((W7_of m ρ c main_v16 (by decide)).trans ((W6_arr m ρ c 6).trans (Ffn.final m ρ c))))

/-- Result 0 of the projections, after the run. -/
theorem at_0 (c : Dev nD) (μ : (ℓ : Loc nD τ sig) → Buf (Elt Ideal) ℓ) (h : Ends m ρ c μ) : μ ((c : Thread nD τ).loc main_v28_0) = G10 m c :=
  (h _ (mem_uc main_v28_0 (by decide))).trans ((W8_arr m ρ c 10).trans (final10 m ρ c))

/-- Result 1 of the projections, after the run. -/
theorem at_1 (c : Dev nD) (μ : (ℓ : Loc nD τ sig) → Buf (Elt Ideal) ℓ) (h : Ends m ρ c μ) : μ ((c : Thread nD τ).loc main_v28_1) = G11 m c :=
  (h _ (mem_uc main_v28_1 (by decide))).trans ((W8_arr m ρ c 11).trans (final11 m ρ c))

/-- Result 2 of the projections, after the run. -/
theorem at_2 (c : Dev nD) (μ : (ℓ : Loc nD τ sig) → Buf (Elt Ideal) ℓ) (h : Ends m ρ c μ) : μ ((c : Thread nD τ).loc main_v28_2) = G12 m c :=
  (h _ (mem_uc main_v28_2 (by decide))).trans ((W8_arr m ρ c 12).trans (final12 m ρ c))

/-- Result 3 of the projections, after the run. -/
theorem at_3 (c : Dev nD) (μ : (ℓ : Loc nD τ sig) → Buf (Elt Ideal) ℓ) (h : Ends m ρ c μ) : μ ((c : Thread nD τ).loc main_v28_3) = G13 m c :=
  (h _ (mem_uc main_v28_3 (by decide))).trans ((W8_arr m ρ c 13).trans (final13 m ρ c))

/-- Result 4 of the projections, after the run. -/
theorem at_4 (c : Dev nD) (μ : (ℓ : Loc nD τ sig) → Buf (Elt Ideal) ℓ) (h : Ends m ρ c μ) : μ ((c : Thread nD τ).loc main_v28_4) = G14 m c :=
  (h _ (mem_uc main_v28_4 (by decide))).trans ((W8_arr m ρ c 14).trans (final14 m ρ c))

/-- Result 5 of the projections, after the run. -/
theorem at_5 (c : Dev nD) (μ : (ℓ : Loc nD τ sig) → Buf (Elt Ideal) ℓ) (h : Ends m ρ c μ) : μ ((c : Thread nD τ).loc main_v28_5) = G15 m c :=
  (h _ (mem_uc main_v28_5 (by decide))).trans ((W8_arr m ρ c 15).trans (final15 m ρ c))

/-- Result 6 of the projections, after the run. -/
theorem at_6 (c : Dev nD) (μ : (ℓ : Loc nD τ sig) → Buf (Elt Ideal) ℓ) (h : Ends m ρ c μ) : μ ((c : Thread nD τ).loc main_v28_6) = G16 m c :=
  (h _ (mem_uc main_v28_6 (by decide))).trans ((W8_arr m ρ c 16).trans (final16 m ρ c))

/-- Result 7 of the projections, after the run. -/
theorem at_7 (c : Dev nD) (μ : (ℓ : Loc nD τ sig) → Buf (Elt Ideal) ℓ) (h : Ends m ρ c μ) : μ ((c : Thread nD τ).loc main_v28_7) = G17 m c :=
  (h _ (mem_uc main_v28_7 (by decide))).trans ((W8_arr m ρ c 17).trans (final17 m ρ c))

/-- Result 8 of the projections, after the run. -/
theorem at_8 (c : Dev nD) (μ : (ℓ : Loc nD τ sig) → Buf (Elt Ideal) ℓ) (h : Ends m ρ c μ) : μ ((c : Thread nD τ).loc main_v28_8) = G18 m c :=
  (h _ (mem_uc main_v28_8 (by decide))).trans ((W8_arr m ρ c 18).trans (final18 m ρ c))

/-- Result 9 of the projections, after the run. -/
theorem at_9 (c : Dev nD) (μ : (ℓ : Loc nD τ sig) → Buf (Elt Ideal) ℓ) (h : Ends m ρ c μ) : μ ((c : Thread nD τ).loc main_v28_9) = G19 m c :=
  (h _ (mem_uc main_v28_9 (by decide))).trans ((W8_arr m ρ c 19).trans (final19 m ρ c))

/-- Result 10 of the projections, after the run. -/
theorem at_10 (c : Dev nD) (μ : (ℓ : Loc nD τ sig) → Buf (Elt Ideal) ℓ) (h : Ends m ρ c μ) : μ ((c : Thread nD τ).loc main_v28_10) = G20 m c :=
  (h _ (mem_uc main_v28_10 (by decide))).trans ((W8_arr m ρ c 20).trans (final20 m ρ c))

/-- Result 11 of the projections, after the run. -/
theorem at_11 (c : Dev nD) (μ : (ℓ : Loc nD τ sig) → Buf (Elt Ideal) ℓ) (h : Ends m ρ c μ) : μ ((c : Thread nD τ).loc main_v28_11) = G21 m c :=
  (h _ (mem_uc main_v28_11 (by decide))).trans ((W8_arr m ρ c 21).trans (final21 m ρ c))

/-- Result 12 of the projections, after the run. -/
theorem at_12 (c : Dev nD) (μ : (ℓ : Loc nD τ sig) → Buf (Elt Ideal) ℓ) (h : Ends m ρ c μ) : μ ((c : Thread nD τ).loc main_v28_12) = G22 m c :=
  (h _ (mem_uc main_v28_12 (by decide))).trans ((W8_arr m ρ c 22).trans (final22 m ρ c))

/-- Argument 0, after the run. -/
theorem arg_0 (c : Dev nD) (μ : (ℓ : Loc nD τ sig) → Buf (Elt Ideal) ℓ) (h : Ends m ρ c μ) : μ ((c : Thread nD τ).loc main_arg0) = m ((c : Thread nD τ).loc main_arg0) :=
  (h _ (mem_uc main_arg0 (by decide))).trans (W8_main_arg0 m ρ c)

/-- Argument 1, after the run. -/
theorem arg_1 (c : Dev nD) (μ : (ℓ : Loc nD τ sig) → Buf (Elt Ideal) ℓ) (h : Ends m ρ c μ) : μ ((c : Thread nD τ).loc main_arg1) = m ((c : Thread nD τ).loc main_arg1) :=
  (h _ (mem_uc main_arg1 (by decide))).trans (W8_main_arg1 m ρ c)

/-- Argument 2, after the run. -/
theorem arg_2 (c : Dev nD) (μ : (ℓ : Loc nD τ sig) → Buf (Elt Ideal) ℓ) (h : Ends m ρ c μ) : μ ((c : Thread nD τ).loc main_arg2) = m ((c : Thread nD τ).loc main_arg2) :=
  (h _ (mem_uc main_arg2 (by decide))).trans (W8_main_arg2 m ρ c)

/-- Argument 3, after the run. -/
theorem arg_3 (c : Dev nD) (μ : (ℓ : Loc nD τ sig) → Buf (Elt Ideal) ℓ) (h : Ends m ρ c μ) : μ ((c : Thread nD τ).loc main_arg3) = m ((c : Thread nD τ).loc main_arg3) :=
  (h _ (mem_uc main_arg3 (by decide))).trans (W8_main_arg3 m ρ c)

/-- Argument 4, after the run. -/
theorem arg_4 (c : Dev nD) (μ : (ℓ : Loc nD τ sig) → Buf (Elt Ideal) ℓ) (h : Ends m ρ c μ) : μ ((c : Thread nD τ).loc main_arg4) = m ((c : Thread nD τ).loc main_arg4) :=
  (h _ (mem_uc main_arg4 (by decide))).trans (W8_main_arg4 m ρ c)

/-- Argument 5, after the run. -/
theorem arg_5 (c : Dev nD) (μ : (ℓ : Loc nD τ sig) → Buf (Elt Ideal) ℓ) (h : Ends m ρ c μ) : μ ((c : Thread nD τ).loc main_arg5) = m ((c : Thread nD τ).loc main_arg5) :=
  (h _ (mem_uc main_arg5 (by decide))).trans (W8_main_arg5 m ρ c)

/-- Argument 6, after the run. -/
theorem arg_6 (c : Dev nD) (μ : (ℓ : Loc nD τ sig) → Buf (Elt Ideal) ℓ) (h : Ends m ρ c μ) : μ ((c : Thread nD τ).loc main_arg6) = m ((c : Thread nD τ).loc main_arg6) :=
  (h _ (mem_uc main_arg6 (by decide))).trans (W8_main_arg6 m ρ c)

/-- Argument 7, after the run. -/
theorem arg_7 (c : Dev nD) (μ : (ℓ : Loc nD τ sig) → Buf (Elt Ideal) ℓ) (h : Ends m ρ c μ) : μ ((c : Thread nD τ).loc main_arg7) = m ((c : Thread nD τ).loc main_arg7) :=
  (h _ (mem_uc main_arg7 (by decide))).trans (W8_main_arg7 m ρ c)

/-- Argument 8, after the run. -/
theorem arg_8 (c : Dev nD) (μ : (ℓ : Loc nD τ sig) → Buf (Elt Ideal) ℓ) (h : Ends m ρ c μ) : μ ((c : Thread nD τ).loc main_arg8) = m ((c : Thread nD τ).loc main_arg8) :=
  (h _ (mem_uc main_arg8 (by decide))).trans (W8_main_arg8 m ρ c)

/-- Argument 9, after the run. -/
theorem arg_9 (c : Dev nD) (μ : (ℓ : Loc nD τ sig) → Buf (Elt Ideal) ℓ) (h : Ends m ρ c μ) : μ ((c : Thread nD τ).loc main_arg9) = m ((c : Thread nD τ).loc main_arg9) :=
  (h _ (mem_uc main_arg9 (by decide))).trans (W8_main_arg9 m ρ c)

/-- Argument 10, after the run. -/
theorem arg_10 (c : Dev nD) (μ : (ℓ : Loc nD τ sig) → Buf (Elt Ideal) ℓ) (h : Ends m ρ c μ) : μ ((c : Thread nD τ).loc main_arg10) = m ((c : Thread nD τ).loc main_arg10) :=
  (h _ (mem_uc main_arg10 (by decide))).trans (W8_main_arg10 m ρ c)

/-- The program's run: the fourteen result arrays, in the claim's order, are these functions of the arguments, which are unchanged. -/
theorem run : θ_run defs (onTc (τ := τ) (main (F := Ideal))) ⟨m, fun _ => 0, ρ⟩ fun r => ∀ c : Dev nD,
      r.2.mem ((c : Thread nD τ).loc main_v16) = Ffn.G m c
      ∧ r.2.mem ((c : Thread nD τ).loc main_v28_0) = G10 m c
      ∧ r.2.mem ((c : Thread nD τ).loc main_v28_1) = G11 m c
      ∧ r.2.mem ((c : Thread nD τ).loc main_v28_2) = G12 m c
      ∧ r.2.mem ((c : Thread nD τ).loc main_v28_3) = G13 m c
      ∧ r.2.mem ((c : Thread nD τ).loc main_v28_4) = G14 m c
      ∧ r.2.mem ((c : Thread nD τ).loc main_v28_5) = G15 m c
      ∧ r.2.mem ((c : Thread nD τ).loc main_v28_6) = G16 m c
      ∧ r.2.mem ((c : Thread nD τ).loc main_v28_7) = G17 m c
      ∧ r.2.mem ((c : Thread nD τ).loc main_v28_8) = G18 m c
      ∧ r.2.mem ((c : Thread nD τ).loc main_v28_9) = G19 m c
      ∧ r.2.mem ((c : Thread nD τ).loc main_v28_10) = G20 m c
      ∧ r.2.mem ((c : Thread nD τ).loc main_v28_11) = G21 m c
      ∧ r.2.mem ((c : Thread nD τ).loc main_v28_12) = G22 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨at_h m ρ c r.2.mem (h c), at_0 m ρ c r.2.mem (h c), at_1 m ρ c r.2.mem (h c), at_2 m ρ c r.2.mem (h c), at_3 m ρ c r.2.mem (h c), at_4 m ρ c r.2.mem (h c), at_5 m ρ c r.2.mem (h c), at_6 m ρ c r.2.mem (h c), at_7 m ρ c r.2.mem (h c), at_8 m ρ c r.2.mem (h c), at_9 m ρ c r.2.mem (h c), at_10 m ρ c r.2.mem (h c), at_11 m ρ c r.2.mem (h c), at_12 m ρ c r.2.mem (h c), arg_0 m ρ c r.2.mem (h c), arg_1 m ρ c r.2.mem (h c), arg_2 m ρ c r.2.mem (h c), arg_3 m ρ c r.2.mem (h c), arg_4 m ρ c r.2.mem (h c), arg_5 m ρ c r.2.mem (h c), arg_6 m ρ c r.2.mem (h c), arg_7 m ρ c r.2.mem (h c), arg_8 m ρ c r.2.mem (h c), arg_9 m ρ c r.2.mem (h c), arg_10 m ρ c r.2.mem (h c)⟩) (run_all m ρ)

end Mix

end Cert.SampleIdeal
-- ==== Proof.SampleValue.lean ====
/- The reference of the sample's first half-step and projections read index by index, and the claim that kernel and reference agree. -/
module

public import proofs.«01_k».proof.Defs
public import proofs.«01_k».proof.Proof.SampleArrays
public import proofs.«01_k».proof.Proof.Gen.SampleRefIdeal.Run
public import Idealize.ShloMosaic.Lib.Quiescent

@[expose] public section

set_option maxRecDepth 16384

noncomputable section

open Idealize.ShloMosaic Idealize.ShloMosaic.TcCoe Idealize.SL.Sem

namespace Cert.SampleRefIdeal

open Value StableHlo

/-- The Gaussian error unit as the reference multiplies it: the cube as `(x·x)·x`. -/
def gelu (x : EReal) : EReal :=
  x * (Ideal.ofBits FTy.f32 0x3F000000#32 * (1
    + Ideal.tanh (Ideal.ofBits FTy.f32 0x3F4C422A#32 * (x + Ideal.ofBits FTy.f32 0x3D372713#32 * (x * x * x)))))

/-- It is the layer's error unit. -/
theorem gelu_eq (x : EReal) : gelu x = Layer.gelu x := by
  unfold gelu Layer.gelu
  rw [mul_comm (x * x) x]

/-- The first half-step, of plain functions. -/
def rH (X : Fin 512 → Fin 1024 → EReal) (Wg Wu : Fin 1024 → Fin 2816 → EReal) (Wd : Fin 2816 → Fin 1024 → EReal) (g b : Fin 1024 → EReal)
    (r : Fin 512) (n : Fin 1024) : EReal :=
  Layer.norm (Layer.half (X r) (fun k => Layer.act (X r) (fun i => Wg i k) (fun i => Wu i k)) Wd) (g n) (b n) n

variable (V : Valuation τ sig (Elt Ideal))

/-- The fused projection, at an index: a row of the first half-step's result times a column of the weights. -/
theorem z_at (r : Fin 512) (n : Fin 6216) : res_main_v34 V (ix2 r n)
    = (∑ k : Fin 1024, rH (fun r k => V (Proc.devRef .tc main_arg0) (ix2 r k)) (fun i k => V (Proc.devRef .tc main_arg1) (ix2 i k))
        (fun i k => V (Proc.devRef .tc main_arg2) (ix2 i k)) (fun k j => V (Proc.devRef .tc main_arg3) (ix2 k j))
        (fun n => V (Proc.devRef .tc main_arg4) (ix1 n)) (fun n => V (Proc.devRef .tc main_arg5) (ix1 n)) r k
        * V (Proc.devRef .tc main_arg6) (ix2 k n) : EReal) := by
  pointwise [res_main_v34, res_main_v15, res_main_v13, res_main_v9, res_main_v2]
  rfl

/-- The gate's columns through the error unit, at an index. -/
theorem g_at (r : Fin 512) (n : Fin 2048) : res_main_v56 V (ix2 r n) = gelu (res_main_v34 V (ix2 r ⟨2120 + n.val, by omega⟩)) := by
  pointwise [res_main_v56, res_main_v41]
  rfl

/-- The mask: on and below the diagonal. -/
theorem mask (i x : Fin 16) : IntOp.cmpi CmpIPredicate.sge (IntOp.addi (BitVec.ofNat 32 i.val) 0#32) (BitVec.ofNat 32 x.val)
    = if x.val ≤ i.val then 1#1 else 0#1 := by
  revert i x
  decide +kernel

end Cert.SampleRefIdeal

namespace Cert.Dense

/-- The sample's first half-step and projections at the extended reals: kernel and reference end with equal results, all fourteen, and
    unchanged arguments. -/
theorem algebraic_sample : (hF : Cert.SampleIdeal.Facts) → (hR : Cert.SampleRefIdeal.Facts) →
    Cert.algebraic_SampleIdeal_SampleRefIdeal (hSampleIdeal := hF) (hSampleRefIdeal := hR) := by
  intro hF hR m ρ m' ρ' _ hag
  refine ⟨fun c => Cert.SampleIdeal.Ffn.G m c, fun c => Cert.SampleIdeal.Mix.G10 m c, fun c => Cert.SampleIdeal.Mix.G11 m c, fun c => Cert.SampleIdeal.Mix.G12 m c,
    fun c => Cert.SampleIdeal.Mix.G13 m c, fun c => Cert.SampleIdeal.Mix.G14 m c, fun c => Cert.SampleIdeal.Mix.G15 m c, fun c => Cert.SampleIdeal.Mix.G16 m c,
    fun c => Cert.SampleIdeal.Mix.G17 m c, fun c => Cert.SampleIdeal.Mix.G18 m c, fun c => Cert.SampleIdeal.Mix.G19 m c, fun c => Cert.SampleIdeal.Mix.G20 m c,
    fun c => Cert.SampleIdeal.Mix.G21 m c, fun c => Cert.SampleIdeal.Mix.G22 m c,
    Cert.SampleIdeal.Mix.run m ρ, ?_⟩
  refine (θ_run Cert.SampleRefIdeal.defs _ _).mono (fun r h c => ?_) (Cert.SampleRefIdeal.Value.run (F := Ideal) m' ρ')
  obtain ⟨e0, e1, e2, e3, e4, e5, e6, e7, e8, e9, e10, e11, e12, e13, hk⟩ := h c
  obtain ⟨h0, h1, h2, h3, h4, h5, h6, h7, h8, h9, h10⟩ := hag c
  have hz : ∀ (r : Fin 512) (n : Fin 6216), Cert.SampleRefIdeal.Value.res_main_v34 (StableHlo.launchContents m' c) (ix2 r n) = Cert.SampleIdeal.Mix.prj m c r n := fun r n => by
    refine (Cert.SampleRefIdeal.z_at _ r n).trans ?_
    show (∑ k : Fin 1024, Cert.SampleRefIdeal.rH (fun r k => m' ((c.tc : Thread Cert.SampleRefIdeal.nD Cert.SampleRefIdeal.τ).loc Cert.SampleRefIdeal.main_arg0) (ix2 r k))
        (fun i k => m' ((c.tc : Thread Cert.SampleRefIdeal.nD Cert.SampleRefIdeal.τ).loc Cert.SampleRefIdeal.main_arg1) (ix2 i k))
        (fun i k => m' ((c.tc : Thread Cert.SampleRefIdeal.nD Cert.SampleRefIdeal.τ).loc Cert.SampleRefIdeal.main_arg2) (ix2 i k))
        (fun k j => m' ((c.tc : Thread Cert.SampleRefIdeal.nD Cert.SampleRefIdeal.τ).loc Cert.SampleRefIdeal.main_arg3) (ix2 k j))
        (fun n => m' ((c.tc : Thread Cert.SampleRefIdeal.nD Cert.SampleRefIdeal.τ).loc Cert.SampleRefIdeal.main_arg4) (ix1 n))
        (fun n => m' ((c.tc : Thread Cert.SampleRefIdeal.nD Cert.SampleRefIdeal.τ).loc Cert.SampleRefIdeal.main_arg5) (ix1 n)) r k
        * m' ((c.tc : Thread Cert.SampleRefIdeal.nD Cert.SampleRefIdeal.τ).loc Cert.SampleRefIdeal.main_arg6) (ix2 k n) : EReal) = _
    rw [h0, h1, h2, h3, h4, h5, h6]
    rfl
  have hg : ∀ (r : Fin 512) (n : Fin 2048), Cert.SampleRefIdeal.Value.res_main_v56 (StableHlo.launchContents m' c) (ix2 r n) = Layer.gelu (Cert.SampleIdeal.Mix.prj m c r ⟨2120 + n.val, by omega⟩) := fun r n =>
    (Cert.SampleRefIdeal.g_at _ r n).trans ((Cert.SampleRefIdeal.gelu_eq _).trans (congrArg Layer.gelu (hz r _)))
  have hv : ∀ (r : Fin 512) (n : Fin 1024), Layer.norm (fun j : Fin 1024 => Cert.SampleRefIdeal.Value.res_main_v56 (StableHlo.launchContents m' c) (ix2 r ⟨1024 + j.val, by omega⟩))
      (m' ((c.tc : Thread Cert.SampleRefIdeal.nD Cert.SampleRefIdeal.τ).loc Cert.SampleRefIdeal.main_arg7) (ix1 n)) (m' ((c.tc : Thread Cert.SampleRefIdeal.nD Cert.SampleRefIdeal.τ).loc Cert.SampleRefIdeal.main_arg8) (ix1 n)) n = Cert.SampleIdeal.Mix.gv m c r n := fun r n => by
    rw [h7, h8]
    unfold Cert.SampleIdeal.Mix.gv
    refine congrArg (fun z => Layer.norm z _ _ n) (funext fun j => (hg r _).trans (congrArg Layer.gelu ?_))
    exact congrArg (Cert.SampleIdeal.Mix.prj m c r) (Fin.ext (by simp only; omega))
  refine ⟨e0.trans ?_, e1.trans ?_, e2.trans ?_, e3.trans ?_, e4.trans ?_, e5.trans ?_, e6.trans ?_, e7.trans ?_, e8.trans ?_, e9.trans ?_,
    e10.trans ?_, e11.trans ?_, e12.trans ?_, e13.trans ?_, hk⟩
  all_goals funext y
  case refine_2 | refine_3 | refine_5 | refine_11 =>
    obtain ⟨r, n, rfl⟩ : ∃ (r : Fin 512) (n : Fin 256), y = (ix2 r n : Cert.SampleIdeal.S512x256.Idx) := ⟨y 0, y 1, by funext d; fin_cases d <;> rfl⟩
    pointwise
    exact hz r _
  case refine_4 | refine_6 =>
    obtain ⟨r, n, rfl⟩ : ∃ (r : Fin 512) (n : Fin 64), y = (ix2 r n : Cert.SampleIdeal.S512x64.Idx) := ⟨y 0, y 1, by funext d; fin_cases d <;> rfl⟩
    pointwise
    exact hz r _
  case refine_8 | refine_9 =>
    obtain ⟨r, n, rfl⟩ : ∃ (r : Fin 512) (n : Fin 1024), y = (ix2 r n : Cert.SampleIdeal.S512x1024.Idx) := ⟨y 0, y 1, by funext d; fin_cases d <;> rfl⟩
    pointwise
    exact hz r _
  case refine_10 =>
    obtain ⟨r, n, rfl⟩ : ∃ (r : Fin 512) (n : Fin 1024), y = (ix2 r n : Cert.SampleIdeal.S512x1024.Idx) := ⟨y 0, y 1, by funext d; fin_cases d <;> rfl⟩
    pointwise
    exact congrArg (fun s : EReal => s * Ideal.ofBits FTy.f32 0x3E38AA3B#32) (hz r _)
  case refine_12 =>
    obtain ⟨r, n, rfl⟩ : ∃ (r : Fin 512) (n : Fin 512), y = (ix2 r n : Cert.SampleIdeal.S512x512.Idx) := ⟨y 0, y 1, by funext d; fin_cases d <;> rfl⟩
    pointwise
    exact hz r _
  case refine_1 =>
    obtain ⟨r, n, rfl⟩ : ∃ (r : Fin 512) (n : Fin 1024), y = (ix2 r n : Cert.SampleIdeal.S512x1024.Idx) := ⟨y 0, y 1, by funext d; fin_cases d <;> rfl⟩
    pointwise [Cert.SampleRefIdeal.Value.res_main_v15, Cert.SampleRefIdeal.Value.res_main_v13, Cert.SampleRefIdeal.Value.res_main_v9, Cert.SampleRefIdeal.Value.res_main_v2]
    show Cert.SampleRefIdeal.rH (fun r k => m' ((c.tc : Thread Cert.SampleRefIdeal.nD Cert.SampleRefIdeal.τ).loc Cert.SampleRefIdeal.main_arg0) (ix2 r k)) (fun i k => m' ((c.tc : Thread Cert.SampleRefIdeal.nD Cert.SampleRefIdeal.τ).loc Cert.SampleRefIdeal.main_arg1) (ix2 i k)) (fun i k => m' ((c.tc : Thread Cert.SampleRefIdeal.nD Cert.SampleRefIdeal.τ).loc Cert.SampleRefIdeal.main_arg2) (ix2 i k)) (fun k j => m' ((c.tc : Thread Cert.SampleRefIdeal.nD Cert.SampleRefIdeal.τ).loc Cert.SampleRefIdeal.main_arg3) (ix2 k j))
      (fun n => m' ((c.tc : Thread Cert.SampleRefIdeal.nD Cert.SampleRefIdeal.τ).loc Cert.SampleRefIdeal.main_arg4) (ix1 n)) (fun n => m' ((c.tc : Thread Cert.SampleRefIdeal.nD Cert.SampleRefIdeal.τ).loc Cert.SampleRefIdeal.main_arg5) (ix1 n)) r n = _
    rw [h0, h1, h2, h3, h4, h5]
    rfl
  case refine_13 =>
    obtain ⟨r, n, rfl⟩ : ∃ (r : Fin 512) (n : Fin 128), y = (ix2 r n : Cert.SampleIdeal.S512x128.Idx) := ⟨y 0, y 1, by funext d; fin_cases d <;> rfl⟩
    pointwise
    show _ = if h : n.val < 8 then Cert.SampleIdeal.Mix.prj m c r ⟨2112 + n.val, by omega⟩ else (0 : EReal)
    split
    · exact hz r _
    · show (((0#32 : BitVec 32).toInt : ℝ) : EReal) = 0
      simp
  case refine_14 =>
    obtain ⟨r, n, rfl⟩ : ∃ (r : Fin 512) (n : Fin 1024), y = (ix2 r n : Cert.SampleIdeal.S512x1024.Idx) := ⟨y 0, y 1, by funext d; fin_cases d <;> rfl⟩
    pointwise [Cert.SampleRefIdeal.Value.res_main_v58, Cert.SampleRefIdeal.Value.res_main_v62, Cert.SampleRefIdeal.Value.res_main_v64]
    exact hv r n
  case refine_7 =>
    obtain ⟨r, n, rfl⟩ : ∃ (r : Fin 512) (n : Fin 1024), y = (ix2 r n : Cert.SampleIdeal.S512x1024.Idx) := ⟨y 0, y 1, by funext d; fin_cases d <;> rfl⟩
    pointwise [Cert.SampleRefIdeal.Value.res_main_v58, Cert.SampleRefIdeal.Value.res_main_v62, Cert.SampleRefIdeal.Value.res_main_v64]
    show @HMul.hMul EReal EReal EReal _ (Cert.SampleRefIdeal.Value.res_main_v56 (StableHlo.launchContents m' c) (ix2 r ⟨n.val, by omega⟩)) (@HAdd.hAdd EReal EReal EReal _ (∑ x : Fin 16,
        @Scalar.select EReal (IntOp.cmpi CmpIPredicate.sge (IntOp.addi (BitVec.ofNat 32 (r.val % 16)) 0#32) (BitVec.ofNat 32 x.val))
        (@HMul.hMul EReal EReal EReal _ (Layer.norm (fun j : Fin 1024 => Cert.SampleRefIdeal.Value.res_main_v56 (StableHlo.launchContents m' c) (ix2 ⟨r.val / 16 * 16 + x.val, by omega⟩ ⟨1024 + j.val, by omega⟩))
            (m' ((c.tc : Thread Cert.SampleRefIdeal.nD Cert.SampleRefIdeal.τ).loc Cert.SampleRefIdeal.main_arg7) (ix1 n)) (m' ((c.tc : Thread Cert.SampleRefIdeal.nD Cert.SampleRefIdeal.τ).loc Cert.SampleRefIdeal.main_arg8) (ix1 n)) n)
          (m' ((c.tc : Thread Cert.SampleRefIdeal.nD Cert.SampleRefIdeal.τ).loc Cert.SampleRefIdeal.main_arg9) (ix3 ⟨n.val / 256, by omega⟩ ⟨r.val % 16, by omega⟩ ⟨x.val, by omega⟩))) 0)
      (m' ((c.tc : Thread Cert.SampleRefIdeal.nD Cert.SampleRefIdeal.τ).loc Cert.SampleRefIdeal.main_arg10) (ix2 ⟨n.val / 256, by omega⟩ ⟨r.val % 16, by omega⟩))) = Cert.SampleIdeal.Mix.gate m c r n
    rw [h9, h10]
    unfold Cert.SampleIdeal.Mix.gate
    refine congrArg₂ (fun a b : EReal => a * b) (hg r _) (congrArg (fun a : EReal => a + _) (Finset.sum_congr rfl fun x _ => ?_))
    have hm := Cert.SampleRefIdeal.mask ⟨r.val % 16, by omega⟩ x
    simp only at hm
    rw [hm, hv]
    split
    · exact mul_comm _ _
    · exact (zero_mul _).symm

end Cert.Dense
-- ==== Proof.MergeSampleValue.lean ====
/- The merge of the branches and the second half-step at the sample's shapes: what each grid point's block holds, and the result array after the run. -/
module

public import proofs.«01_k».proof.Defs
public import proofs.«01_k».proof.Proof.Gen.MergeSampleIdeal.Value
public import proofs.«01_k».proof.Proof.Gen.MergeSampleRefIdeal.Run
public import proofs.«01_k».proof.Proof.Gen.MergeSampleRefIdeal.Read
public import proofs.«01_k».proof.Proof.Layer
public import Idealize.ShloMosaic.Lib.Quiescent
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem

namespace Cert.MergeSampleIdeal
open Cert.MergeSampleIdeal.Gen

/-- The activations of a block of rows: `silu(x·wg) · (x·wu)`. -/
def actArr (x : FVec Ideal S128x1024 .bf16) (wg wu : Vec Ideal S1024x2816 .bf16) : Vec Ideal S128x2816 .bf16 :=
  fun y => Layer.act (fun i => x (ix2 (y 0) i)) (fun i => wg (ix2 i (y 1))) (fun i => wu (ix2 i (y 1)))

/-- The mixers' normalized residual, at an index of the block. -/
theorem h2_at (x0 : Vec Ideal S128x1024 .bf16) (x1 : Vec Ideal S128x1024 .bf16) (x2 : Vec Ideal S128x1024 .f32) (x3 : Vec Ideal S128x1024 .f32) (x4 : Vec Ideal S128x1024 .f32) (x5 : Vec Ideal S1024x1024 .bf16) (x6 : Vec Ideal S1024x1024 .bf16) (x7 : Vec Ideal S1024x1024 .bf16) (x8 : Vec Ideal S1x1024 .f32) (x9 : Vec Ideal S1x1024 .f32)
    (r : Fin 128) (k : Fin 1024) :
    k0_pay5 (k0_pay2 x8) (k0_pay3 x9) (k0_pay4 x0 x5 x1 x6 x2 x3 x7 x4) (ix2 r k)
      = Layer.norm (Layer.mixed (fun k => x4 (ix2 r k)) (Layer.merge (fun k => x0 (ix2 r k)) (fun k => x1 (ix2 r k)) (fun k => x2 (ix2 r k))
          (fun k => x3 (ix2 r k)) (fun i k => x5 (ix2 i k)) (fun i k => x6 (ix2 i k))) (fun i k => x7 (ix2 i k))) (x8 (ix2 0 k)) (x9 (ix2 0 k)) k := by
  pointwise [k0_pay5, k0_pay2, k0_pay3, k0_pay4]
  rfl

variable (m : (ℓ : Loc nD τ sig) → Buf (Elt Ideal) ℓ)

/-- The result block of a grid point, at an index: the row's function of the point's input blocks. -/
theorem block_at (c : Dev nD) (t : Fin cfg0.N) (r : Fin 128) (n : Fin 1024) : outsAt0 m c t (ix2 r n) = Layer.mergeRow
      (fun k => iblk m c 0 t (ix2 r k)) (fun k => iblk m c 1 t (ix2 r k)) (fun k => iblk m c 2 t (ix2 r k))
      (fun k => iblk m c 3 t (ix2 r k)) (fun k => iblk m c 4 t (ix2 r k))
      (fun i k => iblk m c 5 t (ix2 i k)) (fun i k => iblk m c 6 t (ix2 i k)) (fun i k => iblk m c 7 t (ix2 i k))
      (fun k => iblk m c 8 t (ix2 0 k)) (fun k => iblk m c 9 t (ix2 0 k))
      (fun i k => iblk m c 10 t (ix2 i k)) (fun i k => iblk m c 11 t (ix2 i k)) (fun i k => iblk m c 12 t (ix2 i k))
      (fun k => iblk m c 13 t (ix2 0 k)) (fun k => iblk m c 14 t (ix2 0 k)) n := by
  have hh := h2_at (iblk m c 0 t) (iblk m c 1 t) (iblk m c 2 t) (iblk m c 3 t) (iblk m c 4 t) (iblk m c 5 t) (iblk m c 6 t) (iblk m c 7 t) (iblk m c 8 t) (iblk m c 9 t) r
  unfold Layer.mergeRow
  dsimp only
  simp only [← hh]
  clear hh
  unfold outsAt0 out0_A_15 kernelRun0_A
  dsimp only
  unfold kernelRun0_A.sl.r_9 kernelRun0_A.sl.r_10 kernelRun0_A.sl.r_11 kernelRun0_A.sl.r_12
  frame_out
  generalize k0_pay4 (iblk m c 0 t) (iblk m c 5 t) (iblk m c 1 t) (iblk m c 6 t) (iblk m c 2 t) (iblk m c 3 t) (iblk m c 7 t) (iblk m c 4 t) = v32
  generalize k0_pay2 (iblk m c 8 t) = v24
  generalize k0_pay3 (iblk m c 9 t) = v26
  generalize iblk m c 10 t = x10
  generalize iblk m c 11 t = x11
  generalize iblk m c 12 t = x12
  generalize iblk m c 13 t = x13
  generalize iblk m c 14 t = x14
  generalize hS : View.readCov (Val := Elt Ideal) (View.whole cc0_scratch0) _ _ = S
  have hS' : S = actArr (k0_pay6 v24 v26 v32) x10 x11 := by
    rw [← hS]
    refine Layer.readBack (a := 128) (b := 2816) _ _ _ ?_ (View.cover_of_tiledL _ ![128,256] (by sl_kernel_rfl)) _
    intro p hp j
    simp only [List.mem_cons, List.mem_nil_iff, or_false] at hp
    rcases hp with rfl | rfl | rfl | rfl | rfl | rfl | rfl | rfl | rfl | rfl | rfl
    all_goals
      dsimp only
      obtain ⟨r, q, rfl⟩ : ∃ (r : Fin 128) (q : Fin 256), j = ix2 r q := ⟨j 0, j 1, by funext d; fin_cases d <;> rfl⟩
      have hq : q.val < 256 := q.isLt
      rw [Layer.emb_at _ r q (by omega) (by omega)]
      generalize hB : View.ld x10 _ = B
      generalize hC : View.ld x11 _ = C
      have eB := fun k : Fin 1024 => Layer.ld_at (a := 1024) (b := 2816) hB k q
      have eC := fun k : Fin 1024 => Layer.ld_at (a := 1024) (b := 2816) hC k q
      simp only [Nat.zero_add, Fin.eta] at eB eC ⊢
      clear hB hC
      try unfold k0_pay7
      try unfold k0_pay9 k0_pay8
      generalize k0_pay6 v24 v26 v32 = h2
      pointwise [k0_pay10, k0_pay11, k0_pay12, k0_pay13, k0_pay14, k0_pay15, k0_pay16, k0_pay17, k0_pay18, k0_pay19, k0_pay20, k0_pay21]
      simp only [eB, eC]
      rfl
  rw [hS']
  clear hS hS'
  have e6 : k0_pay6 v24 v26 v32 = k0_pay5 v24 v26 v32 := by unfold k0_pay6; rfl
  rw [e6]
  generalize k0_pay5 v24 v26 v32 = h2
  pointwise [k0_pay1, k0_pay22, k0_pay23, k0_pay24, k0_pay25]
  rfl

/-- The result array: row `r` of the inputs through the merge and the second half-step. -/
def G (c : Dev nD) : Buf (Elt Ideal) ((c : Thread nD τ).loc main_v10) := fun y : S512x1024.Idx =>
  Layer.mergeRow (fun k => m ((c : Thread nD τ).loc main_arg0) (ix2 (y 0) k)) (fun k => m ((c : Thread nD τ).loc main_arg1) (ix2 (y 0) k)) (fun k => m ((c : Thread nD τ).loc main_arg2) (ix2 (y 0) k))
      (fun k => m ((c : Thread nD τ).loc main_arg3) (ix2 (y 0) k)) (fun k => m ((c : Thread nD τ).loc main_arg4) (ix2 (y 0) k))
      (fun i k => m ((c : Thread nD τ).loc main_arg5) (ix2 i k)) (fun i k => m ((c : Thread nD τ).loc main_arg6) (ix2 i k)) (fun i k => m ((c : Thread nD τ).loc main_arg7) (ix2 i k))
      (fun k => m ((c : Thread nD τ).loc main_arg8) (ix1 k)) (fun k => m ((c : Thread nD τ).loc main_arg9) (ix1 k))
      (fun i k => m ((c : Thread nD τ).loc main_arg10) (ix2 i k)) (fun i k => m ((c : Thread nD τ).loc main_arg11) (ix2 i k)) (fun i k => m ((c : Thread nD τ).loc main_arg12) (ix2 i k))
      (fun k => m ((c : Thread nD τ).loc main_arg13) (ix1 k)) (fun k => m ((c : Thread nD τ).loc main_arg14) (ix1 k)) (y 1)

/-- Where each window's block lies, at a grid point. -/
theorem idx : ∀ t : Fin cfg0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![(grid0.coords t 0).val, 0] := by
  decide +kernel

/-- Window 0: row `128·t + r` of its array. -/
theorem i0 (c : Dev nD) (t : Fin cfg0.N) (r : Fin 128) (k : Fin 1024) (h : (grid0.coords t 0).val * 128 + r.val < 512) :
    iblk m c 0 t (ix2 r k) = m ((c : Thread nD τ).loc main_arg0) (ix2 ⟨(grid0.coords t 0).val * 128 + r.val, h⟩ k) := by
  blk_simp [iblk]
  show V m c main_arg0 _ = _
  rw [V_main_arg0]
  blk_ext [idx t]

/-- Window 1: row `128·t + r` of its array. -/
theorem i1 (c : Dev nD) (t : Fin cfg0.N) (r : Fin 128) (k : Fin 1024) (h : (grid0.coords t 0).val * 128 + r.val < 512) :
    iblk m c 1 t (ix2 r k) = m ((c : Thread nD τ).loc main_arg1) (ix2 ⟨(grid0.coords t 0).val * 128 + r.val, h⟩ k) := by
  blk_simp [iblk]
  show V m c main_arg1 _ = _
  rw [V_main_arg1]
  blk_ext [idx t]

/-- Window 2: row `128·t + r` of its array. -/
theorem i2 (c : Dev nD) (t : Fin cfg0.N) (r : Fin 128) (k : Fin 1024) (h : (grid0.coords t 0).val * 128 + r.val < 512) :
    iblk m c 2 t (ix2 r k) = m ((c : Thread nD τ).loc main_arg2) (ix2 ⟨(grid0.coords t 0).val * 128 + r.val, h⟩ k) := by
  blk_simp [iblk]
  show V m c main_arg2 _ = _
  rw [V_main_arg2]
  blk_ext [idx t]

/-- Window 3: row `128·t + r` of its array. -/
theorem i3 (c : Dev nD) (t : Fin cfg0.N) (r : Fin 128) (k : Fin 1024) (h : (grid0.coords t 0).val * 128 + r.val < 512) :
    iblk m c 3 t (ix2 r k) = m ((c : Thread nD τ).loc main_arg3) (ix2 ⟨(grid0.coords t 0).val * 128 + r.val, h⟩ k) := by
  blk_simp [iblk]
  show V m c main_arg3 _ = _
  rw [V_main_arg3]
  blk_ext [idx t]

/-- Window 4: row `128·t + r` of its array. -/
theorem i4 (c : Dev nD) (t : Fin cfg0.N) (r : Fin 128) (k : Fin 1024) (h : (grid0.coords t 0).val * 128 + r.val < 512) :
    iblk m c 4 t (ix2 r k) = m ((c : Thread nD τ).loc main_arg4) (ix2 ⟨(grid0.coords t 0).val * 128 + r.val, h⟩ k) := by
  blk_simp [iblk]
  show V m c main_arg4 _ = _
  rw [V_main_arg4]
  blk_ext [idx t]

/-- Window 5: its whole array, as prepared on the host. -/
theorem i5 (c : Dev nD) (t : Fin cfg0.N) (k : Fin 1024) (j : Fin 1024) : iblk m c 5 t (ix2 k j) = m ((c : Thread nD τ).loc main_arg5) (ix2 k j) := by
  blk_simp [iblk]
  show V m c main_v0 _ = _
  have e : ((win0_5.blk t).view.emb (ix2 k j)) = (ix2 k j) := by blk_ext [idx t]
  rw [e]
  unfold V
  after_results
  pointwise

/-- Window 6: its whole array, as prepared on the host. -/
theorem i6 (c : Dev nD) (t : Fin cfg0.N) (k : Fin 1024) (j : Fin 1024) : iblk m c 6 t (ix2 k j) = m ((c : Thread nD τ).loc main_arg6) (ix2 k j) := by
  blk_simp [iblk]
  show V m c main_v1 _ = _
  have e : ((win0_6.blk t).view.emb (ix2 k j)) = (ix2 k j) := by blk_ext [idx t]
  rw [e]
  unfold V
  after_results
  pointwise

/-- Window 7: its whole array, as prepared on the host. -/
theorem i7 (c : Dev nD) (t : Fin cfg0.N) (k : Fin 1024) (j : Fin 1024) : iblk m c 7 t (ix2 k j) = m ((c : Thread nD τ).loc main_arg7) (ix2 k j) := by
  blk_simp [iblk]
  show V m c main_v2 _ = _
  have e : ((win0_7.blk t).view.emb (ix2 k j)) = (ix2 k j) := by blk_ext [idx t]
  rw [e]
  unfold V
  after_results
  pointwise

/-- Window 8: its whole array, as prepared on the host. -/
theorem i8 (c : Dev nD) (t : Fin cfg0.N) (j : Fin 1024) : iblk m c 8 t (ix2 0 j) = m ((c : Thread nD τ).loc main_arg8) (ix1 j) := by
  blk_simp [iblk]
  show V m c main_v3 _ = _
  have e : ((win0_8.blk t).view.emb (ix2 0 j)) = (ix2 0 j) := by blk_ext [idx t]
  rw [e]
  unfold V
  after_results
  pointwise

/-- Window 9: its whole array, as prepared on the host. -/
theorem i9 (c : Dev nD) (t : Fin cfg0.N) (j : Fin 1024) : iblk m c 9 t (ix2 0 j) = m ((c : Thread nD τ).loc main_arg9) (ix1 j) := by
  blk_simp [iblk]
  show V m c main_v4 _ = _
  have e : ((win0_9.blk t).view.emb (ix2 0 j)) = (ix2 0 j) := by blk_ext [idx t]
  rw [e]
  unfold V
  after_results
  pointwise

/-- Window 10: its whole array, as prepared on the host. -/
theorem i10 (c : Dev nD) (t : Fin cfg0.N) (k : Fin 1024) (j : Fin 2816) : iblk m c 10 t (ix2 k j) = m ((c : Thread nD τ).loc main_arg10) (ix2 k j) := by
  blk_simp [iblk]
  show V m c main_v5 _ = _
  have e : ((win0_10.blk t).view.emb (ix2 k j)) = (ix2 k j) := by blk_ext [idx t]
  rw [e]
  unfold V
  after_results
  pointwise

/-- Window 11: its whole array, as prepared on the host. -/
theorem i11 (c : Dev nD) (t : Fin cfg0.N) (k : Fin 1024) (j : Fin 2816) : iblk m c 11 t (ix2 k j) = m ((c : Thread nD τ).loc main_arg11) (ix2 k j) := by
  blk_simp [iblk]
  show V m c main_v6 _ = _
  have e : ((win0_11.blk t).view.emb (ix2 k j)) = (ix2 k j) := by blk_ext [idx t]
  rw [e]
  unfold V
  after_results
  pointwise

/-- Window 12: its whole array, as prepared on the host. -/
theorem i12 (c : Dev nD) (t : Fin cfg0.N) (k : Fin 2816) (j : Fin 1024) : iblk m c 12 t (ix2 k j) = m ((c : Thread nD τ).loc main_arg12) (ix2 k j) := by
  blk_simp [iblk]
  show V m c main_v7 _ = _
  have e : ((win0_12.blk t).view.emb (ix2 k j)) = (ix2 k j) := by blk_ext [idx t]
  rw [e]
  unfold V
  after_results
  pointwise

/-- Window 13: its whole array, as prepared on the host. -/
theorem i13 (c : Dev nD) (t : Fin cfg0.N) (j : Fin 1024) : iblk m c 13 t (ix2 0 j) = m ((c : Thread nD τ).loc main_arg13) (ix1 j) := by
  blk_simp [iblk]
  show V m c main_v8 _ = _
  have e : ((win0_13.blk t).view.emb (ix2 0 j)) = (ix2 0 j) := by blk_ext [idx t]
  rw [e]
  unfold V
  after_results
  pointwise

/-- Window 14: its whole array, as prepared on the host. -/
theorem i14 (c : Dev nD) (t : Fin cfg0.N) (j : Fin 1024) : iblk m c 14 t (ix2 0 j) = m ((c : Thread nD τ).loc main_arg14) (ix1 j) := by
  blk_simp [iblk]
  show V m c main_v9 _ = _
  have e : ((win0_14.blk t).view.emb (ix2 0 j)) = (ix2 0 j) := by blk_ext [idx t]
  rw [e]
  unfold V
  after_results
  pointwise

/-- The result array after the run. -/
theorem final (c : Dev nD) : (dats m 0 c).arrAt 15 cfg0.N = G m c := by
  refine (dats m 0 c).arrAt_eq_of_covers 15 _ (by decide +kernel) fun t hf y => ?_
  blk_simp
  rw [after0_15]
  obtain ⟨r, n, rfl⟩ : ∃ (r : Fin 128) (n : Fin 1024), y = (ix2 r n : S128x1024.Idx) := ⟨y 0, y 1, by funext d; fin_cases d <;> rfl⟩
  have ht : (grid0.coords t 0).val < 4 := (grid0.coords t 0).isLt
  have h : (grid0.coords t 0).val * 128 + r.val < 512 := by have := r.isLt; omega
  have e : ((win0_15.blk t).view.emb (ix2 r n : S128x1024.Idx)) = ix2 (⟨(grid0.coords t 0).val * 128 + r.val, h⟩ : Fin 512) n := by
    blk_ext [idx t]
  refine (block_at ..).trans ?_
  rw [e]
  have a0 : (fun k : Fin 1024 => (iblk m c 0 t (ix2 r k) : EReal)) = _ := funext fun k => i0 m c t r k h
  have a1 : (fun k : Fin 1024 => (iblk m c 1 t (ix2 r k) : EReal)) = _ := funext fun k => i1 m c t r k h
  have a2 : (fun k : Fin 1024 => (iblk m c 2 t (ix2 r k) : EReal)) = _ := funext fun k => i2 m c t r k h
  have a3 : (fun k : Fin 1024 => (iblk m c 3 t (ix2 r k) : EReal)) = _ := funext fun k => i3 m c t r k h
  have a4 : (fun k : Fin 1024 => (iblk m c 4 t (ix2 r k) : EReal)) = _ := funext fun k => i4 m c t r k h
  have a5 : (fun (i : Fin 1024) (k : Fin 1024) => (iblk m c 5 t (ix2 i k) : EReal)) = _ := funext fun i => funext fun k => i5 m c t i k
  have a6 : (fun (i : Fin 1024) (k : Fin 1024) => (iblk m c 6 t (ix2 i k) : EReal)) = _ := funext fun i => funext fun k => i6 m c t i k
  have a7 : (fun (i : Fin 1024) (k : Fin 1024) => (iblk m c 7 t (ix2 i k) : EReal)) = _ := funext fun i => funext fun k => i7 m c t i k
  have a8 : (fun k : Fin 1024 => (iblk m c 8 t (ix2 0 k) : EReal)) = _ := funext fun k => i8 m c t k
  have a9 : (fun k : Fin 1024 => (iblk m c 9 t (ix2 0 k) : EReal)) = _ := funext fun k => i9 m c t k
  have a10 : (fun (i : Fin 1024) (k : Fin 2816) => (iblk m c 10 t (ix2 i k) : EReal)) = _ := funext fun i => funext fun k => i10 m c t i k
  have a11 : (fun (i : Fin 1024) (k : Fin 2816) => (iblk m c 11 t (ix2 i k) : EReal)) = _ := funext fun i => funext fun k => i11 m c t i k
  have a12 : (fun (i : Fin 2816) (k : Fin 1024) => (iblk m c 12 t (ix2 i k) : EReal)) = _ := funext fun i => funext fun k => i12 m c t i k
  have a13 : (fun k : Fin 1024 => (iblk m c 13 t (ix2 0 k) : EReal)) = _ := funext fun k => i13 m c t k
  have a14 : (fun k : Fin 1024 => (iblk m c 14 t (ix2 0 k) : EReal)) = _ := funext fun k => i14 m c t k
  rw [a0, a1, a2, a3, a4, a5, a6, a7, a8, a9, a10, a11, a12, a13, a14]
  rfl

/-- The program's run: the result array is `G` of the arguments, which are unchanged. -/
theorem run (ρ : Dev nD → PrngReg) : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final m c), (h c).2⟩) (Value.run_blocks m ρ)

end Cert.MergeSampleIdeal

namespace Cert.MergeSampleRefIdeal
open Cert.MergeSampleRefIdeal.Value

variable (V0 : Valuation τ sig (Elt Ideal))

/-- The mixers' residual of the reference, at an index. -/
theorem mixed_at (r : Fin 512) (n : Fin 1024) : res_main_v22 V0 (ix2 r n)
    = Layer.mixed (fun k => V0 (Proc.devRef .tc main_arg4) (ix2 r k)) (Layer.merge (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun i k => V0 (Proc.devRef .tc main_arg5) (ix2 i k)) (fun i k => V0 (Proc.devRef .tc main_arg6) (ix2 i k))) (fun i k => V0 (Proc.devRef .tc main_arg7) (ix2 i k)) n := by
  pointwise [res_main_v22]
  rfl

/-- The mixers' normalized residual of the reference, at an index. -/
theorem h2_at (r : Fin 512) (n : Fin 1024) : res_main_v46 V0 (ix2 r n) = (fun k => Layer.norm (Layer.mixed (fun k => V0 (Proc.devRef .tc main_arg4) (ix2 r k)) (Layer.merge (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun i k => V0 (Proc.devRef .tc main_arg5) (ix2 i k)) (fun i k => V0 (Proc.devRef .tc main_arg6) (ix2 i k))) (fun i k => V0 (Proc.devRef .tc main_arg7) (ix2 i k))) (V0 (Proc.devRef .tc main_arg8) (ix1 k)) (V0 (Proc.devRef .tc main_arg9) (ix1 k)) k) n := by
  pointwise [res_main_v46, res_main_v28, res_main_v26]
  simp only [mixed_at]
  rfl

/-- The second half-step of the reference before its normalization, at an index. -/
theorem half_at (r : Fin 512) (n : Fin 1024) : res_main_v56 V0 (ix2 r n)
    = Layer.half (fun k => Layer.norm (Layer.mixed (fun k => V0 (Proc.devRef .tc main_arg4) (ix2 r k)) (Layer.merge (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun i k => V0 (Proc.devRef .tc main_arg5) (ix2 i k)) (fun i k => V0 (Proc.devRef .tc main_arg6) (ix2 i k))) (fun i k => V0 (Proc.devRef .tc main_arg7) (ix2 i k))) (V0 (Proc.devRef .tc main_arg8) (ix1 k)) (V0 (Proc.devRef .tc main_arg9) (ix1 k)) k) (fun k => Layer.act (fun k => Layer.norm (Layer.mixed (fun k => V0 (Proc.devRef .tc main_arg4) (ix2 r k)) (Layer.merge (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun i k => V0 (Proc.devRef .tc main_arg5) (ix2 i k)) (fun i k => V0 (Proc.devRef .tc main_arg6) (ix2 i k))) (fun i k => V0 (Proc.devRef .tc main_arg7) (ix2 i k))) (V0 (Proc.devRef .tc main_arg8) (ix1 k)) (V0 (Proc.devRef .tc main_arg9) (ix1 k)) k) (fun i => V0 (Proc.devRef .tc main_arg10) (ix2 i k)) (fun i => V0 (Proc.devRef .tc main_arg11) (ix2 i k))) (fun i k => V0 (Proc.devRef .tc main_arg12) (ix2 i k)) n := by
  pointwise [res_main_v56, res_main_v49]
  simp only [h2_at]
  rfl

/-- The reference's result, at an index: the same function of the arguments. -/
theorem ref_at (r : Fin 512) (n : Fin 1024) : Read.val_main_v80 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (ix2 r n)
    = Layer.mergeRow (fun k => V0 (Proc.devRef .tc main_arg0) (ix2 r k)) (fun k => V0 (Proc.devRef .tc main_arg1) (ix2 r k)) (fun k => V0 (Proc.devRef .tc main_arg2) (ix2 r k)) (fun k => V0 (Proc.devRef .tc main_arg3) (ix2 r k)) (fun k => V0 (Proc.devRef .tc main_arg4) (ix2 r k)) (fun i k => V0 (Proc.devRef .tc main_arg5) (ix2 i k)) (fun i k => V0 (Proc.devRef .tc main_arg6) (ix2 i k)) (fun i k => V0 (Proc.devRef .tc main_arg7) (ix2 i k)) (fun k => V0 (Proc.devRef .tc main_arg8) (ix1 k)) (fun k => V0 (Proc.devRef .tc main_arg9) (ix1 k)) (fun i k => V0 (Proc.devRef .tc main_arg10) (ix2 i k)) (fun i k => V0 (Proc.devRef .tc main_arg11) (ix2 i k)) (fun i k => V0 (Proc.devRef .tc main_arg12) (ix2 i k)) (fun k => V0 (Proc.devRef .tc main_arg13) (ix1 k)) (fun k => V0 (Proc.devRef .tc main_arg14) (ix1 k)) n := by
  rw [← Read.val_main_v80_eq V0]
  pointwise [res_main_v60, res_main_v62]
  simp only [half_at]
  rfl

end Cert.MergeSampleRefIdeal

namespace Cert.Dense

/-- The merge and second half-step of the sample, at the extended reals: kernel and reference end with equal results and unchanged arguments. -/
theorem algebraic_mergeSample : (hF : Cert.MergeSampleIdeal.Facts) → (hR : Cert.MergeSampleRefIdeal.Facts) →
    Cert.algebraic_MergeSampleIdeal_MergeSampleRefIdeal (hMergeSampleIdeal := hF) (hMergeSampleRefIdeal := hR) := by
  intro hF hR m ρ m' ρ' _ hag
  refine ⟨fun c => Cert.MergeSampleIdeal.G m c, Cert.MergeSampleIdeal.run m ρ, ?_⟩
  refine (θ_run Cert.MergeSampleRefIdeal.defs _ _).mono (fun r h c => ⟨((h c).1.trans (Cert.MergeSampleRefIdeal.Read.val_main_v80_eq _)).trans ?_, (h c).2⟩)
    (Cert.MergeSampleRefIdeal.Value.run (F := Ideal) m' ρ')
  obtain ⟨h0, h1, h2, h3, h4, h5, h6, h7, h8, h9, h10, h11, h12, h13, h14⟩ := hag c
  funext y
  obtain ⟨r, n, rfl⟩ : ∃ (r : Fin 512) (n : Fin 1024), y = (ix2 r n : Cert.MergeSampleIdeal.S512x1024.Idx) := ⟨y 0, y 1, by funext d; fin_cases d <;> rfl⟩
  refine (Cert.MergeSampleRefIdeal.ref_at _ r n).trans ?_
  have q0 : StableHlo.launchContents m' c (Proc.devRef .tc Cert.MergeSampleRefIdeal.main_arg0) = m ((c.tc : Thread Cert.MergeSampleIdeal.nD Cert.MergeSampleIdeal.τ).loc Cert.MergeSampleIdeal.main_arg0) := h0
  have q1 : StableHlo.launchContents m' c (Proc.devRef .tc Cert.MergeSampleRefIdeal.main_arg1) = m ((c.tc : Thread Cert.MergeSampleIdeal.nD Cert.MergeSampleIdeal.τ).loc Cert.MergeSampleIdeal.main_arg1) := h1
  have q2 : StableHlo.launchContents m' c (Proc.devRef .tc Cert.MergeSampleRefIdeal.main_arg2) = m ((c.tc : Thread Cert.MergeSampleIdeal.nD Cert.MergeSampleIdeal.τ).loc Cert.MergeSampleIdeal.main_arg2) := h2
  have q3 : StableHlo.launchContents m' c (Proc.devRef .tc Cert.MergeSampleRefIdeal.main_arg3) = m ((c.tc : Thread Cert.MergeSampleIdeal.nD Cert.MergeSampleIdeal.τ).loc Cert.MergeSampleIdeal.main_arg3) := h3
  have q4 : StableHlo.launchContents m' c (Proc.devRef .tc Cert.MergeSampleRefIdeal.main_arg4) = m ((c.tc : Thread Cert.MergeSampleIdeal.nD Cert.MergeSampleIdeal.τ).loc Cert.MergeSampleIdeal.main_arg4) := h4
  have q5 : StableHlo.launchContents m' c (Proc.devRef .tc Cert.MergeSampleRefIdeal.main_arg5) = m ((c.tc : Thread Cert.MergeSampleIdeal.nD Cert.MergeSampleIdeal.τ).loc Cert.MergeSampleIdeal.main_arg5) := h5
  have q6 : StableHlo.launchContents m' c (Proc.devRef .tc Cert.MergeSampleRefIdeal.main_arg6) = m ((c.tc : Thread Cert.MergeSampleIdeal.nD Cert.MergeSampleIdeal.τ).loc Cert.MergeSampleIdeal.main_arg6) := h6
  have q7 : StableHlo.launchContents m' c (Proc.devRef .tc Cert.MergeSampleRefIdeal.main_arg7) = m ((c.tc : Thread Cert.MergeSampleIdeal.nD Cert.MergeSampleIdeal.τ).loc Cert.MergeSampleIdeal.main_arg7) := h7
  have q8 : StableHlo.launchContents m' c (Proc.devRef .tc Cert.MergeSampleRefIdeal.main_arg8) = m ((c.tc : Thread Cert.MergeSampleIdeal.nD Cert.MergeSampleIdeal.τ).loc Cert.MergeSampleIdeal.main_arg8) := h8
  have q9 : StableHlo.launchContents m' c (Proc.devRef .tc Cert.MergeSampleRefIdeal.main_arg9) = m ((c.tc : Thread Cert.MergeSampleIdeal.nD Cert.MergeSampleIdeal.τ).loc Cert.MergeSampleIdeal.main_arg9) := h9
  have q10 : StableHlo.launchContents m' c (Proc.devRef .tc Cert.MergeSampleRefIdeal.main_arg10) = m ((c.tc : Thread Cert.MergeSampleIdeal.nD Cert.MergeSampleIdeal.τ).loc Cert.MergeSampleIdeal.main_arg10) := h10
  have q11 : StableHlo.launchContents m' c (Proc.devRef .tc Cert.MergeSampleRefIdeal.main_arg11) = m ((c.tc : Thread Cert.MergeSampleIdeal.nD Cert.MergeSampleIdeal.τ).loc Cert.MergeSampleIdeal.main_arg11) := h11
  have q12 : StableHlo.launchContents m' c (Proc.devRef .tc Cert.MergeSampleRefIdeal.main_arg12) = m ((c.tc : Thread Cert.MergeSampleIdeal.nD Cert.MergeSampleIdeal.τ).loc Cert.MergeSampleIdeal.main_arg12) := h12
  have q13 : StableHlo.launchContents m' c (Proc.devRef .tc Cert.MergeSampleRefIdeal.main_arg13) = m ((c.tc : Thread Cert.MergeSampleIdeal.nD Cert.MergeSampleIdeal.τ).loc Cert.MergeSampleIdeal.main_arg13) := h13
  have q14 : StableHlo.launchContents m' c (Proc.devRef .tc Cert.MergeSampleRefIdeal.main_arg14) = m ((c.tc : Thread Cert.MergeSampleIdeal.nD Cert.MergeSampleIdeal.τ).loc Cert.MergeSampleIdeal.main_arg14) := h14
  rw [q0, q1, q2, q3, q4, q5, q6, q7, q8, q9, q10, q11, q12, q13, q14]
  rfl

/-- The reference's frame. -/
theorem frame_mergeSampleRef : (hR : Cert.MergeSampleRefIdeal.Facts) → Cert.quiescent_MergeSampleRefIdeal (hMergeSampleRefIdeal := hR) := fun _ m ρ _ =>
  (θ_run Cert.MergeSampleRefIdeal.defs _ _).mono (fun r h => ⟨fun c => (h c).2, sem_eq_zero_of_no_sems (by decide) r.2⟩)
    (Cert.MergeSampleRefIdeal.Value.run (F := Ideal) m ρ)

end Cert.Dense
-- ==== Proof.PromptFfn.lean ====
/- The first half-step feed-forward call at the prompt's shapes, in the program that goes on to the projections: what each grid point's block holds, and the result array after the run. -/
module

public import proofs.«01_k».proof.Defs
public import proofs.«01_k».proof.Proof.Gen.PromptIdeal.Frame
public import Idealize.ShloMosaic.Lib.Quiescent
public import proofs.«01_k».proof.Proof.Layer
public import Idealize.ShloMosaic.Lib.Pointwise
public import Idealize.ShloMosaic.Lib.Pipeline.ValueKit
public import Idealize.ShloMosaic.Lib.VecWindow

@[expose] public section
set_option maxRecDepth 16384
noncomputable section
open Idealize.ShloMosaic Idealize.ShloMosaic.TcCoe Idealize.SL.Sem

namespace Cert.PromptIdeal
open Cert.PromptIdeal.Gen

namespace Ffn

/-- The activations of a block of rows: `silu(x·wg) · (x·wu)`. -/
def actArr (x0 : Vec Ideal S512x1024 .f32) (x1 x2 : Vec Ideal S1024x2816 .bf16) : Vec Ideal S512x2816 .bf16 :=
  fun y => Layer.act (fun i => x0 (ix2 (y 0) i)) (fun i => x1 (ix2 i (y 1))) (fun i => x2 (ix2 i (y 1)))

/-- What the eleven column stores left in the activation scratch, read back whole. -/
theorem scratch_eq (c : Dev nD) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg8 : Memref sig .tc .vmem S512x2816 .bf16)
    (x0 : Vec Ideal S512x1024 .f32) (x1 : Vec Ideal S1024x2816 .bf16) (x2 : Vec Ideal S1024x2816 .bf16) (inb) :
   arg8.view.readCov (kernelRun0_A.sl.HS0_11 c arg1 harg1 arg2 harg2 arg3 harg3 x0 x1 x2) (Rect.unit (s := S512x2816) ![0,0] S512x2816.size inb).toLoadRect = actArr x0 x1 x2 := by
  funext y
  show View.read (Elt Ideal) _ _ ((Rect.unit (s := S512x2816) ![0,0] S512x2816.size inb).idx y) = _
  have e : (Rect.unit (s := S512x2816) ![0,0] S512x2816.size inb).idx y = y := by
    funext a; apply Fin.ext; rw [Rect.idx_unit_val]; fin_cases a <;> simp
  rw [e]
  refine View.read_writes_apply_of_pieces _ _ (actArr x0 x1 x2) _ ?_ y (View.cover_of_tiledL _ ![512,256] (by sl_kernel_rfl) y)
  intro p hp j
  simp only [kernelRun0_A.sl.HS0_11, List.mem_cons, List.mem_nil_iff, or_false] at hp
  rcases hp with rfl | rfl | rfl | rfl | rfl | rfl | rfl | rfl | rfl | rfl | rfl
  all_goals
    dsimp only
    sl_unfold_words
    simp only [View.readAt_eq_ld, Memref.IsWhole.read_unread]
    obtain ⟨r, q, rfl⟩ : ∃ (r : Fin 512) (q : Fin 256), j = ix2 r q := ⟨j 0, j 1, by funext d; fin_cases d <;> rfl⟩
    have hq : q.val < 256 := q.isLt
    rw [Layer.emb_at _ r q (by omega) (by omega)]
    generalize hA : View.ld x0 _ = A
    generalize hB : View.ld x1 _ = B
    generalize hC : View.ld x2 _ = C
    have eA := fun k : Fin 1024 => Layer.ld_at (a := 512) (b := 1024) hA r k
    have eB := fun k : Fin 1024 => Layer.ld_at (a := 1024) (b := 2816) hB k q
    have eC := fun k : Fin 1024 => Layer.ld_at (a := 1024) (b := 2816) hC k q
    simp only [Nat.zero_add, Fin.eta] at eA eB eC ⊢
    clear hA hB hC
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [eA, eB, eC]
    rfl

/-- The result block of a grid point, at an index. -/
theorem block_at (c : Dev nD) (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (r : Fin 512) (n : Fin 1024) :
    out0_A_6 c i arg1 harg1 arg2 harg2 arg3 harg3 arg4 harg4 arg5 harg5 arg6 harg6 arg7 harg7 arg8 harg8 x0 x1 x2 x3 x4 x5 (ix2 r n)
      = Layer.norm (Layer.half (fun k => x0 (ix2 r k)) (fun k => actArr x0 x1 x2 (ix2 r k)) (fun k j => x3 (ix2 k j)))
          (x4 (ix2 0 n)) (x5 (ix2 0 n)) n := by
  unfold out0_A_6 kernelRun0_A
  dsimp only
  unfold kernelRun0_A.sl.v145 kernelRun0_A.sl.r
  rw [scratch_eq]
  frame_out
  pointwise [k0_pay17]
  rfl

variable (m : (ℓ : Loc nD τ sig) → Buf (Elt Ideal) ℓ) (ρ : Dev nD → PrngReg)

/-- The result array: row `r` of the input through the half-step and its normalization. -/
def G (c : Dev nD) : Buf (Elt Ideal) ((c : Thread nD τ).loc main_v16) := fun y : S65536x1024.Idx =>
  let x : Fin 1024 → EReal := fun k => m ((c : Thread nD τ).loc main_arg0) (ix2 (y 0) k)
  Layer.norm (Layer.half x
      (fun k => Layer.act x (fun i => m ((c : Thread nD τ).loc main_arg1) (ix2 i k)) (fun i => m ((c : Thread nD τ).loc main_arg2) (ix2 i k)))
      (fun k j => m ((c : Thread nD τ).loc main_arg3) (ix2 k j)))
    (m ((c : Thread nD τ).loc main_arg4) (ix1 (y 1))) (m ((c : Thread nD τ).loc main_arg5) (ix1 (y 1))) (y 1)

theorem idx : ∀ t : Fin cfg0.N, win0_0.index t = ![(grid0.coords t 0).val, 0] ∧ win0_6.index t = ![(grid0.coords t 0).val, 0]
    ∧ win0_1.index t = ![0, 0] ∧ win0_2.index t = ![0, 0] ∧ win0_3.index t = ![0, 0] ∧ win0_4.index t = ![0, 0] ∧ win0_5.index t = ![0, 0] := by
  decide +kernel

theorem i1 (c : Dev nD) (t : Fin cfg0.N) (k : Fin 1024) (j : Fin 2816) : iblk0 (V5 m ρ) c 1 t (ix2 k j) = m ((c : Thread nD τ).loc main_arg1) (ix2 k j) := by
  blk_simp [iblk0]
  show StableHlo.after hostOps0_4 (W4 m ρ c) (Proc.devRef .tc main_v11) _ = _
  have e : ((win0_1.blk t).view.emb (ix2 k j)) = (ix2 k j) := by blk_ext [idx t]
  rw [e]
  after_results
  pointwise

theorem i2 (c : Dev nD) (t : Fin cfg0.N) (k : Fin 1024) (j : Fin 2816) : iblk0 (V5 m ρ) c 2 t (ix2 k j) = m ((c : Thread nD τ).loc main_arg2) (ix2 k j) := by
  blk_simp [iblk0]
  show StableHlo.after hostOps0_4 (W4 m ρ c) (Proc.devRef .tc main_v12) _ = _
  have e : ((win0_2.blk t).view.emb (ix2 k j)) = (ix2 k j) := by blk_ext [idx t]
  rw [e]
  after_results
  pointwise

theorem i3 (c : Dev nD) (t : Fin cfg0.N) (k : Fin 2816) (j : Fin 1024) : iblk0 (V5 m ρ) c 3 t (ix2 k j) = m ((c : Thread nD τ).loc main_arg3) (ix2 k j) := by
  blk_simp [iblk0]
  show StableHlo.after hostOps0_4 (W4 m ρ c) (Proc.devRef .tc main_v13) _ = _
  have e : ((win0_3.blk t).view.emb (ix2 k j)) = (ix2 k j) := by blk_ext [idx t]
  rw [e]
  after_results
  pointwise

theorem i4 (c : Dev nD) (t : Fin cfg0.N) (j : Fin 1024) : iblk0 (V5 m ρ) c 4 t (ix2 0 j) = m ((c : Thread nD τ).loc main_arg4) (ix1 j) := by
  blk_simp [iblk0]
  show StableHlo.after hostOps0_4 (W4 m ρ c) (Proc.devRef .tc main_v14) _ = _
  have e : ((win0_4.blk t).view.emb (ix2 0 j)) = (ix2 0 j) := by blk_ext [idx t]
  rw [e]
  after_results
  pointwise

theorem i5 (c : Dev nD) (t : Fin cfg0.N) (j : Fin 1024) : iblk0 (V5 m ρ) c 5 t (ix2 0 j) = m ((c : Thread nD τ).loc main_arg5) (ix1 j) := by
  blk_simp [iblk0]
  show StableHlo.after hostOps0_4 (W4 m ρ c) (Proc.devRef .tc main_v15) _ = _
  have e : ((win0_5.blk t).view.emb (ix2 0 j)) = (ix2 0 j) := by blk_ext [idx t]
  rw [e]
  after_results
  pointwise

theorem i0 (c : Dev nD) (t : Fin cfg0.N) (r : Fin 512) (k : Fin 1024) (h : (grid0.coords t 0).val * 512 + r.val < 65536) :
    iblk0 (V5 m ρ) c 0 t (ix2 r k) = m ((c : Thread nD τ).loc main_arg0) (ix2 ⟨(grid0.coords t 0).val * 512 + r.val, h⟩ k) := by
  blk_simp [iblk0]
  show W5 m ρ c (Proc.devRef .tc main_arg0) _ = _
  rw [W5_args m ρ c main_arg0 (by decide)]
  blk_ext [idx t]

theorem final (c : Dev nD) : (dat0 (V5 m ρ) c).arrAt 6 cfg0.N = G m c := by
  refine (dat0 (V5 m ρ) c).arrAt_eq_of_covers 6 _ (by decide +kernel) fun t hf y => ?_
  blk_simp
  rw [after0_6, outsAt0]
  obtain ⟨r, n, rfl⟩ : ∃ (r : Fin 512) (n : Fin 1024), y = (ix2 r n : S512x1024.Idx) := ⟨y 0, y 1, by funext d; fin_cases d <;> rfl⟩
  have ht : (grid0.coords t 0).val < 128 := (grid0.coords t 0).isLt
  have h : (grid0.coords t 0).val * 512 + r.val < 65536 := by have := r.isLt; omega
  have e : ((win0_6.blk t).view.emb (ix2 r n : S512x1024.Idx)) = ix2 (⟨(grid0.coords t 0).val * 512 + r.val, h⟩ : Fin 65536) n := by
    blk_ext [idx t]
  refine (block_at ..).trans ?_
  rw [e]
  have a0 : ∀ k : Fin 1024, (iblk0 (V5 m ρ) c 0 t (ix2 r k) : EReal) = _ := fun k => i0 m ρ c t r k h
  have a1 : ∀ (k : Fin 1024) (j : Fin 2816), (iblk0 (V5 m ρ) c 1 t (ix2 k j) : EReal) = _ := i1 m ρ c t
  have a2 : ∀ (k : Fin 1024) (j : Fin 2816), (iblk0 (V5 m ρ) c 2 t (ix2 k j) : EReal) = _ := i2 m ρ c t
  have a3 : ∀ (k : Fin 2816) (j : Fin 1024), (iblk0 (V5 m ρ) c 3 t (ix2 k j) : EReal) = _ := i3 m ρ c t
  have a4 : ∀ j : Fin 1024, (iblk0 (V5 m ρ) c 4 t (ix2 0 j) : EReal) = _ := i4 m ρ c t
  have a5 : ∀ j : Fin 1024, (iblk0 (V5 m ρ) c 5 t (ix2 0 j) : EReal) = _ := i5 m ρ c t
  show Layer.norm (Layer.half (fun k => iblk0 (V5 m ρ) c 0 t (ix2 r k))
      (fun k => Layer.act (fun i => iblk0 (V5 m ρ) c 0 t (ix2 r i)) (fun i => iblk0 (V5 m ρ) c 1 t (ix2 i k)) (fun i => iblk0 (V5 m ρ) c 2 t (ix2 i k)))
      (fun k j => iblk0 (V5 m ρ) c 3 t (ix2 k j))) (iblk0 (V5 m ρ) c 4 t (ix2 0 n)) (iblk0 (V5 m ρ) c 5 t (ix2 0 n)) n = _
  rw [a4, a5, funext a0, funext fun k => funext (a3 k)]
  have e1 : ∀ k : Fin 2816, (fun i : Fin 1024 => (iblk0 (V5 m ρ) c 1 t (ix2 i k) : EReal)) = _ := fun k => funext fun i => a1 i k
  have e2 : ∀ k : Fin 2816, (fun i : Fin 1024 => (iblk0 (V5 m ρ) c 2 t (ix2 i k) : EReal)) = _ := fun k => funext fun i => a2 i k
  simp only [e1, e2]
  rfl

end Ffn

end Cert.PromptIdeal
-- ==== Proof.PromptRun.lean ====
/- The first half-step and the projections, one after the other at the prompt's shapes: every buffer after the run. -/
module

public import proofs.«01_k».proof.Proof.Gen.PromptIdeal.Frame

@[expose] public section
set_option maxRecDepth 16384
noncomputable section
namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters the program runs to its end, and every buffer that outlives its calls then holds what the
    calls and the operations between them leave in it, one after the other. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.PromptIdeal.Gen
-- ==== Proof.PromptArrays.lean ====
/- The projections call at the prompt's shapes, after the first half-step: the arrays of the new rows after the run. -/
module

public import proofs.«01_k».proof.Proof.PromptFfn
public import proofs.«01_k».proof.Proof.PromptRun

@[expose] public section
set_option maxRecDepth 16384
noncomputable section
open Idealize.ShloMosaic Idealize.ShloMosaic.TcCoe Idealize.SL.Sem

namespace Cert.PromptIdeal
open Cert.PromptIdeal.Gen

namespace Mix

-- read as an opaque array here: only where its entries stand matters
attribute [local irreducible] Ffn.G

variable (m : (ℓ : Loc nD τ sig) → Buf (Elt Ideal) ℓ) (ρ : Dev nD → PrngReg)

section Blocks

variable (x0 : Vec Ideal S512x1024 .f32) (x1 : Vec Ideal S1024x1536 .bf16) (x2 : Vec Ideal S1024x768 .bf16) (x3 : Vec Ideal S1024x2048 .bf16)
  (x4 x5 : Vec Ideal S1024x1024 .bf16) (x6 x7 : Vec Ideal S1x1024 .f32) (x8 : Vec Ideal S4x128x128 .f32) (x9 : Vec Ideal S128x4 .f32)

/-- The block of keys, at an index: rows of `h` times columns of the weights. -/
theorem b10 (r : Fin 512) (n : Fin 256) : out1_10 x0 x1 x2 x3 x4 x5 x6 x7 x8 x9 (ix2 r n)
    = (∑ k : Fin 1024, x0 (ix2 r k) * x1 (ix2 k ⟨1024 + n.val, by omega⟩) : EReal) := by
  unfold_out out1_10
  frame_out
  pointwise [k1_pay4, k1_pay3, k1_pay1]
  try rfl

/-- The block of values, at an index: rows of `h` times columns of the weights. -/
theorem b11 (r : Fin 512) (n : Fin 256) : out1_11 x0 x1 x2 x3 x4 x5 x6 x7 x8 x9 (ix2 r n)
    = (∑ k : Fin 1024, x0 (ix2 r k) * x1 (ix2 k ⟨1280 + n.val, by omega⟩) : EReal) := by
  unfold_out out1_11
  frame_out
  pointwise [k1_pay5, k1_pay3, k1_pay1]
  try rfl

/-- The block of index keys, at an index: rows of `h` times columns of the weights. -/
theorem b12 (r : Fin 512) (n : Fin 64) : out1_12 x0 x1 x2 x3 x4 x5 x6 x7 x8 x9 (ix2 r n)
    = (∑ k : Fin 1024, x0 (ix2 r k) * x2 (ix2 k ⟨512 + n.val, by omega⟩) : EReal) := by
  unfold_out out1_12
  frame_out
  pointwise [k1_pay9, k1_pay7, k1_pay1]
  try rfl

end Blocks

/-- Where each window's block lies at a grid point. -/
theorem idx : ∀ t : Fin cfg1.N, win1_0.index t = ![(grid1.coords t 0).val, 0]
    ∧ win1_1.index t = ![0, 0]
    ∧ win1_2.index t = ![0, 0]
    ∧ win1_3.index t = ![0, 0]
    ∧ win1_4.index t = ![0, 0]
    ∧ win1_5.index t = ![0, 0]
    ∧ win1_6.index t = ![0, 0]
    ∧ win1_7.index t = ![0, 0]
    ∧ win1_8.index t = ![0, 0, 0]
    ∧ win1_9.index t = ![0, 0]
    ∧ win1_10.index t = ![(grid1.coords t 0).val, 0]
    ∧ win1_11.index t = ![(grid1.coords t 0).val, 0]
    ∧ win1_12.index t = ![(grid1.coords t 0).val, 0] := by
  decide +kernel

/-- Window 0: rows of the first half-step's result. -/
theorem i0 (c : Dev nD) (t : Fin cfg1.N) (r : Fin 512) (k : Fin 1024) (h : (grid1.coords t 0).val * 512 + r.val < 65536) :
    iblk1 (V7 m ρ) c 0 t (ix2 r k) = Ffn.G m c (ix2 ⟨(grid1.coords t 0).val * 512 + r.val, h⟩ k) := by
  blk_simp [iblk1]
  show W7 m ρ c (Proc.devRef .tc main_v16) _ = _
  rw [W7_of m ρ c main_v16 (by decide), show W6 m ρ c (Proc.devRef .tc main_v16) = Ffn.G m c from (W6_arr m ρ c 6).trans (Ffn.final m ρ c)]
  blk_ext [idx t]

/-- Window 1: the weights' first 1536 columns. -/
theorem i1 (c : Dev nD) (t : Fin cfg1.N) (k : Fin 1024) (j : Fin 1536) : iblk1 (V7 m ρ) c 1 t (ix2 k j) = m ((c : Thread nD τ).loc main_arg6) (ix2 k ⟨j.val, by omega⟩) := by
  blk_simp [iblk1]
  show W7 m ρ c (Proc.devRef .tc main_v7) _ = _
  have e : ((win1_1.blk t).view.emb (ix2 k j)) = (ix2 k j) := by blk_ext [idx t]
  rw [e]
  rw [W7_of m ρ c main_v7 (by decide), W6_of m ρ c main_v7 (by decide)]
  show StableHlo.after hostOps0_4 (W4 m ρ c) (Proc.devRef .tc main_v7) _ = _
  after_results
  pointwise

/-- Three matrices side by side, read in the second. -/
theorem cat_b (A : Vec Ideal S1024x512 .bf16) (B C : Vec Ideal S1024x128 .bf16) (k : Fin 1024) (j : Fin 64) :
    concatenate S1024x768 1 [⟨S1024x512, A⟩, ⟨S1024x128, B⟩, ⟨S1024x128, C⟩] concatenates_S1024x512_S1024x128_S1024x128_S1024x768_d1 (ix2 k ⟨512 + j.val, by omega⟩) = B (ix2 k ⟨j.val, by omega⟩) := by
  pointwise
  rw [dif_pos (by omega)]

/-- Window 2, second part: the index key's columns. -/
theorem i2b (c : Dev nD) (t : Fin cfg1.N) (k : Fin 1024) (j : Fin 64) : iblk1 (V7 m ρ) c 2 t (ix2 k ⟨512 + j.val, by omega⟩) = m ((c : Thread nD τ).loc main_arg6) (ix2 k ⟨2048 + j.val, by omega⟩) := by
  blk_simp [iblk1]
  show W7 m ρ c (Proc.devRef .tc main_v6) _ = _
  have e : ((win1_2.blk t).view.emb (ix2 k ⟨512 + j.val, by omega⟩)) = (ix2 k ⟨512 + j.val, by omega⟩) := by blk_ext [idx t]
  rw [e]
  rw [W7_of m ρ c main_v6 (by decide), W6_of m ρ c main_v6 (by decide)]
  show StableHlo.after hostOps0_4 (W4 m ρ c) (Proc.devRef .tc main_v6) _ = _
  after_results
  refine (cat_b _ _ _ k j).trans ?_
  pointwise
  after_results_simp
  simp only [StableHlo.TRef.toBuf, StableHlo.TRef.ofBuf, cast_eq]
  pointwise

/-- An entry of the first half-step's result. -/
def aH (c : Dev nD) (r : Fin 65536) (k : Fin 1024) : EReal := Ffn.G m c (ix2 r k)

/-- An entry of the fused projection's weights. -/
def aW (c : Dev nD) (k : Fin 1024) (n : Fin 6216) : EReal := m ((c : Thread nD τ).loc main_arg6) (ix2 k n)

/-- A row of the first half-step's result times a column of the fused projection's weights. -/
def prj (c : Dev nD) (r : Fin 65536) (n : Fin 6216) : EReal :=
  ∑ k : Fin 1024, aH m c r k * aW m c k n

/-- A sum of products of a row's entries with a column's is the row times the column. -/
theorem prj_of (c : Dev nD) (r : Fin 65536) (n : Fin 6216) (x y : Fin 1024 → EReal) (hx : ∀ k, x k = aH m c r k) (hy : ∀ k, y k = aW m c k n) :
    (∑ k : Fin 1024, x k * y k) = prj m c r n :=
  Finset.sum_congr rfl fun k _ => congrArg₂ (fun a b : EReal => a * b) (hx k) (hy k)

/-- The array of the keys: the first half-step's result times the weights' columns from 1024 on. -/
def G10 (c : Dev nD) : Vec Ideal S65536x256 .f32 :=
  fun y => (fun (r : Fin 65536) (n : Fin 256) => prj m c r ⟨1024 + n.val, by omega⟩) (y 0) (y 1)

/-- The array of the values: the first half-step's result times the weights' columns from 1280 on. -/
def G11 (c : Dev nD) : Vec Ideal S65536x256 .f32 :=
  fun y => (fun (r : Fin 65536) (n : Fin 256) => prj m c r ⟨1280 + n.val, by omega⟩) (y 0) (y 1)

/-- The array of the index keys: the first half-step's result times the weights' columns from 2048 on. -/
def G12 (c : Dev nD) : Vec Ideal S65536x64 .f32 :=
  fun y => (fun (r : Fin 65536) (n : Fin 64) => prj m c r ⟨2048 + n.val, by omega⟩) (y 0) (y 1)

/-- The launch leaves `G10` in window 10's array. -/
theorem final10 (c : Dev nD) : (dat1 (V7 m ρ) c).arrAt 10 cfg1.N = G10 m c := by
  refine (dat1 (V7 m ρ) c).arrAt_eq_of_covers 10 _ (by decide +kernel) fun t hf y => ?_
  blk_simp
  rw [after1_10]
  obtain ⟨r, n, rfl⟩ : ∃ (r : Fin 512) (n : Fin 256), y = (ix2 r n : S512x256.Idx) := ⟨y 0, y 1, by funext d; fin_cases d <;> rfl⟩
  have ht : (grid1.coords t 0).val < 128 := (grid1.coords t 0).isLt
  have h : ∀ r : Fin 512, (grid1.coords t 0).val * 512 + r.val < 65536 := fun r => by have := r.isLt; omega
  have e : ((win1_10.blk t).view.emb (ix2 r n : S512x256.Idx)) = ix2 (⟨(grid1.coords t 0).val * 512 + r.val, h r⟩ : Fin 65536) n := by
    blk_ext [idx t]
  refine (b10 ..).trans ?_
  rw [e]
  show _ = prj m c ⟨(grid1.coords t 0).val * 512 + r.val, h r⟩ ⟨1024 + n.val, by omega⟩
  exact prj_of m c _ _ _ _ (fun k => i0 m ρ c t r k (h r)) (fun k => i1 m ρ c t k ⟨1024 + n.val, by omega⟩)

/-- The launch leaves `G11` in window 11's array. -/
theorem final11 (c : Dev nD) : (dat1 (V7 m ρ) c).arrAt 11 cfg1.N = G11 m c := by
  refine (dat1 (V7 m ρ) c).arrAt_eq_of_covers 11 _ (by decide +kernel) fun t hf y => ?_
  blk_simp
  rw [after1_11]
  obtain ⟨r, n, rfl⟩ : ∃ (r : Fin 512) (n : Fin 256), y = (ix2 r n : S512x256.Idx) := ⟨y 0, y 1, by funext d; fin_cases d <;> rfl⟩
  have ht : (grid1.coords t 0).val < 128 := (grid1.coords t 0).isLt
  have h : ∀ r : Fin 512, (grid1.coords t 0).val * 512 + r.val < 65536 := fun r => by have := r.isLt; omega
  have e : ((win1_11.blk t).view.emb (ix2 r n : S512x256.Idx)) = ix2 (⟨(grid1.coords t 0).val * 512 + r.val, h r⟩ : Fin 65536) n := by
    blk_ext [idx t]
  refine (b11 ..).trans ?_
  rw [e]
  show _ = prj m c ⟨(grid1.coords t 0).val * 512 + r.val, h r⟩ ⟨1280 + n.val, by omega⟩
  exact prj_of m c _ _ _ _ (fun k => i0 m ρ c t r k (h r)) (fun k => i1 m ρ c t k ⟨1280 + n.val, by omega⟩)

/-- The launch leaves `G12` in window 12's array. -/
theorem final12 (c : Dev nD) : (dat1 (V7 m ρ) c).arrAt 12 cfg1.N = G12 m c := by
  refine (dat1 (V7 m ρ) c).arrAt_eq_of_covers 12 _ (by decide +kernel) fun t hf y => ?_
  blk_simp
  rw [after1_12]
  obtain ⟨r, n, rfl⟩ : ∃ (r : Fin 512) (n : Fin 64), y = (ix2 r n : S512x64.Idx) := ⟨y 0, y 1, by funext d; fin_cases d <;> rfl⟩
  have ht : (grid1.coords t 0).val < 128 := (grid1.coords t 0).isLt
  have h : ∀ r : Fin 512, (grid1.coords t 0).val * 512 + r.val < 65536 := fun r => by have := r.isLt; omega
  have e : ((win1_12.blk t).view.emb (ix2 r n : S512x64.Idx)) = ix2 (⟨(grid1.coords t 0).val * 512 + r.val, h r⟩ : Fin 65536) n := by
    blk_ext [idx t]
  refine (b12 ..).trans ?_
  rw [e]
  show _ = prj m c ⟨(grid1.coords t 0).val * 512 + r.val, h r⟩ ⟨2048 + n.val, by omega⟩
  exact prj_of m c _ _ _ _ (fun k => i0 m ρ c t r k (h r)) (fun k => i2b m ρ c t k n)

/-- What a memory holds at each buffer that outlives the calls, once the program has run. -/
abbrev Ends (c : Dev nD) (μ : (ℓ : Loc nD τ sig) → Buf (Elt Ideal) ℓ) : Prop := ∀ b ∈ Pipeline.ucRefs τ sig, μ (((c : Thread nD τ)).1, b) = W8 m ρ c b

/-- The first half-step's result, after the run. -/
theorem at_h (c : Dev nD) (μ : (ℓ : Loc nD τ sig) → Buf (Elt Ideal) ℓ) (h : Ends m ρ c μ) : μ ((c : Thread nD τ).loc main_v16) = Ffn.G m c :=
  (h _ (mem_uc main_v16 (by decide))).trans ((W8_of m ρ c main_v16 (by decide)).trans ((W7_of m ρ c main_v16 (by decide)).trans ((W6_arr m ρ c 6).trans (Ffn.final m ρ c))))

/-- Result 0 of the projections, after the run. -/
theorem at_0 (c : Dev nD) (μ : (ℓ : Loc nD τ sig) → Buf (Elt Ideal) ℓ) (h : Ends m ρ c μ) : μ ((c : Thread nD τ).loc main_v26_0) = G10 m c :=
  (h _ (mem_uc main_v26_0 (by decide))).trans ((W8_arr m ρ c 10).trans (final10 m ρ c))

/-- Result 1 of the projections, after the run. -/
theorem at_1 (c : Dev nD) (μ : (ℓ : Loc nD τ sig) → Buf (Elt Ideal) ℓ) (h : Ends m ρ c μ) : μ ((c : Thread nD τ).loc main_v26_1) = G11 m c :=
  (h _ (mem_uc main_v26_1 (by decide))).trans ((W8_arr m ρ c 11).trans (final11 m ρ c))

/-- Result 2 of the projections, after the run. -/
theorem at_2 (c : Dev nD) (μ : (ℓ : Loc nD τ sig) → Buf (Elt Ideal) ℓ) (h : Ends m ρ c μ) : μ ((c : Thread nD τ).loc main_v26_2) = G12 m c :=
  (h _ (mem_uc main_v26_2 (by decide))).trans ((W8_arr m ρ c 12).trans (final12 m ρ c))

/-- Argument 0, after the run. -/
theorem arg_0 (c : Dev nD) (μ : (ℓ : Loc nD τ sig) → Buf (Elt Ideal) ℓ) (h : Ends m ρ c μ) : μ ((c : Thread nD τ).loc main_arg0) = m ((c : Thread nD τ).loc main_arg0) :=
  (h _ (mem_uc main_arg0 (by decide))).trans (W8_main_arg0 m ρ c)

/-- Argument 1, after the run. -/
theorem arg_1 (c : Dev nD) (μ : (ℓ : Loc nD τ sig) → Buf (Elt Ideal) ℓ) (h : Ends m ρ c μ) : μ ((c : Thread nD τ).loc main_arg1) = m ((c : Thread nD τ).loc main_arg1) :=
  (h _ (mem_uc main_arg1 (by decide))).trans (W8_main_arg1 m ρ c)

/-- Argument 2, after the run. -/
theorem arg_2 (c : Dev nD) (μ : (ℓ : Loc nD τ sig) → Buf (Elt Ideal) ℓ) (h : Ends m ρ c μ) : μ ((c : Thread nD τ).loc main_arg2) = m ((c : Thread nD τ).loc main_arg2) :=
  (h _ (mem_uc main_arg2 (by decide))).trans (W8_main_arg2 m ρ c)

/-- Argument 3, after the run. -/
theorem arg_3 (c : Dev nD) (μ : (ℓ : Loc nD τ sig) → Buf (Elt Ideal) ℓ) (h : Ends m ρ c μ) : μ ((c : Thread nD τ).loc main_arg3) = m ((c : Thread nD τ).loc main_arg3) :=
  (h _ (mem_uc main_arg3 (by decide))).trans (W8_main_arg3 m ρ c)

/-- Argument 4, after the run. -/
theorem arg_4 (c : Dev nD) (μ : (ℓ : Loc nD τ sig) → Buf (Elt Ideal) ℓ) (h : Ends m ρ c μ) : μ ((c : Thread nD τ).loc main_arg4) = m ((c : Thread nD τ).loc main_arg4) :=
  (h _ (mem_uc main_arg4 (by decide))).trans (W8_main_arg4 m ρ c)

/-- Argument 5, after the run. -/
theorem arg_5 (c : Dev nD) (μ : (ℓ : Loc nD τ sig) → Buf (Elt Ideal) ℓ) (h : Ends m ρ c μ) : μ ((c : Thread nD τ).loc main_arg5) = m ((c : Thread nD τ).loc main_arg5) :=
  (h _ (mem_uc main_arg5 (by decide))).trans (W8_main_arg5 m ρ c)

/-- Argument 6, after the run. -/
theorem arg_6 (c : Dev nD) (μ : (ℓ : Loc nD τ sig) → Buf (Elt Ideal) ℓ) (h : Ends m ρ c μ) : μ ((c : Thread nD τ).loc main_arg6) = m ((c : Thread nD τ).loc main_arg6) :=
  (h _ (mem_uc main_arg6 (by decide))).trans (W8_main_arg6 m ρ c)

/-- Argument 7, after the run. -/
theorem arg_7 (c : Dev nD) (μ : (ℓ : Loc nD τ sig) → Buf (Elt Ideal) ℓ) (h : Ends m ρ c μ) : μ ((c : Thread nD τ).loc main_arg7) = m ((c : Thread nD τ).loc main_arg7) :=
  (h _ (mem_uc main_arg7 (by decide))).trans (W8_main_arg7 m ρ c)

/-- Argument 8, after the run. -/
theorem arg_8 (c : Dev nD) (μ : (ℓ : Loc nD τ sig) → Buf (Elt Ideal) ℓ) (h : Ends m ρ c μ) : μ ((c : Thread nD τ).loc main_arg8) = m ((c : Thread nD τ).loc main_arg8) :=
  (h _ (mem_uc main_arg8 (by decide))).trans (W8_main_arg8 m ρ c)

/-- Argument 9, after the run. -/
theorem arg_9 (c : Dev nD) (μ : (ℓ : Loc nD τ sig) → Buf (Elt Ideal) ℓ) (h : Ends m ρ c μ) : μ ((c : Thread nD τ).loc main_arg9) = m ((c : Thread nD τ).loc main_arg9) :=
  (h _ (mem_uc main_arg9 (by decide))).trans (W8_main_arg9 m ρ c)

/-- Argument 10, after the run. -/
theorem arg_10 (c : Dev nD) (μ : (ℓ : Loc nD τ sig) → Buf (Elt Ideal) ℓ) (h : Ends m ρ c μ) : μ ((c : Thread nD τ).loc main_arg10) = m ((c : Thread nD τ).loc main_arg10) :=
  (h _ (mem_uc main_arg10 (by decide))).trans (W8_main_arg10 m ρ c)

/-- The program's run: the first half-step's result and the three arrays of new rows are these functions of the arguments, which are
    unchanged. -/
theorem run : θ_run defs (onTc (τ := τ) (main (F := Ideal))) ⟨m, fun _ => 0, ρ⟩ fun r => ∀ c : Dev nD,
      r.2.mem ((c : Thread nD τ).loc main_v16) = Ffn.G m c
      ∧ r.2.mem ((c : Thread nD τ).loc main_v26_0) = G10 m c
      ∧ r.2.mem ((c : Thread nD τ).loc main_v26_1) = G11 m c
      ∧ r.2.mem ((c : Thread nD τ).loc main_v26_2) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨at_h m ρ c r.2.mem (h c), at_0 m ρ c r.2.mem (h c), at_1 m ρ c r.2.mem (h c), at_2 m ρ c r.2.mem (h c), arg_0 m ρ c r.2.mem (h c), arg_1 m ρ c r.2.mem (h c), arg_2 m ρ c r.2.mem (h c), arg_3 m ρ c r.2.mem (h c), arg_4 m ρ c r.2.mem (h c), arg_5 m ρ c r.2.mem (h c), arg_6 m ρ c r.2.mem (h c), arg_7 m ρ c r.2.mem (h c), arg_8 m ρ c r.2.mem (h c), arg_9 m ρ c r.2.mem (h c), arg_10 m ρ c r.2.mem (h c)⟩) (run_all m ρ)

end Mix

end Cert.PromptIdeal
-- ==== Proof.PromptValue.lean ====
/- The reference of the prompt's first half-step and new rows read index by index, and the claim that kernel and reference agree. -/
module

public import proofs.«01_k».proof.Defs
public import proofs.«01_k».proof.Proof.PromptArrays
public import proofs.«01_k».proof.Proof.Gen.PromptRefIdeal.Run
public import Idealize.ShloMosaic.Lib.Quiescent

@[expose] public section

set_option maxRecDepth 16384

noncomputable section

open Idealize.ShloMosaic Idealize.ShloMosaic.TcCoe Idealize.SL.Sem

namespace Cert.PromptRefIdeal

open Cert.PromptRefIdeal.Gen Value StableHlo

variable (m : (ℓ : Loc nD τ sig) → Buf (Elt Ideal) ℓ) (c : Dev nD)

/-- The first half-step of the reference, at an index: the row's function of the arguments. -/
theorem h_at (r : Fin 65536) (n : Fin 1024) : res_main_v33 m c (ix2 r n)
      = Layer.norm (Layer.half (fun k => m ((c.tc : Thread nD τ).loc main_arg0) (ix2 r k))
          (fun k => Layer.act (fun i => m ((c.tc : Thread nD τ).loc main_arg0) (ix2 r i)) (fun i => m ((c.tc : Thread nD τ).loc main_arg1) (ix2 i k))
            (fun i => m ((c.tc : Thread nD τ).loc main_arg2) (ix2 i k)))
          (fun k j => m ((c.tc : Thread nD τ).loc main_arg3) (ix2 k j)))
        (m ((c.tc : Thread nD τ).loc main_arg4) (ix1 n)) (m ((c.tc : Thread nD τ).loc main_arg5) (ix1 n)) n := by
  pointwise [res_main_v33]
  rfl

/-- The keys of the reference, at an index: a row of the first half-step's result times a column of the weights. -/
theorem k_at (r : Fin 65536) (n : Fin 256) : res_main_v35 m c (ix2 r n)
    = ∑ k : Fin 1024, @HMul.hMul EReal EReal EReal _ (res_main_v33 m c (ix2 r k)) (m ((c.tc : Thread nD τ).loc main_arg6) (ix2 k ⟨1024 + n.val, by omega⟩)) := by
  have e : res_main_v35 m c = extractStridedSlice S65536x256 ![0, 1024] (Host.dotGeneral (F := Ideal) (φ₁ := .f32) (φ₂ := .f32) dot_S65536x1024_S1024x6216_S65536x6216_1_0_0_1_n_n none
      (res_main_v33 m c) (m ((c.tc : Thread nD τ).loc main_arg6))) slices_S65536x6216_S65536x256_0_1024 := by
    unfold res_main_v35 res_main_v33
    rfl
  rw [e]
  generalize res_main_v33 m c = H
  pointwise

/-- The values of the reference, at an index: a row of the first half-step's result times a column of the weights. -/
theorem v_at (r : Fin 65536) (n : Fin 256) : res_main_v36 m c (ix2 r n)
    = ∑ k : Fin 1024, @HMul.hMul EReal EReal EReal _ (res_main_v33 m c (ix2 r k)) (m ((c.tc : Thread nD τ).loc main_arg6) (ix2 k ⟨1280 + n.val, by omega⟩)) := by
  have e : res_main_v36 m c = extractStridedSlice S65536x256 ![0, 1280] (Host.dotGeneral (F := Ideal) (φ₁ := .f32) (φ₂ := .f32) dot_S65536x1024_S1024x6216_S65536x6216_1_0_0_1_n_n none
      (res_main_v33 m c) (m ((c.tc : Thread nD τ).loc main_arg6))) slices_S65536x6216_S65536x256_0_1280 := by
    unfold res_main_v36 res_main_v33
    rfl
  rw [e]
  generalize res_main_v33 m c = H
  pointwise

/-- The index keys of the reference, at an index: a row of the first half-step's result times a column of the weights. -/
theorem ki_at (r : Fin 65536) (n : Fin 64) : res_main_v37 m c (ix2 r n)
    = ∑ k : Fin 1024, @HMul.hMul EReal EReal EReal _ (res_main_v33 m c (ix2 r k)) (m ((c.tc : Thread nD τ).loc main_arg6) (ix2 k ⟨2048 + n.val, by omega⟩)) := by
  have e : res_main_v37 m c = extractStridedSlice S65536x64 ![0, 2048] (Host.dotGeneral (F := Ideal) (φ₁ := .f32) (φ₂ := .f32) dot_S65536x1024_S1024x6216_S65536x6216_1_0_0_1_n_n none
      (res_main_v33 m c) (m ((c.tc : Thread nD τ).loc main_arg6))) slices_S65536x6216_S65536x64_0_2048 := by
    unfold res_main_v37 res_main_v33
    rfl
  rw [e]
  generalize res_main_v33 m c = H
  pointwise

end Cert.PromptRefIdeal

namespace Cert.Dense

/-- The prompt's first half-step and new rows at the extended reals: kernel and reference end with equal results, all four, and unchanged
    arguments. -/
theorem algebraic_prompt : (hF : Cert.PromptIdeal.Facts) → (hR : Cert.PromptRefIdeal.Facts) →
    Cert.algebraic_PromptIdeal_PromptRefIdeal (hPromptIdeal := hF) (hPromptRefIdeal := hR) := by
  intro hF hR m ρ m' ρ' _ hag
  refine ⟨fun c => Cert.PromptIdeal.Ffn.G m c, fun c => Cert.PromptIdeal.Mix.G10 m c, fun c => Cert.PromptIdeal.Mix.G11 m c,
    fun c => Cert.PromptIdeal.Mix.G12 m c, Cert.PromptIdeal.Mix.run m ρ, ?_⟩
  refine (θ_run Cert.PromptRefIdeal.defs _ _).mono (fun r h c => ?_) (Cert.PromptRefIdeal.Value.run (F := Ideal) m' ρ')
  obtain ⟨e0, e1, e2, e3, hk⟩ := h c
  obtain ⟨h0, h1, h2, h3, h4, h5, h6, -⟩ := hag c
  have hh : ∀ (r : Fin 65536) (n : Fin 1024), Cert.PromptRefIdeal.Value.res_main_v33 m' c (ix2 r n) = Cert.PromptIdeal.Ffn.G m c (ix2 r n) := fun r n => by
    refine (Cert.PromptRefIdeal.h_at m' c r n).trans ?_
    rw [h0, h1, h2, h3, h4, h5]
    rfl
  have hw : ∀ (k : Fin 1024) (n : Fin 6216), m' ((c.tc : Thread Cert.PromptRefIdeal.nD Cert.PromptRefIdeal.τ).loc Cert.PromptRefIdeal.main_arg6) (ix2 k n)
      = Cert.PromptIdeal.Mix.aW m c k n := fun k n => by
    rw [h6]
    rfl
  refine ⟨e0.trans ?_, e1.trans ?_, e2.trans ?_, e3.trans ?_, hk⟩
  all_goals funext y
  · obtain ⟨r, n, rfl⟩ : ∃ (r : Fin 65536) (n : Fin 1024), y = (ix2 r n : Cert.PromptIdeal.S65536x1024.Idx) := ⟨y 0, y 1, by funext d; fin_cases d <;> rfl⟩
    exact hh r n
  · obtain ⟨r, n, rfl⟩ : ∃ (r : Fin 65536) (n : Fin 256), y = (ix2 r n : Cert.PromptIdeal.S65536x256.Idx) := ⟨y 0, y 1, by funext d; fin_cases d <;> rfl⟩
    exact (Cert.PromptRefIdeal.k_at m' c r n).trans (Cert.PromptIdeal.Mix.prj_of m c _ _ _ _ (fun k => hh r k) fun k => hw k _)
  · obtain ⟨r, n, rfl⟩ : ∃ (r : Fin 65536) (n : Fin 256), y = (ix2 r n : Cert.PromptIdeal.S65536x256.Idx) := ⟨y 0, y 1, by funext d; fin_cases d <;> rfl⟩
    exact (Cert.PromptRefIdeal.v_at m' c r n).trans (Cert.PromptIdeal.Mix.prj_of m c _ _ _ _ (fun k => hh r k) fun k => hw k _)
  · obtain ⟨r, n, rfl⟩ : ∃ (r : Fin 65536) (n : Fin 64), y = (ix2 r n : Cert.PromptIdeal.S65536x64.Idx) := ⟨y 0, y 1, by funext d; fin_cases d <;> rfl⟩
    exact (Cert.PromptRefIdeal.ki_at m' c r n).trans (Cert.PromptIdeal.Mix.prj_of m c _ _ _ _ (fun k => hh r k) fun k => hw k _)

/-- The reference of the prompt's first half-step and new rows runs to an end in every store, leaves its arguments as they were, and leaves
    every semaphore counter at zero. -/
theorem frame_promptRef : (hR : Cert.PromptRefIdeal.Facts) → Cert.quiescent_PromptRefIdeal (hPromptRefIdeal := hR) := fun _ m ρ _ =>
  (θ_run Cert.PromptRefIdeal.defs _ _).mono (fun r h => ⟨fun c => (h c).2.2.2.2, sem_eq_zero_of_no_sems (by decide) r.2⟩)
    (Cert.PromptRefIdeal.Value.run (F := Ideal) m ρ)

end Cert.Dense
-- ==== Proof.lean ====
module

public import proofs.«01_k».proof.Defs
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.RowsFrame
public import proofs.«01_k».proof.Proof.FfnValue
public import proofs.«01_k».proof.Proof.MergeValue
public import proofs.«01_k».proof.Proof.MixRefFrame
public import proofs.«01_k».proof.Proof.MixValue
public import proofs.«01_k».proof.Proof.SampleRefFrame
public import proofs.«01_k».proof.Proof.SampleValue
public import proofs.«01_k».proof.Proof.MergeSampleValue
public import proofs.«01_k».proof.Proof.PromptValue
public import proofs.«01_k».proof.Proof.Gen.Rows
public import proofs.«01_k».proof.Proof.Gen.Rows.Skeleton
public import proofs.«01_k».proof.Proof.Gen.Rows.Loops
public import proofs.«01_k».proof.Proof.Gen.Rows.Launch
public import proofs.«01_k».proof.Proof.Gen.Rows.Points
public import proofs.«01_k».proof.Proof.Gen.Rows.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.SampleRefIdeal.Run
public import proofs.«01_k».proof.Proof.Gen.SampleRefIdeal.Read
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.MergeSampleIdeal.Value
public import proofs.«01_k».proof.Proof.Gen.MergeSampleRefIdeal.Run
public import proofs.«01_k».proof.Proof.Gen.MergeSampleRefIdeal.Read
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleRefIdeal
public import proofs.«01_k».proof.Proof.Gen.PromptRefIdeal.Run
public import proofs.«01_k».proof.Proof.Gen.PromptRefIdeal.Read
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptRefIdeal
public import Idealize.ShloMosaic.Adequacy
public import Idealize.ShloMosaic.Init

@[expose] public section

noncomputable section

namespace Cert.Proof

open Idealize.ShloMosaic Idealize.SL.Sem Cert.Rows

theorem claim : Cert.Claim := ⟨Cert.Rows.Gen.facts, Cert.Ffn.Gen.facts, Cert.FfnIdeal.Gen.facts, Cert.FfnRefIdeal.Gen.facts, Cert.Mix.Gen.facts, Cert.MixIdeal.Gen.facts, Cert.MixRefIdeal.Gen.facts, Cert.Sample.Gen.facts, Cert.SampleIdeal.Gen.facts, Cert.SampleRefIdeal.Gen.facts, Cert.Merge.Gen.facts, Cert.MergeIdeal.Gen.facts, Cert.MergeRefIdeal.Gen.facts, Cert.MergeSample.Gen.facts, Cert.MergeSampleIdeal.Gen.facts, Cert.MergeSampleRefIdeal.Gen.facts, Cert.Prompt.Gen.facts, Cert.PromptIdeal.Gen.facts, Cert.PromptRefIdeal.Gen.facts,
  fun m ρ _ => Cert.Rows.frame_holds m ρ,
  fun m ρ _ => Cert.Ffn.Gen.frame m ρ,
  fun m ρ _ => Cert.FfnIdeal.Gen.frame m ρ,
  Cert.Dense.frame_ffnRef _,
  fun m ρ _ => Cert.Mix.Gen.frame m ρ,
  fun m ρ _ => Cert.MixIdeal.Gen.frame m ρ,
  Cert.Dense.frame_mixRef _,
  fun m ρ _ => Cert.Sample.Gen.frame m ρ,
  fun m ρ _ => Cert.SampleIdeal.Gen.frame m ρ,
  Cert.Dense.frame_sampleRef _,
  fun m ρ _ => Cert.Merge.Gen.frame m ρ,
  fun m ρ _ => Cert.MergeIdeal.Gen.frame m ρ,
  Cert.Dense.frame_mergeRef _,
  fun m ρ _ => Cert.MergeSample.Gen.frame m ρ,
  fun m ρ _ => Cert.MergeSampleIdeal.Gen.frame m ρ,
  Cert.Dense.frame_mergeSampleRef _,
  fun m ρ _ => Cert.Prompt.Gen.frame m ρ,
  fun m ρ _ => Cert.PromptIdeal.Gen.frame m ρ,
  Cert.Dense.frame_promptRef _,
  trivial,
  Cert.Dense.algebraic_ffn _ _,
  trivial,
  Cert.Dense.algebraic_mix _ _,
  trivial,
  Cert.Dense.algebraic_sample _ _,
  trivial,
  Cert.Dense.algebraic_merge _ _,
  trivial,
  Cert.Dense.algebraic_mergeSample _ _,
  trivial,
  Cert.Dense.algebraic_prompt _ _⟩

end Cert.Proof

end
